-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_positive [hPre_steps_positive : Cert.Pre_steps_positive.Facts] (m : (ℓ : Loc Cert.KernelIdeal.nD Cert.KernelIdeal.τ Cert.KernelIdeal.sig) → Buf (Elt Ideal) ℓ) : Prop :=
  ∀ c : Dev Cert.KernelIdeal.nD,
    (Cert.Pre_steps_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_positive [hPre_steps_positive : Cert.Pre_steps_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_steps_positive [hKernelIdeal : Cert.KernelIdeal.Facts] [hPre_steps_positive : Cert.Pre_steps_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_steps_positive [hReferenceIdeal : Cert.ReferenceIdeal.Facts] [hPre_steps_positive : Cert.Pre_steps_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x39124925#32 ((1 / 7168 : ℝ) : EReal)
  ∧ IdealRules.named_const.Statement Cert.KernelIdeal.κ "inv_sd" .f32 0x35124925#32 ((1 / 1835008 : ℝ) : EReal)

def algebraic_KernelIdeal_ReferenceIdeal_pre_steps_positive [hKernelIdeal : Cert.KernelIdeal.Facts] [hReferenceIdeal : Cert.ReferenceIdeal.Facts] [hPre_steps_positive : Cert.Pre_steps_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_steps_positive : Cert.Pre_steps_positive.Facts),
    quiescent_Kernel (hKernel := hKernel)
    ∧ quiescent_KernelIdeal (hKernelIdeal := hKernelIdeal)
    ∧ quiescent_KernelIdeal_pre_steps_positive (hKernelIdeal := hKernelIdeal) (hPre_steps_positive := hPre_steps_positive)
    ∧ quiescent_ReferenceIdeal (hReferenceIdeal := hReferenceIdeal)
    ∧ quiescent_ReferenceIdeal_pre_steps_positive (hReferenceIdeal := hReferenceIdeal) (hPre_steps_positive := hPre_steps_positive)
    ∧ preserves_Kernel_KernelIdeal
    ∧ algebraic_KernelIdeal_ReferenceIdeal_pre_steps_positive (hKernelIdeal := hKernelIdeal) (hReferenceIdeal := hReferenceIdeal) (hPre_steps_positive := hPre_steps_positive)
-- ==== Pre_steps_positive.lean ====
abbrev S12x256x7168 : Shape := ⟨3, ![12, 256, 7168]⟩
abbrev S12x256 : Shape := ⟨2, ![12, 256]⟩
abbrev S12x7168 : Shape := ⟨2, ![12, 7168]⟩
abbrev S12x256x56 : Shape := ⟨3, ![12, 256, 56]⟩
abbrev S12 : Shape := ⟨1, ![12]⟩
abbrev S_ : Shape := ⟨0, ![]⟩

class Facts : Prop where
  bcast_S_S12 : S_.BroadcastsInDim S12 (![] : Fin 0 → Fin S12.rank)

variable [Facts]

def fn {F : FTy → Type} [FloatOps F] (main_arg0 : FVec F S12x256x7168 .bf16) (main_arg1 : FVec F S12x256x7168 .bf16) (main_arg2 : FVec F S12x256 .f32) (main_arg3 : FVec F S12x7168 .f32) (main_arg4 : FVec F S12x256x7168 .fp8e4m3) (main_arg5 : FVec F S12x256x56 .f32) (main_arg6 : IVec S12 32) : IVec S12 1 :=
  let main_c : IVec S_ 32 := constantI S_ 32 1#32
  let main_v0 : IVec S12 32 := broadcastInDim S12 ![] bcast_S_S12 main_c
  let main_v1 : IVec S12 1 := cmpi .sge main_arg6 main_v0
  main_v1
-- ==== Kernel.lean ====
abbrev S12x256x7168 : Shape := ⟨3, ![12, 256, 7168]⟩
abbrev S12x256 : Shape := ⟨2, ![12, 256]⟩
abbrev S12x7168 : Shape := ⟨2, ![12, 7168]⟩
abbrev S12x256x56 : Shape := ⟨3, ![12, 256, 56]⟩
abbrev S12 : Shape := ⟨1, ![12]⟩
abbrev S1x256x7168 : Shape := ⟨3, ![1, 256, 7168]⟩
abbrev S1x256x56 : Shape := ⟨3, ![1, 256, 56]⟩
abbrev S256x128 : Shape := ⟨2, ![256, 128]⟩
abbrev S8x7168 : Shape := ⟨2, ![8, 7168]⟩
abbrev S12x8x7168 : Shape := ⟨3, ![12, 8, 7168]⟩
abbrev S256x7168 : Shape := ⟨2, ![256, 7168]⟩
abbrev S16x128 : Shape := ⟨2, ![16, 128]⟩
abbrev S8x128 : Shape := ⟨2, ![8, 128]⟩
abbrev S1 : Shape := ⟨1, ![1]⟩
abbrev S1x128 : Shape := ⟨2, ![1, 128]⟩
abbrev S116x256 : Shape := ⟨2, ![116, 256]⟩
abbrev S128x256 : Shape := ⟨2, ![128, 256]⟩
abbrev S1x7168 : Shape := ⟨2, ![1, 7168]⟩
abbrev S1x8x7168 : Shape := ⟨3, ![1, 8, 7168]⟩
abbrev S1x16x128 : Shape := ⟨3, ![1, 16, 128]⟩
abbrev S16 : Shape := ⟨1, ![16]⟩
abbrev S16x1 : Shape := ⟨2, ![16, 1]⟩
abbrev S128 : Shape := ⟨1, ![128]⟩
abbrev S1x8x128 : Shape := ⟨3, ![1, 8, 128]⟩
abbrev S1x1x7168 : Shape := ⟨3, ![1, 1, 7168]⟩
abbrev S8 : Shape := ⟨1, ![8]⟩
abbrev S8x1 : Shape := ⟨2, ![8, 1]⟩
abbrev S1x1 : Shape := ⟨2, ![1, 1]⟩
abbrev S32x128 : Shape := ⟨2, ![32, 128]⟩
abbrev S1x32x56 : Shape := ⟨3, ![1, 32, 56]⟩
abbrev S32x56 : Shape := ⟨2, ![32, 56]⟩
abbrev S1x32x128 : Shape := ⟨3, ![1, 32, 128]⟩
abbrev S32x1 : Shape := ⟨2, ![32, 1]⟩
abbrev S32 : Shape := ⟨1, ![32]⟩

abbrev nBuf : Space → Nat
  | .hbm => 12
  | .vmem => 29
  | .smem => 1
  | _ => 0

abbrev bufTy : (tb : Table) → Fin (tcTables nBuf tb) → BufTy
  | .hbm, ⟨0, _⟩ => ⟨S12x256x7168, .bf16⟩
  | .hbm, ⟨1, _⟩ => ⟨S12x256x7168, .bf16⟩
  | .hbm, ⟨2, _⟩ => ⟨S12x256, .f32⟩
  | .hbm, ⟨3, _⟩ => ⟨S12x7168, .f32⟩
  | .hbm, ⟨4, _⟩ => ⟨S12x256x7168, .fp8e4m3⟩
  | .hbm, ⟨5, _⟩ => ⟨S12x256x56, .f32⟩
  | .hbm, ⟨6, _⟩ => ⟨S12x256x7168, .bf16⟩
  | .hbm, ⟨7, _⟩ => ⟨S12x256x7168, .bf16⟩
  | .hbm, ⟨8, _⟩ => ⟨S12x256, .f32⟩
  | .hbm, ⟨9, _⟩ => ⟨S12x7168, .f32⟩
  | .hbm, ⟨10, _⟩ => ⟨S12x256x7168, .fp8e4m3⟩
  | .hbm, ⟨11, _⟩ => ⟨S12x256x56, .f32⟩
  | .local _ .vmem, ⟨0, _⟩ => ⟨S1x256x7168, .bf16⟩
  | .local _ .vmem, ⟨1, _⟩ => ⟨S1x256x7168, .bf16⟩
  | .local _ .vmem, ⟨2, _⟩ => ⟨S1x256x7168, .bf16⟩
  | .local _ .vmem, ⟨3, _⟩ => ⟨S1x256x7168, .bf16⟩
  | .local _ .vmem, ⟨4, _⟩ => ⟨S12x256, .f32⟩
  | .local _ .vmem, ⟨5, _⟩ => ⟨S12x7168, .f32⟩
  | .local _ .vmem, ⟨6, _⟩ => ⟨S1x256x7168, .fp8e4m3⟩
  | .local _ .vmem, ⟨7, _⟩ => ⟨S1x256x7168, .fp8e4m3⟩
  | .local _ .vmem, ⟨8, _⟩ => ⟨S1x256x56, .f32⟩
  | .local _ .vmem, ⟨9, _⟩ => ⟨S1x256x56, .f32⟩
  | .local _ .vmem, ⟨10, _⟩ => ⟨S1x256x7168, .bf16⟩
  | .local _ .vmem, ⟨11, _⟩ => ⟨S1x256x7168, .bf16⟩
  | .local _ .vmem, ⟨12, _⟩ => ⟨S1x256x7168, .bf16⟩
  | .local _ .vmem, ⟨13, _⟩ => ⟨S1x256x7168, .bf16⟩
  | .local _ .vmem, ⟨14, _⟩ => ⟨S12x256, .f32⟩
  | .local _ .vmem, ⟨15, _⟩ => ⟨S12x7168, .f32⟩
  | .local _ .vmem, ⟨16, _⟩ => ⟨S1x256x7168, .fp8e4m3⟩
  | .local _ .vmem, ⟨17, _⟩ => ⟨S1x256x7168, .fp8e4m3⟩
  | .local _ .vmem, ⟨18, _⟩ => ⟨S1x256x56, .f32⟩
  | .local _ .vmem, ⟨19, _⟩ => ⟨S1x256x56, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S8x7168, .f32⟩
  | .local _ .vmem, ⟨25, _⟩ => ⟨S12x8x7168, .f32⟩
  | .local _ .vmem, ⟨26, _⟩ => ⟨S256x7168, .f32⟩
  | .local _ .vmem, ⟨27, _⟩ => ⟨S16x128, .f32⟩
  | .local _ .vmem, ⟨28, _⟩ => ⟨S16x128, .f32⟩
  | .local _ .smem, ⟨0, _⟩ => ⟨S12, .i32⟩
  | _, _ => ⟨S12x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
@[reducible] def k0_t1_loop : Scf.Loop 32 :=
  let c0_i32_6 : BitVec 32 := 0#32
  let c16_i32 : BitVec 32 := 16#32
  let v23 : BitVec 32 := Scalar.addi c0_i32_6 c16_i32
  let c1_i32 : BitVec 32 := 1#32
  ⟨c0_i32_6, v23, c1_i32⟩
def k0_mult1 (k0_t1 : Fin k0_t1_loop.trips) : BitVec 32 :=
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  v1159
def k0_off2 (k0_t1 : Fin k0_t1_loop.trips) : Fin 3 → Nat :=
  let c0_556 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1161 : Index := Scalar.indexCast v1160
  let c0_557 : Index := 0#32
  ![0, v1161.toNat, 0]
def k0_off3 (k0_t1 : Fin k0_t1_loop.trips) : Fin 3 → Nat :=
  let c0_558 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1166 : Index := Scalar.indexCast v1160
  let c128_559 : Index := 128#32
  ![0, v1166.toNat, 128]
def k0_off4 (k0_t1 : Fin k0_t1_loop.trips) : Fin 3 → Nat :=
  let c0_560 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1172 : Index := Scalar.indexCast v1160
  let c256 : Index := 256#32
  ![0, v1172.toNat, 256]
def k0_off5 (k0_t1 : Fin k0_t1_loop.trips) : Fin 3 → Nat :=
  let c0_561 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1178 : Index := Scalar.indexCast v1160
  let c384 : Index := 384#32
  ![0, v1178.toNat, 384]
def k0_off6 (k0_t1 : Fin k0_t1_loop.trips) : Fin 3 → Nat :=
  let c0_562 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1184 : Index := Scalar.indexCast v1160
  let c512 : Index := 512#32
  ![0, v1184.toNat, 512]
def k0_off7 (k0_t1 : Fin k0_t1_loop.trips) : Fin 3 → Nat :=
  let c0_563 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1190 : Index := Scalar.indexCast v1160
  let c640 : Index := 640#32
  ![0, v1190.toNat, 640]
def k0_off8 (k0_t1 : Fin k0_t1_loop.trips) : Fin 3 → Nat :=
  let c0_564 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1196 : Index := Scalar.indexCast v1160
  let c768 : Index := 768#32
  ![0, v1196.toNat, 768]
def k0_off9 (k0_t1 : Fin k0_t1_loop.trips) : Fin 3 → Nat :=
  let c0_565 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1202 : Index := Scalar.indexCast v1160
  let c896 : Index := 896#32
  ![0, v1202.toNat, 896]
def k0_off10 (k0_t1 : Fin k0_t1_loop.trips) : Fin 3 → Nat :=
  let c0_566 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1208 : Index := Scalar.indexCast v1160
  let c1024 : Index := 1024#32
  ![0, v1208.toNat, 1024]
def k0_off11 (k0_t1 : Fin k0_t1_loop.trips) : Fin 3 → Nat :=
  let c0_567 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1214 : Index := Scalar.indexCast v1160
  let c1152 : Index := 1152#32
  ![0, v1214.toNat, 1152]
def k0_off12 (k0_t1 : Fin k0_t1_loop.trips) : Fin 3 → Nat :=
  let c0_568 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1220 : Index := Scalar.indexCast v1160
  let c1280 : Index := 1280#32
  ![0, v1220.toNat, 1280]
def k0_off13 (k0_t1 : Fin k0_t1_loop.trips) : Fin 3 → Nat :=
  let c0_569 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1226 : Index := Scalar.indexCast v1160
  let c1408 : Index := 1408#32
  ![0, v1226.toNat, 1408]
def k0_off14 (k0_t1 : Fin k0_t1_loop.trips) : Fin 3 → Nat :=
  let c0_570 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1232 : Index := Scalar.indexCast v1160
  let c1536 : Index := 1536#32
  ![0, v1232.toNat, 1536]
def k0_off15 (k0_t1 : Fin k0_t1_loop.trips) : Fin 3 → Nat :=
  let c0_571 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1238 : Index := Scalar.indexCast v1160
  let c1664 : Index := 1664#32
  ![0, v1238.toNat, 1664]
def k0_off16 (k0_t1 : Fin k0_t1_loop.trips) : Fin 3 → Nat :=
  let c0_572 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1244 : Index := Scalar.indexCast v1160
  let c1792 : Index := 1792#32
  ![0, v1244.toNat, 1792]
def k0_off17 (k0_t1 : Fin k0_t1_loop.trips) : Fin 3 → Nat :=
  let c0_573 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1250 : Index := Scalar.indexCast v1160
  let c1920 : Index := 1920#32
  ![0, v1250.toNat, 1920]
def k0_off18 (k0_t1 : Fin k0_t1_loop.trips) : Fin 3 → Nat :=
  let c0_574 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1256 : Index := Scalar.indexCast v1160
  let c2048 : Index := 2048#32
  ![0, v1256.toNat, 2048]
def k0_off19 (k0_t1 : Fin k0_t1_loop.trips) : Fin 3 → Nat :=
  let c0_575 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1262 : Index := Scalar.indexCast v1160
  let c2176 : Index := 2176#32
  ![0, v1262.toNat, 2176]
def k0_off20 (k0_t1 : Fin k0_t1_loop.trips) : Fin 3 → Nat :=
  let c0_576 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1268 : Index := Scalar.indexCast v1160
  let c2304 : Index := 2304#32
  ![0, v1268.toNat, 2304]
def k0_off21 (k0_t1 : Fin k0_t1_loop.trips) : Fin 3 → Nat :=
  let c0_577 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1274 : Index := Scalar.indexCast v1160
  let c2432 : Index := 2432#32
  ![0, v1274.toNat, 2432]
def k0_off22 (k0_t1 : Fin k0_t1_loop.trips) : Fin 3 → Nat :=
  let c0_578 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1280 : Index := Scalar.indexCast v1160
  let c2560 : Index := 2560#32
  ![0, v1280.toNat, 2560]
def k0_off23 (k0_t1 : Fin k0_t1_loop.trips) : Fin 3 → Nat :=
  let c0_579 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1286 : Index := Scalar.indexCast v1160
  let c2688 : Index := 2688#32
  ![0, v1286.toNat, 2688]
def k0_off24 (k0_t1 : Fin k0_t1_loop.trips) : Fin 3 → Nat :=
  let c0_580 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1292 : Index := Scalar.indexCast v1160
  let c2816 : Index := 2816#32
  ![0, v1292.toNat, 2816]
def k0_off25 (k0_t1 : Fin k0_t1_loop.trips) : Fin 3 → Nat :=
  let c0_581 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1298 : Index := Scalar.indexCast v1160
  let c2944 : Index := 2944#32
  ![0, v1298.toNat, 2944]
def k0_off26 (k0_t1 : Fin k0_t1_loop.trips) : Fin 3 → Nat :=
  let c0_582 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1304 : Index := Scalar.indexCast v1160
  let c3072 : Index := 3072#32
  ![0, v1304.toNat, 3072]
def k0_off27 (k0_t1 : Fin k0_t1_loop.trips) : Fin 3 → Nat :=
  let c0_583 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1310 : Index := Scalar.indexCast v1160
  let c3200 : Index := 3200#32
  ![0, v1310.toNat, 3200]
def k0_off28 (k0_t1 : Fin k0_t1_loop.trips) : Fin 3 → Nat :=
  let c0_584 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1316 : Index := Scalar.indexCast v1160
  let c3328 : Index := 3328#32
  ![0, v1316.toNat, 3328]
def k0_off29 (k0_t1 : Fin k0_t1_loop.trips) : Fin 3 → Nat :=
  let c0_585 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1322 : Index := Scalar.indexCast v1160
  let c3456 : Index := 3456#32
  ![0, v1322.toNat, 3456]
def k0_off30 (k0_t1 : Fin k0_t1_loop.trips) : Fin 3 → Nat :=
  let c0_586 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1328 : Index := Scalar.indexCast v1160
  let c3584 : Index := 3584#32
  ![0, v1328.toNat, 3584]
def k0_off31 (k0_t1 : Fin k0_t1_loop.trips) : Fin 3 → Nat :=
  let c0_587 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1334 : Index := Scalar.indexCast v1160
  let c3712 : Index := 3712#32
  ![0, v1334.toNat, 3712]
def k0_off32 (k0_t1 : Fin k0_t1_loop.trips) : Fin 3 → Nat :=
  let c0_588 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1340 : Index := Scalar.indexCast v1160
  let c3840 : Index := 3840#32
  ![0, v1340.toNat, 3840]
def k0_off33 (k0_t1 : Fin k0_t1_loop.trips) : Fin 3 → Nat :=
  let c0_589 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1346 : Index := Scalar.indexCast v1160
  let c3968 : Index := 3968#32
  ![0, v1346.toNat, 3968]
def k0_off34 (k0_t1 : Fin k0_t1_loop.trips) : Fin 3 → Nat :=
  let c0_590 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1352 : Index := Scalar.indexCast v1160
  let c4096 : Index := 4096#32
  ![0, v1352.toNat, 4096]
def k0_off35 (k0_t1 : Fin k0_t1_loop.trips) : Fin 3 → Nat :=
  let c0_591 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1358 : Index := Scalar.indexCast v1160
  let c4224 : Index := 4224#32
  ![0, v1358.toNat, 4224]
def k0_off36 (k0_t1 : Fin k0_t1_loop.trips) : Fin 3 → Nat :=
  let c0_592 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1364 : Index := Scalar.indexCast v1160
  let c4352 : Index := 4352#32
  ![0, v1364.toNat, 4352]
def k0_off37 (k0_t1 : Fin k0_t1_loop.trips) : Fin 3 → Nat :=
  let c0_593 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1370 : Index := Scalar.indexCast v1160
  let c4480 : Index := 4480#32
  ![0, v1370.toNat, 4480]
def k0_off38 (k0_t1 : Fin k0_t1_loop.trips) : Fin 3 → Nat :=
  let c0_594 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1376 : Index := Scalar.indexCast v1160
  let c4608 : Index := 4608#32
  ![0, v1376.toNat, 4608]
def k0_off39 (k0_t1 : Fin k0_t1_loop.trips) : Fin 3 → Nat :=
  let c0_595 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1382 : Index := Scalar.indexCast v1160
  let c4736 : Index := 4736#32
  ![0, v1382.toNat, 4736]
def k0_off40 (k0_t1 : Fin k0_t1_loop.trips) : Fin 3 → Nat :=
  let c0_596 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1388 : Index := Scalar.indexCast v1160
  let c4864 : Index := 4864#32
  ![0, v1388.toNat, 4864]
def k0_off41 (k0_t1 : Fin k0_t1_loop.trips) : Fin 3 → Nat :=
  let c0_597 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1394 : Index := Scalar.indexCast v1160
  let c4992 : Index := 4992#32
  ![0, v1394.toNat, 4992]
def k0_off42 (k0_t1 : Fin k0_t1_loop.trips) : Fin 3 → Nat :=
  let c0_598 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1400 : Index := Scalar.indexCast v1160
  let c5120 : Index := 5120#32
  ![0, v1400.toNat, 5120]
def k0_off43 (k0_t1 : Fin k0_t1_loop.trips) : Fin 3 → Nat :=
  let c0_599 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1406 : Index := Scalar.indexCast v1160
  let c5248 : Index := 5248#32
  ![0, v1406.toNat, 5248]
def k0_off44 (k0_t1 : Fin k0_t1_loop.trips) : Fin 3 → Nat :=
  let c0_600 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1412 : Index := Scalar.indexCast v1160
  let c5376 : Index := 5376#32
  ![0, v1412.toNat, 5376]
def k0_off45 (k0_t1 : Fin k0_t1_loop.trips) : Fin 3 → Nat :=
  let c0_601 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1418 : Index := Scalar.indexCast v1160
  let c5504 : Index := 5504#32
  ![0, v1418.toNat, 5504]
def k0_off46 (k0_t1 : Fin k0_t1_loop.trips) : Fin 3 → Nat :=
  let c0_602 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1424 : Index := Scalar.indexCast v1160
  let c5632 : Index := 5632#32
  ![0, v1424.toNat, 5632]
def k0_off47 (k0_t1 : Fin k0_t1_loop.trips) : Fin 3 → Nat :=
  let c0_603 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1430 : Index := Scalar.indexCast v1160
  let c5760 : Index := 5760#32
  ![0, v1430.toNat, 5760]
def k0_off48 (k0_t1 : Fin k0_t1_loop.trips) : Fin 3 → Nat :=
  let c0_604 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1436 : Index := Scalar.indexCast v1160
  let c5888 : Index := 5888#32
  ![0, v1436.toNat, 5888]
def k0_off49 (k0_t1 : Fin k0_t1_loop.trips) : Fin 3 → Nat :=
  let c0_605 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1442 : Index := Scalar.indexCast v1160
  let c6016 : Index := 6016#32
  ![0, v1442.toNat, 6016]
def k0_off50 (k0_t1 : Fin k0_t1_loop.trips) : Fin 3 → Nat :=
  let c0_606 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1448 : Index := Scalar.indexCast v1160
  let c6144 : Index := 6144#32
  ![0, v1448.toNat, 6144]
def k0_off51 (k0_t1 : Fin k0_t1_loop.trips) : Fin 3 → Nat :=
  let c0_607 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1454 : Index := Scalar.indexCast v1160
  let c6272 : Index := 6272#32
  ![0, v1454.toNat, 6272]
def k0_off52 (k0_t1 : Fin k0_t1_loop.trips) : Fin 3 → Nat :=
  let c0_608 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1460 : Index := Scalar.indexCast v1160
  let c6400 : Index := 6400#32
  ![0, v1460.toNat, 6400]
def k0_off53 (k0_t1 : Fin k0_t1_loop.trips) : Fin 3 → Nat :=
  let c0_609 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1466 : Index := Scalar.indexCast v1160
  let c6528 : Index := 6528#32
  ![0, v1466.toNat, 6528]
def k0_off54 (k0_t1 : Fin k0_t1_loop.trips) : Fin 3 → Nat :=
  let c0_610 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1472 : Index := Scalar.indexCast v1160
  let c6656 : Index := 6656#32
  ![0, v1472.toNat, 6656]
def k0_off55 (k0_t1 : Fin k0_t1_loop.trips) : Fin 3 → Nat :=
  let c0_611 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1478 : Index := Scalar.indexCast v1160
  let c6784 : Index := 6784#32
  ![0, v1478.toNat, 6784]
def k0_off56 (k0_t1 : Fin k0_t1_loop.trips) : Fin 3 → Nat :=
  let c0_612 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1484 : Index := Scalar.indexCast v1160
  let c6912 : Index := 6912#32
  ![0, v1484.toNat, 6912]
def k0_off57 (k0_t1 : Fin k0_t1_loop.trips) : Fin 3 → Nat :=
  let c0_613 : Index := 0#32
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1490 : Index := Scalar.indexCast v1160
  let c7040 : Index := 7040#32
  ![0, v1490.toNat, 7040]
def k0_off58 (k0_t1 : Fin k0_t1_loop.trips) : Fin 2 → Nat :=
  let c0_i32_6 : BitVec 32 := 0#32
  let c1_i32 : BitVec 32 := 1#32
  let arg23 : BitVec 32 := Scf.iv c0_i32_6 c1_i32 k0_t1
  let c16_i32_555 : BitVec 32 := 16#32
  let v1159 : BitVec 32 := Scalar.muli arg23 c16_i32_555
  let v1160 : BitVec 32 := v1159
  let v1500 : Index := Scalar.indexCast v1160
  let c0_615 : Index := 0#32
  ![v1500.toNat, 0]
@[reducible] def k0_t2_loop : Scf.Loop 32 :=
  let c0_i32_8 : BitVec 32 := 0#32
  let c7_i32 : BitVec 32 := 7#32
  let v24 : BitVec 32 := Scalar.addi c0_i32_8 c7_i32
  let c1_i32_9 : BitVec 32 := 1#32
  ⟨c0_i32_8, v24, c1_i32_9⟩
def k0_mult2 (k0_t2 : Fin k0_t2_loop.trips) : BitVec 32 :=
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let c0_i32_555 : BitVec 32 := 0#32
  let v1160 : BitVec 32 := Scalar.addi v1159 c0_i32_555
  v1160
def k0_off59 (k0_t2 : Fin k0_t2_loop.trips) (c0_i32_555 : BitVec 32) : Fin 3 → Nat :=
  let c0_556 : Index := 0#32
  let c0_557 : Index := 0#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1162 : Index := Scalar.indexCast v1161
  ![0, 0, v1162.toNat]
def k0_off60 (k0_t2 : Fin k0_t2_loop.trips) (c0_i32_555 : BitVec 32) : Fin 3 → Nat :=
  let c0_558 : Index := 0#32
  let c16_559 : Index := 16#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1167 : Index := Scalar.indexCast v1161
  ![0, 16, v1167.toNat]
def k0_off61 (k0_t2 : Fin k0_t2_loop.trips) (c0_i32_555 : BitVec 32) : Fin 3 → Nat :=
  let c0_560 : Index := 0#32
  let c32_561 : Index := 32#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1173 : Index := Scalar.indexCast v1161
  ![0, 32, v1173.toNat]
def k0_off62 (k0_t2 : Fin k0_t2_loop.trips) (c0_i32_555 : BitVec 32) : Fin 3 → Nat :=
  let c0_562 : Index := 0#32
  let c48_563 : Index := 48#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1179 : Index := Scalar.indexCast v1161
  ![0, 48, v1179.toNat]
def k0_off63 (k0_t2 : Fin k0_t2_loop.trips) (c0_i32_555 : BitVec 32) : Fin 3 → Nat :=
  let c0_564 : Index := 0#32
  let c64_565 : Index := 64#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1185 : Index := Scalar.indexCast v1161
  ![0, 64, v1185.toNat]
def k0_off64 (k0_t2 : Fin k0_t2_loop.trips) (c0_i32_555 : BitVec 32) : Fin 3 → Nat :=
  let c0_566 : Index := 0#32
  let c80_567 : Index := 80#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1191 : Index := Scalar.indexCast v1161
  ![0, 80, v1191.toNat]
def k0_off65 (k0_t2 : Fin k0_t2_loop.trips) (c0_i32_555 : BitVec 32) : Fin 3 → Nat :=
  let c0_568 : Index := 0#32
  let c96_569 : Index := 96#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1197 : Index := Scalar.indexCast v1161
  ![0, 96, v1197.toNat]
def k0_off66 (k0_t2 : Fin k0_t2_loop.trips) (c0_i32_555 : BitVec 32) : Fin 3 → Nat :=
  let c0_570 : Index := 0#32
  let c112_571 : Index := 112#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1203 : Index := Scalar.indexCast v1161
  ![0, 112, v1203.toNat]
def k0_off67 (k0_t2 : Fin k0_t2_loop.trips) (c0_i32_555 : BitVec 32) : Fin 3 → Nat :=
  let c0_572 : Index := 0#32
  let c128_573 : Index := 128#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1209 : Index := Scalar.indexCast v1161
  ![0, 128, v1209.toNat]
def k0_off68 (k0_t2 : Fin k0_t2_loop.trips) (c0_i32_555 : BitVec 32) : Fin 3 → Nat :=
  let c0_574 : Index := 0#32
  let c144_575 : Index := 144#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1215 : Index := Scalar.indexCast v1161
  ![0, 144, v1215.toNat]
def k0_off69 (k0_t2 : Fin k0_t2_loop.trips) (c0_i32_555 : BitVec 32) : Fin 3 → Nat :=
  let c0_576 : Index := 0#32
  let c160_577 : Index := 160#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1221 : Index := Scalar.indexCast v1161
  ![0, 160, v1221.toNat]
def k0_off70 (k0_t2 : Fin k0_t2_loop.trips) (c0_i32_555 : BitVec 32) : Fin 3 → Nat :=
  let c0_578 : Index := 0#32
  let c176_579 : Index := 176#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1227 : Index := Scalar.indexCast v1161
  ![0, 176, v1227.toNat]
def k0_off71 (k0_t2 : Fin k0_t2_loop.trips) (c0_i32_555 : BitVec 32) : Fin 3 → Nat :=
  let c0_580 : Index := 0#32
  let c192_581 : Index := 192#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1233 : Index := Scalar.indexCast v1161
  ![0, 192, v1233.toNat]
def k0_off72 (k0_t2 : Fin k0_t2_loop.trips) (c0_i32_555 : BitVec 32) : Fin 3 → Nat :=
  let c0_582 : Index := 0#32
  let c208_583 : Index := 208#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1239 : Index := Scalar.indexCast v1161
  ![0, 208, v1239.toNat]
def k0_off73 (k0_t2 : Fin k0_t2_loop.trips) (c0_i32_555 : BitVec 32) : Fin 3 → Nat :=
  let c0_584 : Index := 0#32
  let c224_585 : Index := 224#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1245 : Index := Scalar.indexCast v1161
  ![0, 224, v1245.toNat]
def k0_off74 (k0_t2 : Fin k0_t2_loop.trips) (c0_i32_555 : BitVec 32) : Fin 3 → Nat :=
  let c0_586 : Index := 0#32
  let c240_587 : Index := 240#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1251 : Index := Scalar.indexCast v1161
  ![0, 240, v1251.toNat]
def k0_off75 (i : grid0.Coords) (k0_t2 : Fin k0_t2_loop.trips) (c0_i32_555 : BitVec 32) : Fin 3 → Nat :=
  let arg0 : BitVec 32 := BitVec.ofNat 32 (i 0).val
  let v1259 : Index := Scalar.indexCast arg0
  let c0_589 : Index := 0#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1260 : Index := Scalar.indexCast v1161
  ![v1259.toNat, 0, v1260.toNat]
def k0_off76 (k0_t2 : Fin k0_t2_loop.trips) (c0_i32_555 : BitVec 32) : Fin 2 → Nat :=
  let c0_592 : Index := 0#32
  let c0_i32_8 : BitVec 32 := 0#32
  let c1_i32_9 : BitVec 32 := 1#32
  let arg23 : BitVec 32 := Scf.iv c0_i32_8 c1_i32_9 k0_t2
  let c1024_i32 : BitVec 32 := 1024#32
  let v1159 : BitVec 32 := Scalar.muli arg23 c1024_i32
  let v1160 : BitVec 32 := Scalar.addi v1159 c0_i32_555
  let v1161 : BitVec 32 := v1160
  let v1276 : Index := Scalar.indexCast v1161
  ![0, v1276.toNat]
def k0_mult3 (k0_t2 : Fin k0_t2_loop.trips) : BitVec 32 :=
  let c0_i32_8 : BitVec 32 := 0#32
  let c1_i32_9 : BitVec 32 := 1#32
  let arg23 : BitVec 32 := Scf.iv c0_i32_8 c1_i32_9 k0_t2
  let c1024_i32_593 : BitVec 32 := 1024#32
  let v1280 : BitVec 32 := Scalar.muli arg23 c1024_i32_593
  let c128_i32 : BitVec 32 := 128#32
  let v1281 : BitVec 32 := Scalar.addi v1280 c128_i32
  v1281
def k0_mult4 (k0_t2 : Fin k0_t2_loop.trips) : BitVec 32 :=
  let c0_i32_8 : BitVec 32 := 0#32
  let c1_i32_9 : BitVec 32 := 1#32
  let arg23 : BitVec 32 := Scf.iv c0_i32_8 c1_i32_9 k0_t2
  let c1024_i32_631 : BitVec 32 := 1024#32
  let v1401 : BitVec 32 := Scalar.muli arg23 c1024_i32_631
  let c256_i32 : BitVec 32 := 256#32
  let v1402 : BitVec 32 := Scalar.addi v1401 c256_i32
  v1402
def k0_mult5 (k0_t2 : Fin k0_t2_loop.trips) : BitVec 32 :=
  let c0_i32_8 : BitVec 32 := 0#32
  let c1_i32_9 : BitVec 32 := 1#32
  let arg23 : BitVec 32 := Scf.iv c0_i32_8 c1_i32_9 k0_t2
  let c1024_i32_669 : BitVec 32 := 1024#32
  let v1522 : BitVec 32 := Scalar.muli arg23 c1024_i32_669
  let c384_i32 : BitVec 32 := 384#32
  let v1523 : BitVec 32 := Scalar.addi v1522 c384_i32
  v1523
def k0_mult6 (k0_t2 : Fin k0_t2_loop.trips) : BitVec 32 :=
  let c0_i32_8 : BitVec 32 := 0#32
  let c1_i32_9 : BitVec 32 := 1#32
  let arg23 : BitVec 32 := Scf.iv c0_i32_8 c1_i32_9 k0_t2
  let c1024_i32_707 : BitVec 32 := 1024#32
  let v1643 : BitVec 32 := Scalar.muli arg23 c1024_i32_707
  let c512_i32 : BitVec 32 := 512#32
  let v1644 : BitVec 32 := Scalar.addi v1643 c512_i32
  v1644
def k0_mult7 (k0_t2 : Fin k0_t2_loop.trips) : BitVec 32 :=
  let c0_i32_8 : BitVec 32 := 0#32
  let c1_i32_9 : BitVec 32 := 1#32
  let arg23 : BitVec 32 := Scf.iv c0_i32_8 c1_i32_9 k0_t2
  let c1024_i32_745 : BitVec 32 := 1024#32
  let v1764 : BitVec 32 := Scalar.muli arg23 c1024_i32_745
  let c640_i32 : BitVec 32 := 640#32
  let v1765 : BitVec 32 := Scalar.addi v1764 c640_i32
  v1765
def k0_mult8 (k0_t2 : Fin k0_t2_loop.trips) : BitVec 32 :=
  let c0_i32_8 : BitVec 32 := 0#32
  let c1_i32_9 : BitVec 32 := 1#32
  let arg23 : BitVec 32 := Scf.iv c0_i32_8 c1_i32_9 k0_t2
  let c1024_i32_783 : BitVec 32 := 1024#32
  let v1885 : BitVec 32 := Scalar.muli arg23 c1024_i32_783
  let c768_i32 : BitVec 32 := 768#32
  let v1886 : BitVec 32 := Scalar.addi v1885 c768_i32
  v1886
def k0_mult9 (k0_t2 : Fin k0_t2_loop.trips) : BitVec 32 :=
  let c0_i32_8 : BitVec 32 := 0#32
  let c1_i32_9 : BitVec 32 := 1#32
  let arg23 : BitVec 32 := Scf.iv c0_i32_8 c1_i32_9 k0_t2
  let c1024_i32_821 : BitVec 32 := 1024#32
  let v2006 : BitVec 32 := Scalar.muli arg23 c1024_i32_821
  let c896_i32 : BitVec 32 := 896#32
  let v2007 : BitVec 32 := Scalar.addi v2006 c896_i32
  v2007
@[reducible] def k0_t3_loop : Scf.Loop 32 :=
  let c0_i32_533 : BitVec 32 := 0#32
  let c16_i32_534 : BitVec 32 := 16#32
  let v1128 : BitVec 32 := Scalar.addi c0_i32_533 c16_i32_534
  let c1_i32_535 : BitVec 32 := 1#32
  ⟨c0_i32_533, v1128, c1_i32_535⟩
def k0_mult10 (k0_t3 : Fin k0_t3_loop.trips) : BitVec 32 :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  v1159
def k0_off77 (k0_t3 : Fin k0_t3_loop.trips) : Fin 3 → Nat :=
  let c0_559 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1164 : Index := Scalar.indexCast v1160
  let c0_560 : Index := 0#32
  ![0, v1164.toNat, 0]
def k0_off78 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1169 : Index := Scalar.indexCast v1160
  let c0_561 : Index := 0#32
  ![v1169.toNat, 0]
def k0_off79 (k0_t3 : Fin k0_t3_loop.trips) : Fin 3 → Nat :=
  let c0_564 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1177 : Index := Scalar.indexCast v1160
  let c128_565 : Index := 128#32
  ![0, v1177.toNat, 128]
def k0_off80 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1182 : Index := Scalar.indexCast v1160
  let c128_566 : Index := 128#32
  ![v1182.toNat, 128]
def k0_off81 (k0_t3 : Fin k0_t3_loop.trips) : Fin 3 → Nat :=
  let c0_568 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1190 : Index := Scalar.indexCast v1160
  let c256_569 : Index := 256#32
  ![0, v1190.toNat, 256]
def k0_off82 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1195 : Index := Scalar.indexCast v1160
  let c256_570 : Index := 256#32
  ![v1195.toNat, 256]
def k0_off83 (k0_t3 : Fin k0_t3_loop.trips) : Fin 3 → Nat :=
  let c0_572 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1203 : Index := Scalar.indexCast v1160
  let c384_573 : Index := 384#32
  ![0, v1203.toNat, 384]
def k0_off84 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1208 : Index := Scalar.indexCast v1160
  let c384_574 : Index := 384#32
  ![v1208.toNat, 384]
def k0_off85 (k0_t3 : Fin k0_t3_loop.trips) : Fin 3 → Nat :=
  let c0_576 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1216 : Index := Scalar.indexCast v1160
  let c512_577 : Index := 512#32
  ![0, v1216.toNat, 512]
def k0_off86 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1221 : Index := Scalar.indexCast v1160
  let c512_578 : Index := 512#32
  ![v1221.toNat, 512]
def k0_off87 (k0_t3 : Fin k0_t3_loop.trips) : Fin 3 → Nat :=
  let c0_580 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1229 : Index := Scalar.indexCast v1160
  let c640_581 : Index := 640#32
  ![0, v1229.toNat, 640]
def k0_off88 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1234 : Index := Scalar.indexCast v1160
  let c640_582 : Index := 640#32
  ![v1234.toNat, 640]
def k0_off89 (k0_t3 : Fin k0_t3_loop.trips) : Fin 3 → Nat :=
  let c0_584 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1242 : Index := Scalar.indexCast v1160
  let c768_585 : Index := 768#32
  ![0, v1242.toNat, 768]
def k0_off90 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1247 : Index := Scalar.indexCast v1160
  let c768_586 : Index := 768#32
  ![v1247.toNat, 768]
def k0_off91 (k0_t3 : Fin k0_t3_loop.trips) : Fin 3 → Nat :=
  let c0_588 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1255 : Index := Scalar.indexCast v1160
  let c896_589 : Index := 896#32
  ![0, v1255.toNat, 896]
def k0_off92 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1260 : Index := Scalar.indexCast v1160
  let c896_590 : Index := 896#32
  ![v1260.toNat, 896]
def k0_off93 (k0_t3 : Fin k0_t3_loop.trips) : Fin 3 → Nat :=
  let c0_592 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1268 : Index := Scalar.indexCast v1160
  let c1024_593 : Index := 1024#32
  ![0, v1268.toNat, 1024]
def k0_off94 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1273 : Index := Scalar.indexCast v1160
  let c1024_594 : Index := 1024#32
  ![v1273.toNat, 1024]
def k0_off95 (k0_t3 : Fin k0_t3_loop.trips) : Fin 3 → Nat :=
  let c0_596 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1281 : Index := Scalar.indexCast v1160
  let c1152_597 : Index := 1152#32
  ![0, v1281.toNat, 1152]
def k0_off96 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1286 : Index := Scalar.indexCast v1160
  let c1152_598 : Index := 1152#32
  ![v1286.toNat, 1152]
def k0_off97 (k0_t3 : Fin k0_t3_loop.trips) : Fin 3 → Nat :=
  let c0_600 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1294 : Index := Scalar.indexCast v1160
  let c1280_601 : Index := 1280#32
  ![0, v1294.toNat, 1280]
def k0_off98 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1299 : Index := Scalar.indexCast v1160
  let c1280_602 : Index := 1280#32
  ![v1299.toNat, 1280]
def k0_off99 (k0_t3 : Fin k0_t3_loop.trips) : Fin 3 → Nat :=
  let c0_604 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1307 : Index := Scalar.indexCast v1160
  let c1408_605 : Index := 1408#32
  ![0, v1307.toNat, 1408]
def k0_off100 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1312 : Index := Scalar.indexCast v1160
  let c1408_606 : Index := 1408#32
  ![v1312.toNat, 1408]
def k0_off101 (k0_t3 : Fin k0_t3_loop.trips) : Fin 3 → Nat :=
  let c0_608 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1320 : Index := Scalar.indexCast v1160
  let c1536_609 : Index := 1536#32
  ![0, v1320.toNat, 1536]
def k0_off102 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1325 : Index := Scalar.indexCast v1160
  let c1536_610 : Index := 1536#32
  ![v1325.toNat, 1536]
def k0_off103 (k0_t3 : Fin k0_t3_loop.trips) : Fin 3 → Nat :=
  let c0_612 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1333 : Index := Scalar.indexCast v1160
  let c1664_613 : Index := 1664#32
  ![0, v1333.toNat, 1664]
def k0_off104 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1338 : Index := Scalar.indexCast v1160
  let c1664_614 : Index := 1664#32
  ![v1338.toNat, 1664]
def k0_off105 (k0_t3 : Fin k0_t3_loop.trips) : Fin 3 → Nat :=
  let c0_616 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1346 : Index := Scalar.indexCast v1160
  let c1792_617 : Index := 1792#32
  ![0, v1346.toNat, 1792]
def k0_off106 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1351 : Index := Scalar.indexCast v1160
  let c1792_618 : Index := 1792#32
  ![v1351.toNat, 1792]
def k0_off107 (k0_t3 : Fin k0_t3_loop.trips) : Fin 3 → Nat :=
  let c0_620 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1359 : Index := Scalar.indexCast v1160
  let c1920_621 : Index := 1920#32
  ![0, v1359.toNat, 1920]
def k0_off108 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1364 : Index := Scalar.indexCast v1160
  let c1920_622 : Index := 1920#32
  ![v1364.toNat, 1920]
def k0_off109 (k0_t3 : Fin k0_t3_loop.trips) : Fin 3 → Nat :=
  let c0_624 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1372 : Index := Scalar.indexCast v1160
  let c2048_625 : Index := 2048#32
  ![0, v1372.toNat, 2048]
def k0_off110 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1377 : Index := Scalar.indexCast v1160
  let c2048_626 : Index := 2048#32
  ![v1377.toNat, 2048]
def k0_off111 (k0_t3 : Fin k0_t3_loop.trips) : Fin 3 → Nat :=
  let c0_628 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1385 : Index := Scalar.indexCast v1160
  let c2176_629 : Index := 2176#32
  ![0, v1385.toNat, 2176]
def k0_off112 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1390 : Index := Scalar.indexCast v1160
  let c2176_630 : Index := 2176#32
  ![v1390.toNat, 2176]
def k0_off113 (k0_t3 : Fin k0_t3_loop.trips) : Fin 3 → Nat :=
  let c0_632 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1398 : Index := Scalar.indexCast v1160
  let c2304_633 : Index := 2304#32
  ![0, v1398.toNat, 2304]
def k0_off114 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1403 : Index := Scalar.indexCast v1160
  let c2304_634 : Index := 2304#32
  ![v1403.toNat, 2304]
def k0_off115 (k0_t3 : Fin k0_t3_loop.trips) : Fin 3 → Nat :=
  let c0_636 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1411 : Index := Scalar.indexCast v1160
  let c2432_637 : Index := 2432#32
  ![0, v1411.toNat, 2432]
def k0_off116 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1416 : Index := Scalar.indexCast v1160
  let c2432_638 : Index := 2432#32
  ![v1416.toNat, 2432]
def k0_off117 (k0_t3 : Fin k0_t3_loop.trips) : Fin 3 → Nat :=
  let c0_640 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1424 : Index := Scalar.indexCast v1160
  let c2560_641 : Index := 2560#32
  ![0, v1424.toNat, 2560]
def k0_off118 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1429 : Index := Scalar.indexCast v1160
  let c2560_642 : Index := 2560#32
  ![v1429.toNat, 2560]
def k0_off119 (k0_t3 : Fin k0_t3_loop.trips) : Fin 3 → Nat :=
  let c0_644 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1437 : Index := Scalar.indexCast v1160
  let c2688_645 : Index := 2688#32
  ![0, v1437.toNat, 2688]
def k0_off120 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1442 : Index := Scalar.indexCast v1160
  let c2688_646 : Index := 2688#32
  ![v1442.toNat, 2688]
def k0_off121 (k0_t3 : Fin k0_t3_loop.trips) : Fin 3 → Nat :=
  let c0_648 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1450 : Index := Scalar.indexCast v1160
  let c2816_649 : Index := 2816#32
  ![0, v1450.toNat, 2816]
def k0_off122 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1455 : Index := Scalar.indexCast v1160
  let c2816_650 : Index := 2816#32
  ![v1455.toNat, 2816]
def k0_off123 (k0_t3 : Fin k0_t3_loop.trips) : Fin 3 → Nat :=
  let c0_652 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1463 : Index := Scalar.indexCast v1160
  let c2944_653 : Index := 2944#32
  ![0, v1463.toNat, 2944]
def k0_off124 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1468 : Index := Scalar.indexCast v1160
  let c2944_654 : Index := 2944#32
  ![v1468.toNat, 2944]
def k0_off125 (k0_t3 : Fin k0_t3_loop.trips) : Fin 3 → Nat :=
  let c0_656 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1476 : Index := Scalar.indexCast v1160
  let c3072_657 : Index := 3072#32
  ![0, v1476.toNat, 3072]
def k0_off126 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1481 : Index := Scalar.indexCast v1160
  let c3072_658 : Index := 3072#32
  ![v1481.toNat, 3072]
def k0_off127 (k0_t3 : Fin k0_t3_loop.trips) : Fin 3 → Nat :=
  let c0_660 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1489 : Index := Scalar.indexCast v1160
  let c3200_661 : Index := 3200#32
  ![0, v1489.toNat, 3200]
def k0_off128 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1494 : Index := Scalar.indexCast v1160
  let c3200_662 : Index := 3200#32
  ![v1494.toNat, 3200]
def k0_off129 (k0_t3 : Fin k0_t3_loop.trips) : Fin 3 → Nat :=
  let c0_664 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1502 : Index := Scalar.indexCast v1160
  let c3328_665 : Index := 3328#32
  ![0, v1502.toNat, 3328]
def k0_off130 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1507 : Index := Scalar.indexCast v1160
  let c3328_666 : Index := 3328#32
  ![v1507.toNat, 3328]
def k0_off131 (k0_t3 : Fin k0_t3_loop.trips) : Fin 3 → Nat :=
  let c0_668 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1515 : Index := Scalar.indexCast v1160
  let c3456_669 : Index := 3456#32
  ![0, v1515.toNat, 3456]
def k0_off132 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1520 : Index := Scalar.indexCast v1160
  let c3456_670 : Index := 3456#32
  ![v1520.toNat, 3456]
def k0_off133 (k0_t3 : Fin k0_t3_loop.trips) : Fin 3 → Nat :=
  let c0_672 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1528 : Index := Scalar.indexCast v1160
  let c3584_673 : Index := 3584#32
  ![0, v1528.toNat, 3584]
def k0_off134 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1533 : Index := Scalar.indexCast v1160
  let c3584_674 : Index := 3584#32
  ![v1533.toNat, 3584]
def k0_off135 (k0_t3 : Fin k0_t3_loop.trips) : Fin 3 → Nat :=
  let c0_676 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1541 : Index := Scalar.indexCast v1160
  let c3712_677 : Index := 3712#32
  ![0, v1541.toNat, 3712]
def k0_off136 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1546 : Index := Scalar.indexCast v1160
  let c3712_678 : Index := 3712#32
  ![v1546.toNat, 3712]
def k0_off137 (k0_t3 : Fin k0_t3_loop.trips) : Fin 3 → Nat :=
  let c0_680 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1554 : Index := Scalar.indexCast v1160
  let c3840_681 : Index := 3840#32
  ![0, v1554.toNat, 3840]
def k0_off138 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1559 : Index := Scalar.indexCast v1160
  let c3840_682 : Index := 3840#32
  ![v1559.toNat, 3840]
def k0_off139 (k0_t3 : Fin k0_t3_loop.trips) : Fin 3 → Nat :=
  let c0_684 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1567 : Index := Scalar.indexCast v1160
  let c3968_685 : Index := 3968#32
  ![0, v1567.toNat, 3968]
def k0_off140 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1572 : Index := Scalar.indexCast v1160
  let c3968_686 : Index := 3968#32
  ![v1572.toNat, 3968]
def k0_off141 (k0_t3 : Fin k0_t3_loop.trips) : Fin 3 → Nat :=
  let c0_688 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1580 : Index := Scalar.indexCast v1160
  let c4096_689 : Index := 4096#32
  ![0, v1580.toNat, 4096]
def k0_off142 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1585 : Index := Scalar.indexCast v1160
  let c4096_690 : Index := 4096#32
  ![v1585.toNat, 4096]
def k0_off143 (k0_t3 : Fin k0_t3_loop.trips) : Fin 3 → Nat :=
  let c0_692 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1593 : Index := Scalar.indexCast v1160
  let c4224_693 : Index := 4224#32
  ![0, v1593.toNat, 4224]
def k0_off144 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1598 : Index := Scalar.indexCast v1160
  let c4224_694 : Index := 4224#32
  ![v1598.toNat, 4224]
def k0_off145 (k0_t3 : Fin k0_t3_loop.trips) : Fin 3 → Nat :=
  let c0_696 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1606 : Index := Scalar.indexCast v1160
  let c4352_697 : Index := 4352#32
  ![0, v1606.toNat, 4352]
def k0_off146 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1611 : Index := Scalar.indexCast v1160
  let c4352_698 : Index := 4352#32
  ![v1611.toNat, 4352]
def k0_off147 (k0_t3 : Fin k0_t3_loop.trips) : Fin 3 → Nat :=
  let c0_700 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1619 : Index := Scalar.indexCast v1160
  let c4480_701 : Index := 4480#32
  ![0, v1619.toNat, 4480]
def k0_off148 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1624 : Index := Scalar.indexCast v1160
  let c4480_702 : Index := 4480#32
  ![v1624.toNat, 4480]
def k0_off149 (k0_t3 : Fin k0_t3_loop.trips) : Fin 3 → Nat :=
  let c0_704 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1632 : Index := Scalar.indexCast v1160
  let c4608_705 : Index := 4608#32
  ![0, v1632.toNat, 4608]
def k0_off150 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1637 : Index := Scalar.indexCast v1160
  let c4608_706 : Index := 4608#32
  ![v1637.toNat, 4608]
def k0_off151 (k0_t3 : Fin k0_t3_loop.trips) : Fin 3 → Nat :=
  let c0_708 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1645 : Index := Scalar.indexCast v1160
  let c4736_709 : Index := 4736#32
  ![0, v1645.toNat, 4736]
def k0_off152 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1650 : Index := Scalar.indexCast v1160
  let c4736_710 : Index := 4736#32
  ![v1650.toNat, 4736]
def k0_off153 (k0_t3 : Fin k0_t3_loop.trips) : Fin 3 → Nat :=
  let c0_712 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1658 : Index := Scalar.indexCast v1160
  let c4864_713 : Index := 4864#32
  ![0, v1658.toNat, 4864]
def k0_off154 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1663 : Index := Scalar.indexCast v1160
  let c4864_714 : Index := 4864#32
  ![v1663.toNat, 4864]
def k0_off155 (k0_t3 : Fin k0_t3_loop.trips) : Fin 3 → Nat :=
  let c0_716 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1671 : Index := Scalar.indexCast v1160
  let c4992_717 : Index := 4992#32
  ![0, v1671.toNat, 4992]
def k0_off156 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1676 : Index := Scalar.indexCast v1160
  let c4992_718 : Index := 4992#32
  ![v1676.toNat, 4992]
def k0_off157 (k0_t3 : Fin k0_t3_loop.trips) : Fin 3 → Nat :=
  let c0_720 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1684 : Index := Scalar.indexCast v1160
  let c5120_721 : Index := 5120#32
  ![0, v1684.toNat, 5120]
def k0_off158 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1689 : Index := Scalar.indexCast v1160
  let c5120_722 : Index := 5120#32
  ![v1689.toNat, 5120]
def k0_off159 (k0_t3 : Fin k0_t3_loop.trips) : Fin 3 → Nat :=
  let c0_724 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1697 : Index := Scalar.indexCast v1160
  let c5248_725 : Index := 5248#32
  ![0, v1697.toNat, 5248]
def k0_off160 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1702 : Index := Scalar.indexCast v1160
  let c5248_726 : Index := 5248#32
  ![v1702.toNat, 5248]
def k0_off161 (k0_t3 : Fin k0_t3_loop.trips) : Fin 3 → Nat :=
  let c0_728 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1710 : Index := Scalar.indexCast v1160
  let c5376_729 : Index := 5376#32
  ![0, v1710.toNat, 5376]
def k0_off162 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1715 : Index := Scalar.indexCast v1160
  let c5376_730 : Index := 5376#32
  ![v1715.toNat, 5376]
def k0_off163 (k0_t3 : Fin k0_t3_loop.trips) : Fin 3 → Nat :=
  let c0_732 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1723 : Index := Scalar.indexCast v1160
  let c5504_733 : Index := 5504#32
  ![0, v1723.toNat, 5504]
def k0_off164 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1728 : Index := Scalar.indexCast v1160
  let c5504_734 : Index := 5504#32
  ![v1728.toNat, 5504]
def k0_off165 (k0_t3 : Fin k0_t3_loop.trips) : Fin 3 → Nat :=
  let c0_736 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1736 : Index := Scalar.indexCast v1160
  let c5632_737 : Index := 5632#32
  ![0, v1736.toNat, 5632]
def k0_off166 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1741 : Index := Scalar.indexCast v1160
  let c5632_738 : Index := 5632#32
  ![v1741.toNat, 5632]
def k0_off167 (k0_t3 : Fin k0_t3_loop.trips) : Fin 3 → Nat :=
  let c0_740 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1749 : Index := Scalar.indexCast v1160
  let c5760_741 : Index := 5760#32
  ![0, v1749.toNat, 5760]
def k0_off168 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1754 : Index := Scalar.indexCast v1160
  let c5760_742 : Index := 5760#32
  ![v1754.toNat, 5760]
def k0_off169 (k0_t3 : Fin k0_t3_loop.trips) : Fin 3 → Nat :=
  let c0_744 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1762 : Index := Scalar.indexCast v1160
  let c5888_745 : Index := 5888#32
  ![0, v1762.toNat, 5888]
def k0_off170 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1767 : Index := Scalar.indexCast v1160
  let c5888_746 : Index := 5888#32
  ![v1767.toNat, 5888]
def k0_off171 (k0_t3 : Fin k0_t3_loop.trips) : Fin 3 → Nat :=
  let c0_748 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1775 : Index := Scalar.indexCast v1160
  let c6016_749 : Index := 6016#32
  ![0, v1775.toNat, 6016]
def k0_off172 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1780 : Index := Scalar.indexCast v1160
  let c6016_750 : Index := 6016#32
  ![v1780.toNat, 6016]
def k0_off173 (k0_t3 : Fin k0_t3_loop.trips) : Fin 3 → Nat :=
  let c0_752 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1788 : Index := Scalar.indexCast v1160
  let c6144_753 : Index := 6144#32
  ![0, v1788.toNat, 6144]
def k0_off174 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1793 : Index := Scalar.indexCast v1160
  let c6144_754 : Index := 6144#32
  ![v1793.toNat, 6144]
def k0_off175 (k0_t3 : Fin k0_t3_loop.trips) : Fin 3 → Nat :=
  let c0_756 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1801 : Index := Scalar.indexCast v1160
  let c6272_757 : Index := 6272#32
  ![0, v1801.toNat, 6272]
def k0_off176 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1806 : Index := Scalar.indexCast v1160
  let c6272_758 : Index := 6272#32
  ![v1806.toNat, 6272]
def k0_off177 (k0_t3 : Fin k0_t3_loop.trips) : Fin 3 → Nat :=
  let c0_760 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1814 : Index := Scalar.indexCast v1160
  let c6400_761 : Index := 6400#32
  ![0, v1814.toNat, 6400]
def k0_off178 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1819 : Index := Scalar.indexCast v1160
  let c6400_762 : Index := 6400#32
  ![v1819.toNat, 6400]
def k0_off179 (k0_t3 : Fin k0_t3_loop.trips) : Fin 3 → Nat :=
  let c0_764 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1827 : Index := Scalar.indexCast v1160
  let c6528_765 : Index := 6528#32
  ![0, v1827.toNat, 6528]
def k0_off180 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1832 : Index := Scalar.indexCast v1160
  let c6528_766 : Index := 6528#32
  ![v1832.toNat, 6528]
def k0_off181 (k0_t3 : Fin k0_t3_loop.trips) : Fin 3 → Nat :=
  let c0_768 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1840 : Index := Scalar.indexCast v1160
  let c6656_769 : Index := 6656#32
  ![0, v1840.toNat, 6656]
def k0_off182 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1845 : Index := Scalar.indexCast v1160
  let c6656_770 : Index := 6656#32
  ![v1845.toNat, 6656]
def k0_off183 (k0_t3 : Fin k0_t3_loop.trips) : Fin 3 → Nat :=
  let c0_772 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1853 : Index := Scalar.indexCast v1160
  let c6784_773 : Index := 6784#32
  ![0, v1853.toNat, 6784]
def k0_off184 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1858 : Index := Scalar.indexCast v1160
  let c6784_774 : Index := 6784#32
  ![v1858.toNat, 6784]
def k0_off185 (k0_t3 : Fin k0_t3_loop.trips) : Fin 3 → Nat :=
  let c0_776 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1866 : Index := Scalar.indexCast v1160
  let c6912_777 : Index := 6912#32
  ![0, v1866.toNat, 6912]
def k0_off186 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1871 : Index := Scalar.indexCast v1160
  let c6912_778 : Index := 6912#32
  ![v1871.toNat, 6912]
def k0_off187 (k0_t3 : Fin k0_t3_loop.trips) : Fin 3 → Nat :=
  let c0_780 : Index := 0#32
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1879 : Index := Scalar.indexCast v1160
  let c7040_781 : Index := 7040#32
  ![0, v1879.toNat, 7040]
def k0_off188 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1884 : Index := Scalar.indexCast v1160
  let c7040_782 : Index := 7040#32
  ![v1884.toNat, 7040]
def k0_off189 (k0_t3 : Fin k0_t3_loop.trips) : Fin 2 → Nat :=
  let c0_i32_533 : BitVec 32 := 0#32
  let c1_i32_535 : BitVec 32 := 1#32
  let arg23 : BitVec 32 := Scf.iv c0_i32_533 c1_i32_535 k0_t3
  let c16_i32_555 : BitVec 32 := 16#32
  let v1159 : BitVec 32 := Scalar.muli arg23 c16_i32_555
  let v1160 : BitVec 32 := v1159
  let v1890 : Index := Scalar.indexCast v1160
  let c0_783 : Index := 0#32
  ![v1890.toNat, 0]
@[reducible] def k0_t4_loop : Scf.Loop 32 :=
  let c0_i32_552 : BitVec 32 := 0#32
  let c8_i32 : BitVec 32 := 8#32
  let v1158 : BitVec 32 := Scalar.addi c0_i32_552 c8_i32
  let c1_i32_553 : BitVec 32 := 1#32
  ⟨c0_i32_552, v1158, c1_i32_553⟩
def k0_mult11 (k0_t4 : Fin k0_t4_loop.trips) : BitVec 32 :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  v1159
def k0_off190 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1161 : Index := Scalar.indexCast v1160
  let c0_555 : Index := 0#32
  ![v1161.toNat, 0]
def k0_off191 (k0_t4 : Fin k0_t4_loop.trips) : Fin 3 → Nat :=
  let c0_556 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1165 : Index := Scalar.indexCast v1160
  let c0_557 : Index := 0#32
  ![0, v1165.toNat, 0]
def k0_off192 (k0_t4 : Fin k0_t4_loop.trips) : Fin 3 → Nat :=
  let c0_560 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1171 : Index := Scalar.indexCast v1160
  let c0_561 : Index := 0#32
  ![0, v1171.toNat, 0]
def k0_off193 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1178 : Index := Scalar.indexCast v1160
  let c0_562 : Index := 0#32
  ![v1178.toNat, 0]
def k0_off194 (k0_t4 : Fin k0_t4_loop.trips) : Fin 3 → Nat :=
  let c0_581 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1236 : Index := Scalar.indexCast v1160
  let c128_582 : Index := 128#32
  ![0, v1236.toNat, 128]
def k0_off195 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1243 : Index := Scalar.indexCast v1160
  let c128_583 : Index := 128#32
  ![v1243.toNat, 128]
def k0_off196 (k0_t4 : Fin k0_t4_loop.trips) : Fin 3 → Nat :=
  let c0_602 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1301 : Index := Scalar.indexCast v1160
  let c256 : Index := 256#32
  ![0, v1301.toNat, 256]
def k0_off197 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1308 : Index := Scalar.indexCast v1160
  let c256_603 : Index := 256#32
  ![v1308.toNat, 256]
def k0_off198 (k0_t4 : Fin k0_t4_loop.trips) : Fin 3 → Nat :=
  let c0_621 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1366 : Index := Scalar.indexCast v1160
  let c384 : Index := 384#32
  ![0, v1366.toNat, 384]
def k0_off199 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1373 : Index := Scalar.indexCast v1160
  let c384_622 : Index := 384#32
  ![v1373.toNat, 384]
def k0_off200 (k0_t4 : Fin k0_t4_loop.trips) : Fin 3 → Nat :=
  let c0_640 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1431 : Index := Scalar.indexCast v1160
  let c512 : Index := 512#32
  ![0, v1431.toNat, 512]
def k0_off201 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1438 : Index := Scalar.indexCast v1160
  let c512_641 : Index := 512#32
  ![v1438.toNat, 512]
def k0_off202 (k0_t4 : Fin k0_t4_loop.trips) : Fin 3 → Nat :=
  let c0_659 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1496 : Index := Scalar.indexCast v1160
  let c640 : Index := 640#32
  ![0, v1496.toNat, 640]
def k0_off203 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1503 : Index := Scalar.indexCast v1160
  let c640_660 : Index := 640#32
  ![v1503.toNat, 640]
def k0_off204 (k0_t4 : Fin k0_t4_loop.trips) : Fin 3 → Nat :=
  let c0_678 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1561 : Index := Scalar.indexCast v1160
  let c768 : Index := 768#32
  ![0, v1561.toNat, 768]
def k0_off205 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1568 : Index := Scalar.indexCast v1160
  let c768_679 : Index := 768#32
  ![v1568.toNat, 768]
def k0_off206 (k0_t4 : Fin k0_t4_loop.trips) : Fin 3 → Nat :=
  let c0_697 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1626 : Index := Scalar.indexCast v1160
  let c896 : Index := 896#32
  ![0, v1626.toNat, 896]
def k0_off207 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1633 : Index := Scalar.indexCast v1160
  let c896_698 : Index := 896#32
  ![v1633.toNat, 896]
def k0_off208 (k0_t4 : Fin k0_t4_loop.trips) : Fin 3 → Nat :=
  let c0_717 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1691 : Index := Scalar.indexCast v1160
  let c1024 : Index := 1024#32
  ![0, v1691.toNat, 1024]
def k0_off209 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1698 : Index := Scalar.indexCast v1160
  let c1024_718 : Index := 1024#32
  ![v1698.toNat, 1024]
def k0_off210 (k0_t4 : Fin k0_t4_loop.trips) : Fin 3 → Nat :=
  let c0_737 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1756 : Index := Scalar.indexCast v1160
  let c1152 : Index := 1152#32
  ![0, v1756.toNat, 1152]
def k0_off211 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1763 : Index := Scalar.indexCast v1160
  let c1152_738 : Index := 1152#32
  ![v1763.toNat, 1152]
def k0_off212 (k0_t4 : Fin k0_t4_loop.trips) : Fin 3 → Nat :=
  let c0_756 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1821 : Index := Scalar.indexCast v1160
  let c1280 : Index := 1280#32
  ![0, v1821.toNat, 1280]
def k0_off213 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1828 : Index := Scalar.indexCast v1160
  let c1280_757 : Index := 1280#32
  ![v1828.toNat, 1280]
def k0_off214 (k0_t4 : Fin k0_t4_loop.trips) : Fin 3 → Nat :=
  let c0_775 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1886 : Index := Scalar.indexCast v1160
  let c1408 : Index := 1408#32
  ![0, v1886.toNat, 1408]
def k0_off215 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1893 : Index := Scalar.indexCast v1160
  let c1408_776 : Index := 1408#32
  ![v1893.toNat, 1408]
def k0_off216 (k0_t4 : Fin k0_t4_loop.trips) : Fin 3 → Nat :=
  let c0_795 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1951 : Index := Scalar.indexCast v1160
  let c1536 : Index := 1536#32
  ![0, v1951.toNat, 1536]
def k0_off217 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v1958 : Index := Scalar.indexCast v1160
  let c1536_796 : Index := 1536#32
  ![v1958.toNat, 1536]
def k0_off218 (k0_t4 : Fin k0_t4_loop.trips) : Fin 3 → Nat :=
  let c0_814 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2016 : Index := Scalar.indexCast v1160
  let c1664 : Index := 1664#32
  ![0, v2016.toNat, 1664]
def k0_off219 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2023 : Index := Scalar.indexCast v1160
  let c1664_815 : Index := 1664#32
  ![v2023.toNat, 1664]
def k0_off220 (k0_t4 : Fin k0_t4_loop.trips) : Fin 3 → Nat :=
  let c0_833 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2081 : Index := Scalar.indexCast v1160
  let c1792 : Index := 1792#32
  ![0, v2081.toNat, 1792]
def k0_off221 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2088 : Index := Scalar.indexCast v1160
  let c1792_834 : Index := 1792#32
  ![v2088.toNat, 1792]
def k0_off222 (k0_t4 : Fin k0_t4_loop.trips) : Fin 3 → Nat :=
  let c0_852 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2146 : Index := Scalar.indexCast v1160
  let c1920 : Index := 1920#32
  ![0, v2146.toNat, 1920]
def k0_off223 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2153 : Index := Scalar.indexCast v1160
  let c1920_853 : Index := 1920#32
  ![v2153.toNat, 1920]
def k0_off224 (k0_t4 : Fin k0_t4_loop.trips) : Fin 3 → Nat :=
  let c0_871 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2211 : Index := Scalar.indexCast v1160
  let c2048 : Index := 2048#32
  ![0, v2211.toNat, 2048]
def k0_off225 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2218 : Index := Scalar.indexCast v1160
  let c2048_872 : Index := 2048#32
  ![v2218.toNat, 2048]
def k0_off226 (k0_t4 : Fin k0_t4_loop.trips) : Fin 3 → Nat :=
  let c0_891 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2276 : Index := Scalar.indexCast v1160
  let c2176 : Index := 2176#32
  ![0, v2276.toNat, 2176]
def k0_off227 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2283 : Index := Scalar.indexCast v1160
  let c2176_892 : Index := 2176#32
  ![v2283.toNat, 2176]
def k0_off228 (k0_t4 : Fin k0_t4_loop.trips) : Fin 3 → Nat :=
  let c0_910 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2341 : Index := Scalar.indexCast v1160
  let c2304 : Index := 2304#32
  ![0, v2341.toNat, 2304]
def k0_off229 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2348 : Index := Scalar.indexCast v1160
  let c2304_911 : Index := 2304#32
  ![v2348.toNat, 2304]
def k0_off230 (k0_t4 : Fin k0_t4_loop.trips) : Fin 3 → Nat :=
  let c0_929 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2406 : Index := Scalar.indexCast v1160
  let c2432 : Index := 2432#32
  ![0, v2406.toNat, 2432]
def k0_off231 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2413 : Index := Scalar.indexCast v1160
  let c2432_930 : Index := 2432#32
  ![v2413.toNat, 2432]
def k0_off232 (k0_t4 : Fin k0_t4_loop.trips) : Fin 3 → Nat :=
  let c0_948 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2471 : Index := Scalar.indexCast v1160
  let c2560 : Index := 2560#32
  ![0, v2471.toNat, 2560]
def k0_off233 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2478 : Index := Scalar.indexCast v1160
  let c2560_949 : Index := 2560#32
  ![v2478.toNat, 2560]
def k0_off234 (k0_t4 : Fin k0_t4_loop.trips) : Fin 3 → Nat :=
  let c0_967 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2536 : Index := Scalar.indexCast v1160
  let c2688 : Index := 2688#32
  ![0, v2536.toNat, 2688]
def k0_off235 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2543 : Index := Scalar.indexCast v1160
  let c2688_968 : Index := 2688#32
  ![v2543.toNat, 2688]
def k0_off236 (k0_t4 : Fin k0_t4_loop.trips) : Fin 3 → Nat :=
  let c0_986 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2601 : Index := Scalar.indexCast v1160
  let c2816 : Index := 2816#32
  ![0, v2601.toNat, 2816]
def k0_off237 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2608 : Index := Scalar.indexCast v1160
  let c2816_987 : Index := 2816#32
  ![v2608.toNat, 2816]
def k0_off238 (k0_t4 : Fin k0_t4_loop.trips) : Fin 3 → Nat :=
  let c0_1005 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2666 : Index := Scalar.indexCast v1160
  let c2944 : Index := 2944#32
  ![0, v2666.toNat, 2944]
def k0_off239 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2673 : Index := Scalar.indexCast v1160
  let c2944_1006 : Index := 2944#32
  ![v2673.toNat, 2944]
def k0_off240 (k0_t4 : Fin k0_t4_loop.trips) : Fin 3 → Nat :=
  let c0_1024 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2731 : Index := Scalar.indexCast v1160
  let c3072 : Index := 3072#32
  ![0, v2731.toNat, 3072]
def k0_off241 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2738 : Index := Scalar.indexCast v1160
  let c3072_1025 : Index := 3072#32
  ![v2738.toNat, 3072]
def k0_off242 (k0_t4 : Fin k0_t4_loop.trips) : Fin 3 → Nat :=
  let c0_1043 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2796 : Index := Scalar.indexCast v1160
  let c3200 : Index := 3200#32
  ![0, v2796.toNat, 3200]
def k0_off243 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2803 : Index := Scalar.indexCast v1160
  let c3200_1044 : Index := 3200#32
  ![v2803.toNat, 3200]
def k0_off244 (k0_t4 : Fin k0_t4_loop.trips) : Fin 3 → Nat :=
  let c0_1062 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2861 : Index := Scalar.indexCast v1160
  let c3328 : Index := 3328#32
  ![0, v2861.toNat, 3328]
def k0_off245 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2868 : Index := Scalar.indexCast v1160
  let c3328_1063 : Index := 3328#32
  ![v2868.toNat, 3328]
def k0_off246 (k0_t4 : Fin k0_t4_loop.trips) : Fin 3 → Nat :=
  let c0_1081 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2926 : Index := Scalar.indexCast v1160
  let c3456 : Index := 3456#32
  ![0, v2926.toNat, 3456]
def k0_off247 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2933 : Index := Scalar.indexCast v1160
  let c3456_1082 : Index := 3456#32
  ![v2933.toNat, 3456]
def k0_off248 (k0_t4 : Fin k0_t4_loop.trips) : Fin 3 → Nat :=
  let c0_1100 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2991 : Index := Scalar.indexCast v1160
  let c3584 : Index := 3584#32
  ![0, v2991.toNat, 3584]
def k0_off249 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v2998 : Index := Scalar.indexCast v1160
  let c3584_1101 : Index := 3584#32
  ![v2998.toNat, 3584]
def k0_off250 (k0_t4 : Fin k0_t4_loop.trips) : Fin 3 → Nat :=
  let c0_1119 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3056 : Index := Scalar.indexCast v1160
  let c3712 : Index := 3712#32
  ![0, v3056.toNat, 3712]
def k0_off251 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3063 : Index := Scalar.indexCast v1160
  let c3712_1120 : Index := 3712#32
  ![v3063.toNat, 3712]
def k0_off252 (k0_t4 : Fin k0_t4_loop.trips) : Fin 3 → Nat :=
  let c0_1138 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3121 : Index := Scalar.indexCast v1160
  let c3840 : Index := 3840#32
  ![0, v3121.toNat, 3840]
def k0_off253 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3128 : Index := Scalar.indexCast v1160
  let c3840_1139 : Index := 3840#32
  ![v3128.toNat, 3840]
def k0_off254 (k0_t4 : Fin k0_t4_loop.trips) : Fin 3 → Nat :=
  let c0_1157 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3186 : Index := Scalar.indexCast v1160
  let c3968 : Index := 3968#32
  ![0, v3186.toNat, 3968]
def k0_off255 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3193 : Index := Scalar.indexCast v1160
  let c3968_1158 : Index := 3968#32
  ![v3193.toNat, 3968]
def k0_off256 (k0_t4 : Fin k0_t4_loop.trips) : Fin 3 → Nat :=
  let c0_1176 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3251 : Index := Scalar.indexCast v1160
  let c4096 : Index := 4096#32
  ![0, v3251.toNat, 4096]
def k0_off257 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3258 : Index := Scalar.indexCast v1160
  let c4096_1177 : Index := 4096#32
  ![v3258.toNat, 4096]
def k0_off258 (k0_t4 : Fin k0_t4_loop.trips) : Fin 3 → Nat :=
  let c0_1196 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3316 : Index := Scalar.indexCast v1160
  let c4224 : Index := 4224#32
  ![0, v3316.toNat, 4224]
def k0_off259 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3323 : Index := Scalar.indexCast v1160
  let c4224_1197 : Index := 4224#32
  ![v3323.toNat, 4224]
def k0_off260 (k0_t4 : Fin k0_t4_loop.trips) : Fin 3 → Nat :=
  let c0_1215 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3381 : Index := Scalar.indexCast v1160
  let c4352 : Index := 4352#32
  ![0, v3381.toNat, 4352]
def k0_off261 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3388 : Index := Scalar.indexCast v1160
  let c4352_1216 : Index := 4352#32
  ![v3388.toNat, 4352]
def k0_off262 (k0_t4 : Fin k0_t4_loop.trips) : Fin 3 → Nat :=
  let c0_1234 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3446 : Index := Scalar.indexCast v1160
  let c4480 : Index := 4480#32
  ![0, v3446.toNat, 4480]
def k0_off263 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3453 : Index := Scalar.indexCast v1160
  let c4480_1235 : Index := 4480#32
  ![v3453.toNat, 4480]
def k0_off264 (k0_t4 : Fin k0_t4_loop.trips) : Fin 3 → Nat :=
  let c0_1253 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3511 : Index := Scalar.indexCast v1160
  let c4608 : Index := 4608#32
  ![0, v3511.toNat, 4608]
def k0_off265 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3518 : Index := Scalar.indexCast v1160
  let c4608_1254 : Index := 4608#32
  ![v3518.toNat, 4608]
def k0_off266 (k0_t4 : Fin k0_t4_loop.trips) : Fin 3 → Nat :=
  let c0_1272 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3576 : Index := Scalar.indexCast v1160
  let c4736 : Index := 4736#32
  ![0, v3576.toNat, 4736]
def k0_off267 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3583 : Index := Scalar.indexCast v1160
  let c4736_1273 : Index := 4736#32
  ![v3583.toNat, 4736]
def k0_off268 (k0_t4 : Fin k0_t4_loop.trips) : Fin 3 → Nat :=
  let c0_1291 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3641 : Index := Scalar.indexCast v1160
  let c4864 : Index := 4864#32
  ![0, v3641.toNat, 4864]
def k0_off269 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3648 : Index := Scalar.indexCast v1160
  let c4864_1292 : Index := 4864#32
  ![v3648.toNat, 4864]
def k0_off270 (k0_t4 : Fin k0_t4_loop.trips) : Fin 3 → Nat :=
  let c0_1310 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3706 : Index := Scalar.indexCast v1160
  let c4992 : Index := 4992#32
  ![0, v3706.toNat, 4992]
def k0_off271 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3713 : Index := Scalar.indexCast v1160
  let c4992_1311 : Index := 4992#32
  ![v3713.toNat, 4992]
def k0_off272 (k0_t4 : Fin k0_t4_loop.trips) : Fin 3 → Nat :=
  let c0_1329 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3771 : Index := Scalar.indexCast v1160
  let c5120 : Index := 5120#32
  ![0, v3771.toNat, 5120]
def k0_off273 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3778 : Index := Scalar.indexCast v1160
  let c5120_1330 : Index := 5120#32
  ![v3778.toNat, 5120]
def k0_off274 (k0_t4 : Fin k0_t4_loop.trips) : Fin 3 → Nat :=
  let c0_1348 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3836 : Index := Scalar.indexCast v1160
  let c5248 : Index := 5248#32
  ![0, v3836.toNat, 5248]
def k0_off275 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3843 : Index := Scalar.indexCast v1160
  let c5248_1349 : Index := 5248#32
  ![v3843.toNat, 5248]
def k0_off276 (k0_t4 : Fin k0_t4_loop.trips) : Fin 3 → Nat :=
  let c0_1367 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3901 : Index := Scalar.indexCast v1160
  let c5376 : Index := 5376#32
  ![0, v3901.toNat, 5376]
def k0_off277 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3908 : Index := Scalar.indexCast v1160
  let c5376_1368 : Index := 5376#32
  ![v3908.toNat, 5376]
def k0_off278 (k0_t4 : Fin k0_t4_loop.trips) : Fin 3 → Nat :=
  let c0_1386 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3966 : Index := Scalar.indexCast v1160
  let c5504 : Index := 5504#32
  ![0, v3966.toNat, 5504]
def k0_off279 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v3973 : Index := Scalar.indexCast v1160
  let c5504_1387 : Index := 5504#32
  ![v3973.toNat, 5504]
def k0_off280 (k0_t4 : Fin k0_t4_loop.trips) : Fin 3 → Nat :=
  let c0_1405 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4031 : Index := Scalar.indexCast v1160
  let c5632 : Index := 5632#32
  ![0, v4031.toNat, 5632]
def k0_off281 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4038 : Index := Scalar.indexCast v1160
  let c5632_1406 : Index := 5632#32
  ![v4038.toNat, 5632]
def k0_off282 (k0_t4 : Fin k0_t4_loop.trips) : Fin 3 → Nat :=
  let c0_1424 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4096 : Index := Scalar.indexCast v1160
  let c5760 : Index := 5760#32
  ![0, v4096.toNat, 5760]
def k0_off283 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4103 : Index := Scalar.indexCast v1160
  let c5760_1425 : Index := 5760#32
  ![v4103.toNat, 5760]
def k0_off284 (k0_t4 : Fin k0_t4_loop.trips) : Fin 3 → Nat :=
  let c0_1443 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4161 : Index := Scalar.indexCast v1160
  let c5888 : Index := 5888#32
  ![0, v4161.toNat, 5888]
def k0_off285 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4168 : Index := Scalar.indexCast v1160
  let c5888_1444 : Index := 5888#32
  ![v4168.toNat, 5888]
def k0_off286 (k0_t4 : Fin k0_t4_loop.trips) : Fin 3 → Nat :=
  let c0_1462 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4226 : Index := Scalar.indexCast v1160
  let c6016 : Index := 6016#32
  ![0, v4226.toNat, 6016]
def k0_off287 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4233 : Index := Scalar.indexCast v1160
  let c6016_1463 : Index := 6016#32
  ![v4233.toNat, 6016]
def k0_off288 (k0_t4 : Fin k0_t4_loop.trips) : Fin 3 → Nat :=
  let c0_1481 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4291 : Index := Scalar.indexCast v1160
  let c6144 : Index := 6144#32
  ![0, v4291.toNat, 6144]
def k0_off289 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4298 : Index := Scalar.indexCast v1160
  let c6144_1482 : Index := 6144#32
  ![v4298.toNat, 6144]
def k0_off290 (k0_t4 : Fin k0_t4_loop.trips) : Fin 3 → Nat :=
  let c0_1500 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4356 : Index := Scalar.indexCast v1160
  let c6272 : Index := 6272#32
  ![0, v4356.toNat, 6272]
def k0_off291 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4363 : Index := Scalar.indexCast v1160
  let c6272_1501 : Index := 6272#32
  ![v4363.toNat, 6272]
def k0_off292 (k0_t4 : Fin k0_t4_loop.trips) : Fin 3 → Nat :=
  let c0_1519 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4421 : Index := Scalar.indexCast v1160
  let c6400 : Index := 6400#32
  ![0, v4421.toNat, 6400]
def k0_off293 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4428 : Index := Scalar.indexCast v1160
  let c6400_1520 : Index := 6400#32
  ![v4428.toNat, 6400]
def k0_off294 (k0_t4 : Fin k0_t4_loop.trips) : Fin 3 → Nat :=
  let c0_1538 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4486 : Index := Scalar.indexCast v1160
  let c6528 : Index := 6528#32
  ![0, v4486.toNat, 6528]
def k0_off295 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4493 : Index := Scalar.indexCast v1160
  let c6528_1539 : Index := 6528#32
  ![v4493.toNat, 6528]
def k0_off296 (k0_t4 : Fin k0_t4_loop.trips) : Fin 3 → Nat :=
  let c0_1557 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4551 : Index := Scalar.indexCast v1160
  let c6656 : Index := 6656#32
  ![0, v4551.toNat, 6656]
def k0_off297 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4558 : Index := Scalar.indexCast v1160
  let c6656_1558 : Index := 6656#32
  ![v4558.toNat, 6656]
def k0_off298 (k0_t4 : Fin k0_t4_loop.trips) : Fin 3 → Nat :=
  let c0_1576 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4616 : Index := Scalar.indexCast v1160
  let c6784 : Index := 6784#32
  ![0, v4616.toNat, 6784]
def k0_off299 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4623 : Index := Scalar.indexCast v1160
  let c6784_1577 : Index := 6784#32
  ![v4623.toNat, 6784]
def k0_off300 (k0_t4 : Fin k0_t4_loop.trips) : Fin 3 → Nat :=
  let c0_1595 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4681 : Index := Scalar.indexCast v1160
  let c6912 : Index := 6912#32
  ![0, v4681.toNat, 6912]
def k0_off301 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4688 : Index := Scalar.indexCast v1160
  let c6912_1596 : Index := 6912#32
  ![v4688.toNat, 6912]
def k0_off302 (k0_t4 : Fin k0_t4_loop.trips) : Fin 3 → Nat :=
  let c0_1614 : Index := 0#32
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4746 : Index := Scalar.indexCast v1160
  let c7040 : Index := 7040#32
  ![0, v4746.toNat, 7040]
def k0_off303 (k0_t4 : Fin k0_t4_loop.trips) : Fin 2 → Nat :=
  let c0_i32_552 : BitVec 32 := 0#32
  let c1_i32_553 : BitVec 32 := 1#32
  let arg23 : BitVec 32 := Scf.iv c0_i32_552 c1_i32_553 k0_t4
  let c32_i32 : BitVec 32 := 32#32
  let v1159 : BitVec 32 := Scalar.muli arg23 c32_i32
  let v1160 : BitVec 32 := v1159
  let v4753 : Index := Scalar.indexCast v1160
  let c7040_1615 : Index := 7040#32
  ![v4753.toNat, 7040]
def k0_cond3 (i : grid0.Coords) : BitVec 1 :=
  let arg0 : BitVec 32 := BitVec.ofNat 32 (i 0).val
  let c11_i32_528 : BitVec 32 := 11#32
  let v1121 : BitVec 1 := Scalar.cmpi .eq arg0 c11_i32_528
  let v1122 : BitVec 32 := Scalar.extui v1121
  let c0_i32_529 : BitVec 32 := 0#32
  let v1123 : BitVec 1 := Scalar.cmpi .ne v1122 c0_i32_529
  v1123

def k0_cond2 (i : grid0.Coords) : BitVec 1 :=
  let arg0 : BitVec 32 := BitVec.ofNat 32 (i 0).val
  let c11_i32 : BitVec 32 := 11#32
  let v25 : BitVec 1 := Scalar.cmpi .eq arg0 c11_i32
  let v26 : BitVec 32 := Scalar.extui v25
  let c0_i32_11 : BitVec 32 := 0#32
  let v27 : BitVec 1 := Scalar.cmpi .ne v26 c0_i32_11
  v27

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x7168 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x56 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 7168 : ℝ) : EReal)
  | "inv_sd" => some ((1 / 1835008 : ℝ) : EReal)
  | _ => none
-- ==== ReferenceIdeal.lean ====
abbrev S12x256x7168 : Shape := ⟨3, ![12, 256, 7168]⟩
abbrev S12x256 : Shape := ⟨2, ![12, 256]⟩
abbrev S12x7168 : Shape := ⟨2, ![12, 7168]⟩
abbrev S12x256x56 : Shape := ⟨3, ![12, 256, 56]⟩
abbrev S12 : Shape := ⟨1, ![12]⟩
abbrev S12x1 : Shape := ⟨2, ![12, 1]⟩
abbrev S12x256x1 : Shape := ⟨3, ![12, 256, 1]⟩
abbrev S12x1x7168 : Shape := ⟨3, ![12, 1, 7168]⟩
abbrev S12x1x1 : Shape := ⟨3, ![12, 1, 1]⟩
abbrev S12x256x56x1 : Shape := ⟨4, ![12, 256, 56, 1]⟩
abbrev S12x256x56x128 : Shape := ⟨4, ![12, 256, 56, 128]⟩

abbrev nBuf : Space → Nat
  | .hbm => 13
  | .vmem => 13
  | .smem => 0
  | _ => 0

abbrev bufTy : (tb : Table) → Fin (tcTables nBuf tb) → BufTy
  | .hbm, ⟨0, _⟩ => ⟨S12x256x7168, .bf16⟩
  | .hbm, ⟨1, _⟩ => ⟨S12x256x7168, .bf16⟩
  | .hbm, ⟨2, _⟩ => ⟨S12x256, .f32⟩
  | .hbm, ⟨3, _⟩ => ⟨S12x7168, .f32⟩
  | .hbm, ⟨4, _⟩ => ⟨S12x256x7168, .fp8e4m3⟩
  | .hbm, ⟨5, _⟩ => ⟨S12x256x56, .f32⟩
  | .hbm, ⟨6, _⟩ => ⟨S12, .i32⟩
  | .hbm, ⟨7, _⟩ => ⟨S12x256x7168, .bf16⟩
  | .hbm, ⟨8, _⟩ => ⟨S12x256x7168, .bf16⟩
  | .hbm, ⟨9, _⟩ => ⟨S12x256, .f32⟩
  | .hbm, ⟨10, _⟩ => ⟨S12x7168, .f32⟩
  | .hbm, ⟨11, _⟩ => ⟨S12x256x7168, .fp8e4m3⟩
  | .hbm, ⟨12, _⟩ => ⟨S12x256x56, .f32⟩
  | .local _ .vmem, ⟨0, _⟩ => ⟨S12, .i32⟩
  | .local _ .vmem, ⟨1, _⟩ => ⟨S12x256x7168, .bf16⟩
  | .local _ .vmem, ⟨2, _⟩ => ⟨S12x256x7168, .bf16⟩
  | .local _ .vmem, ⟨3, _⟩ => ⟨S12x256, .f32⟩
  | .local _ .vmem, ⟨4, _⟩ => ⟨S12x7168, .f32⟩
  | .local _ .vmem, ⟨5, _⟩ => ⟨S12x256x7168, .fp8e4m3⟩
  | .local _ .vmem, ⟨6, _⟩ => ⟨S12x256x56, .f32⟩
  | .local _ .vmem, ⟨7, _⟩ => ⟨S12x256x7168, .bf16⟩
  | .local _ .vmem, ⟨8, _⟩ => ⟨S12x256x7168, .bf16⟩
  | .local _ .vmem, ⟨9, _⟩ => ⟨S12x256, .f32⟩
  | .local _ .vmem, ⟨10, _⟩ => ⟨S12x7168, .f32⟩
  | .local _ .vmem, ⟨11, _⟩ => ⟨S12x256x7168, .fp8e4m3⟩
  | .local _ .vmem, ⟨12, _⟩ => ⟨S12x256x56, .f32⟩
  | _, _ => ⟨S12x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x256x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x256x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x256x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x256x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x256x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x256x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x256x56 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KernelBody.Base.lean ====
/- What the runs of the kernel's body share: the program up to the pallas_call, the prefetched table, the
   windows' blocks, the branches of the body in closed form over the grid's points, the staging and scratch memrefs. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof
    data whose array is `V`'s and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (by decide : main_arg6 ∈ Pipeline.restRefs sig spec0)).trans (V_main_arg6 m c)⟩) h

/-! ## The body's branch conditions -/

/-- The body's three branches on the grid coordinate: the first point (where the carried scratch is
    set up), and the last point (where the column and the row statistics are written out). -/
abbrev condFirst (i : grid0.Coords) : Prop :=
  (Scalar.cmpi .ne (Scalar.extui (Scalar.cmpi .eq (BitVec.ofNat 32 (i 0).val) 0#32) : BitVec 32) 0#32 : BitVec 1) = 1#1
abbrev condCol (i : grid0.Coords) : Prop := k0_cond2 i = 1#1
abbrev condRow (i : grid0.Coords) : Prop := k0_cond3 i = 1#1

theorem coord_val (t : Fin grid0.N) : (grid0.coords t 0).val = t.val / 1 % 12 :=
  Pipeline.Grid.coords_val t 0 (by decide) rfl
/-- The first holds at point 0 only, the other two at point 11 only. -/
theorem hcondFirst (t : Fin grid0.N) : condFirst (grid0.coords t) ↔ t.val = 0 := by
  have ht : t.val < 12 := Nat.lt_of_lt_of_eq t.isLt N_0
  have e0 := coord_val t
  simp only [condFirst, e0]
  word_cmp
theorem hcondCol (t : Fin grid0.N) : condCol (grid0.coords t) ↔ t.val = 11 := by
  have ht : t.val < 12 := Nat.lt_of_lt_of_eq t.isLt N_0
  have e0 := coord_val t
  simp only [condCol, k0_cond2, e0]
  word_cmp
theorem hcondRow (t : Fin grid0.N) : condRow (grid0.coords t) ↔ t.val = 11 := by
  have ht : t.val < 12 := Nat.lt_of_lt_of_eq t.isLt N_0
  have e0 := coord_val t
  simp only [condRow, k0_cond3, e0]
  word_cmp

/-- The three ways a point's branches can go. -/
abbrev Case (i : grid0.Coords) : Prop :=
  (condFirst i ∧ ¬condCol i ∧ ¬condRow i) ∨ (¬condFirst i ∧ ¬condCol i ∧ ¬condRow i)
    ∨ (¬condFirst i ∧ condCol i ∧ condRow i)
theorem case_of (t : Fin grid0.N) : Case (grid0.coords t) := by
  simp only [Case, hcondFirst, hcondCol, hcondRow]
  have ht : t.val < 12 := Nat.lt_of_lt_of_eq t.isLt N_0
  omega

/-! ## Where the windows are idle (the printed configuration's table `Cfg.idle`) -/

/-- An input window is never idle. -/
theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)
theorem liveAt0_2 (hO : Ok m) : ∀ t : Fin (cfgM m hO).N, (cfgM m hO).idle 2 (grid0.coords t) = false :=
  (fun _ => rfl : ∀ t : Fin grid0.N, idle0 2 (grid0.coords t) = false)
theorem liveAt0_3 (hO : Ok m) : ∀ t : Fin (cfgM m hO).N, (cfgM m hO).idle 3 (grid0.coords t) = false :=
  (fun _ => rfl : ∀ t : Fin grid0.N, idle0 3 (grid0.coords t) = false)
theorem liveAt0_4 (hO : Ok m) : ∀ t : Fin (cfgM m hO).N, (cfgM m hO).idle 4 (grid0.coords t) = false :=
  (fun _ => rfl : ∀ t : Fin grid0.N, idle0 4 (grid0.coords t) = false)
theorem liveAt0_5 (hO : Ok m) : ∀ t : Fin (cfgM m hO).N, (cfgM m hO).idle 5 (grid0.coords t) = false :=
  (fun _ => rfl : ∀ t : Fin grid0.N, idle0 5 (grid0.coords t) = false)
/-! ## The staging and scratch memrefs -/

/-- Each window's current staging memref at point `t`, spelled as the pipeline passes it (`bodyAt0`), and its wholeness. -/
abbrev ms0_0 (hO : Ok m) (t : Fin (cfgM m hO).N) : Memref sig .tc .vmem S1x256x7168 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256x7168 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S12x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S12x7168 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x7168 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x56 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x7168 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x256x7168 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S12x256 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S12x7168 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x256x7168 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x256x56 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S8x7168 .f32 := Memref.whole cc0_scratch4
abbrev scM0_5 : Memref sig .tc .vmem S12x8x7168 .f32 := Memref.whole cc0_scratch5
abbrev scM0_6 : Memref sig .tc .vmem S256x7168 .f32 := Memref.whole cc0_scratch6
abbrev scM0_7 : Memref sig .tc .vmem S16x128 .f32 := Memref.whole cc0_scratch7
abbrev scM0_8 : Memref sig .tc .vmem S16x128 .f32 := Memref.whole cc0_scratch8

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-! ## The body as the pipeline calls it -/

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_adafactor_step (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

end Cert.Kernel.Body

end
-- ==== Proof.KernelBody.Run.lean ====
/- One run of the kernel's body at any point of the grid: from the inputs' staging memrefs at their contents and
   everything it writes at some contents, to the inputs' as they were and the rest at some contents. -/
module

public import proofs.«01_k».proof.Proof.KernelBody.Base
public import proofs.«01_k».proof.Proof.Gen.Kernel.Loops

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 8000000 in
/-- The body's triple, whichever of the three cases the point is in: on whole staging memrefs — the inputs' at their
    contents, the outputs' and the scratch at anything — the body runs to a continuation holding the inputs' as they
    were and the outputs and the scratch at some contents. -/
theorem kernelRun (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hcase : Case i)
    (x0 : Vec F S1x256x7168 .bf16) (x1 : Vec F S1x256x7168 .bf16) (x2 : Vec F S12x256 .f32) (x3 : Vec F S12x7168 .f32) (x4 : Vec F S1x256x7168 .fp8e4m3) (x5 : Vec F S1x256x56 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0) -∗ K ⟨⟩))
          ⊢ wp frame (wpE (defs₀ (F := F)) Variants.none c none) E (cc0_adafactor_step i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_adafactor_step_eq_skeleton]; unfold cc0_adafactor_step_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    rcases hcase with ⟨hc0, hc1, hc2⟩ | ⟨hc0, hc1, hc2⟩ | ⟨hc0, hc1, hc2⟩
    all_goals (
      sl_exec (disch := first | sl_exact hc0 | sl_exact hc1 | sl_exact hc2)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      iexact HT0
    )

end Cert.Kernel.Body

end
-- ==== Proof.KernelBody.Frame.lean ====
/- The frame of the kernel at any floats: every run ends with its arguments unchanged and every semaphore at
   rest. The outputs' contents are named nowhere (`Dat.toRForget`); the scratch is at some contents between points. -/
module

public import proofs.«01_k».proof.Proof.KernelBody.Run
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (6, 7, 8, 9, 10, 11): nothing reads what the kernel leaves in them, so nothing
    of it is named (Lib/Pipeline/Dat.lean `Dat.toRForget`). -/
def forgets0 : Fin 12 → Bool := fun w => w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  have hN : t.val < 12 := lt_of_lt_of_eq t.isLt (show (cfgM m hO).N = 12 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  iintro ⟨⟨⟨⟨HS0, HS1, HS2, HS3, HS4, HS5, HS6, HS7, HS8⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ _ _ _ _ _ _ _ _ _ _ _ _ _ _ _ _ (case_of t) (iblk m hO c 0 t) (iblk m hO c 1 t) (iblk m hO c 2 t) (iblk m hO c 3 t) (iblk m hO c 4 t) (iblk m hO c 5 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HT0]; · iexact HT0
  iintro ⟨H0, H1, H2, H3, H4, H5, H6, H7, H8, H9, H10, H11, HS0, HS1, HS2, HS3, HS4, HS5, HS6, HS7, HS8, HT0⟩
  isplitl [HS0 HS1 HS2 HS3 HS4 HS5 HS6 HS7 HS8 Hg HT0]
  · isplitl [HS0 HS1 HS2 HS3 HS4 HS5 HS6 HS7 HS8 Hg]
    · isplitl [HS0 HS1 HS2 HS3 HS4 HS5 HS6 HS7 HS8]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        iexact HS8
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO)

/-- The frame: from any memory with zero counters every run of @main terminates with the argument arrays unchanged and
    every counter at zero — for every contents of the prefetched table, under `Ok m` (which no index map makes a demand). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Body

end
-- ==== Proof.KernelIdealBody.Base.lean ====
/- What the runs of the kernel's body share: the program up to the pallas_call, the prefetched table, the
   windows' blocks, the branches of the body in closed form over the grid's points, the staging and scratch memrefs. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof
    data whose array is `V`'s and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (by decide : main_arg6 ∈ Pipeline.restRefs sig spec0)).trans (V_main_arg6 m c)⟩) h

/-! ## The body's branch conditions -/

/-- The body's three branches on the grid coordinate: the first point (where the carried scratch is
    set up), and the last point (where the column and the row statistics are written out). -/
abbrev condFirst (i : grid0.Coords) : Prop :=
  (Scalar.cmpi .ne (Scalar.extui (Scalar.cmpi .eq (BitVec.ofNat 32 (i 0).val) 0#32) : BitVec 32) 0#32 : BitVec 1) = 1#1
abbrev condCol (i : grid0.Coords) : Prop := k0_cond2 i = 1#1
abbrev condRow (i : grid0.Coords) : Prop := k0_cond3 i = 1#1

theorem coord_val (t : Fin grid0.N) : (grid0.coords t 0).val = t.val / 1 % 12 :=
  Pipeline.Grid.coords_val t 0 (by decide) rfl
/-- The first holds at point 0 only, the other two at point 11 only. -/
theorem hcondFirst (t : Fin grid0.N) : condFirst (grid0.coords t) ↔ t.val = 0 := by
  have ht : t.val < 12 := Nat.lt_of_lt_of_eq t.isLt N_0
  have e0 := coord_val t
  simp only [condFirst, e0]
  word_cmp
theorem hcondCol (t : Fin grid0.N) : condCol (grid0.coords t) ↔ t.val = 11 := by
  have ht : t.val < 12 := Nat.lt_of_lt_of_eq t.isLt N_0
  have e0 := coord_val t
  simp only [condCol, k0_cond2, e0]
  word_cmp
theorem hcondRow (t : Fin grid0.N) : condRow (grid0.coords t) ↔ t.val = 11 := by
  have ht : t.val < 12 := Nat.lt_of_lt_of_eq t.isLt N_0
  have e0 := coord_val t
  simp only [condRow, k0_cond3, e0]
  word_cmp

/-- The three ways a point's branches can go. -/
abbrev Case (i : grid0.Coords) : Prop :=
  (condFirst i ∧ ¬condCol i ∧ ¬condRow i) ∨ (¬condFirst i ∧ ¬condCol i ∧ ¬condRow i)
    ∨ (¬condFirst i ∧ condCol i ∧ condRow i)
theorem case_of (t : Fin grid0.N) : Case (grid0.coords t) := by
  simp only [Case, hcondFirst, hcondCol, hcondRow]
  have ht : t.val < 12 := Nat.lt_of_lt_of_eq t.isLt N_0
  omega

/-! ## Where the windows are idle (the printed configuration's table `Cfg.idle`) -/

/-- An input window is never idle. -/
theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)
theorem liveAt0_2 (hO : Ok m) : ∀ t : Fin (cfgM m hO).N, (cfgM m hO).idle 2 (grid0.coords t) = false :=
  (fun _ => rfl : ∀ t : Fin grid0.N, idle0 2 (grid0.coords t) = false)
theorem liveAt0_3 (hO : Ok m) : ∀ t : Fin (cfgM m hO).N, (cfgM m hO).idle 3 (grid0.coords t) = false :=
  (fun _ => rfl : ∀ t : Fin grid0.N, idle0 3 (grid0.coords t) = false)
theorem liveAt0_4 (hO : Ok m) : ∀ t : Fin (cfgM m hO).N, (cfgM m hO).idle 4 (grid0.coords t) = false :=
  (fun _ => rfl : ∀ t : Fin grid0.N, idle0 4 (grid0.coords t) = false)
theorem liveAt0_5 (hO : Ok m) : ∀ t : Fin (cfgM m hO).N, (cfgM m hO).idle 5 (grid0.coords t) = false :=
  (fun _ => rfl : ∀ t : Fin grid0.N, idle0 5 (grid0.coords t) = false)
/-! ## The staging and scratch memrefs -/

/-- Each window's current staging memref at point `t`, spelled as the pipeline passes it (`bodyAt0`), and its wholeness. -/
abbrev ms0_0 (hO : Ok m) (t : Fin (cfgM m hO).N) : Memref sig .tc .vmem S1x256x7168 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256x7168 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S12x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S12x7168 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x7168 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x56 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x7168 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x256x7168 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S12x256 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S12x7168 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x256x7168 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x256x56 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S8x7168 .f32 := Memref.whole cc0_scratch4
abbrev scM0_5 : Memref sig .tc .vmem S12x8x7168 .f32 := Memref.whole cc0_scratch5
abbrev scM0_6 : Memref sig .tc .vmem S256x7168 .f32 := Memref.whole cc0_scratch6
abbrev scM0_7 : Memref sig .tc .vmem S16x128 .f32 := Memref.whole cc0_scratch7
abbrev scM0_8 : Memref sig .tc .vmem S16x128 .f32 := Memref.whole cc0_scratch8

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-! ## The body as the pipeline calls it -/

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_adafactor_step (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

end Cert.KernelIdeal.Body

end
-- ==== Proof.KernelIdealBody.Run.lean ====
/- One run of the kernel's body at any point of the grid: from the inputs' staging memrefs at their contents and
   everything it writes at some contents, to the inputs' as they were and the rest at some contents. -/
module

public import proofs.«01_k».proof.Proof.KernelIdealBody.Base
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The body's triple, whichever of the three cases the point is in: on whole staging memrefs — the inputs' at their
    contents, the outputs' and the scratch at anything — the body runs to a continuation holding the inputs' as they
    were and the outputs and the scratch at some contents. -/
theorem kernelRun (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hcase : Case i)
    (x0 : Vec F S1x256x7168 .bf16) (x1 : Vec F S1x256x7168 .bf16) (x2 : Vec F S12x256 .f32) (x3 : Vec F S12x7168 .f32) (x4 : Vec F S1x256x7168 .fp8e4m3) (x5 : Vec F S1x256x56 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0) -∗ K ⟨⟩))
          ⊢ wp frame (wpE (defs₀ (F := F)) Variants.none c none) E (cc0_adafactor_step i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_adafactor_step_eq_skeleton]; unfold cc0_adafactor_step_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    rcases hcase with ⟨hc0, hc1, hc2⟩ | ⟨hc0, hc1, hc2⟩ | ⟨hc0, hc1, hc2⟩
    all_goals (
      sl_exec (disch := first | sl_exact hc0 | sl_exact hc1 | sl_exact hc2)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      iexact HT0
    )

end Cert.KernelIdeal.Body

end
-- ==== Proof.KernelIdealBody.Frame.lean ====
/- The frame of the kernel at any floats: every run ends with its arguments unchanged and every semaphore at
   rest. The outputs' contents are named nowhere (`Dat.toRForget`); the scratch is at some contents between points. -/
module

public import proofs.«01_k».proof.Proof.KernelIdealBody.Run
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (6, 7, 8, 9, 10, 11): nothing reads what the kernel leaves in them, so nothing
    of it is named (Lib/Pipeline/Dat.lean `Dat.toRForget`). -/
def forgets0 : Fin 12 → Bool := fun w => w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  have hN : t.val < 12 := lt_of_lt_of_eq t.isLt (show (cfgM m hO).N = 12 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  iintro ⟨⟨⟨⟨HS0, HS1, HS2, HS3, HS4, HS5, HS6, HS7, HS8⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ _ _ _ _ _ _ _ _ _ _ _ _ _ _ _ _ (case_of t) (iblk m hO c 0 t) (iblk m hO c 1 t) (iblk m hO c 2 t) (iblk m hO c 3 t) (iblk m hO c 4 t) (iblk m hO c 5 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HT0]; · iexact HT0
  iintro ⟨H0, H1, H2, H3, H4, H5, H6, H7, H8, H9, H10, H11, HS0, HS1, HS2, HS3, HS4, HS5, HS6, HS7, HS8, HT0⟩
  isplitl [HS0 HS1 HS2 HS3 HS4 HS5 HS6 HS7 HS8 Hg HT0]
  · isplitl [HS0 HS1 HS2 HS3 HS4 HS5 HS6 HS7 HS8 Hg]
    · isplitl [HS0 HS1 HS2 HS3 HS4 HS5 HS6 HS7 HS8]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        iexact HS8
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO)

/-- The frame: from any memory with zero counters every run of @main terminates with the argument arrays unchanged and
    every counter at zero — for every contents of the prefetched table, under `Ok m` (which no index map makes a demand). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Body

end
-- ==== Proof.KernelIdealValue.RunMid.lean ====
/- The run of the kernel body in one of its three cases, with the contents it leaves. -/
module

public import proofs.«01_k».proof.Proof.KernelIdealBody.Base
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The body at a grid point that is neither the first nor the last: every buffer it writes ends at the contents named in the result. -/
@[irreducible] def runMid (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hc0 : ¬condFirst i) (hc1 : ¬condCol i) (hc2 : ¬condRow i)
    (x0 : Vec F S1x256x7168 .bf16) (x1 : Vec F S1x256x7168 .bf16) (x2 : Vec F S12x256 .f32) (x3 : Vec F S12x7168 .f32) (x4 : Vec F S1x256x7168 .fp8e4m3) (x5 : Vec F S1x256x56 .f32) (xt0 : TbBuf0 (F := F) c tbM0_0) (f6 : BufTy.Contents (Elt F) arg8.view.ty) (f7 : BufTy.Contents (Elt F) arg9.view.ty) (f8 : BufTy.Contents (Elt F) arg10.view.ty) (f9 : BufTy.Contents (Elt F) arg11.view.ty) (f10 : BufTy.Contents (Elt F) arg12.view.ty) (f11 : BufTy.Contents (Elt F) arg13.view.ty) (fs0 : BufTy.Contents (Elt F) arg14.view.ty) (fs1 : BufTy.Contents (Elt F) arg15.view.ty) (fs2 : BufTy.Contents (Elt F) arg16.view.ty) (fs3 : BufTy.Contents (Elt F) arg17.view.ty) (fs4 : BufTy.Contents (Elt F) arg18.view.ty) (fs5 : BufTy.Contents (Elt F) arg19.view.ty) (fs6 : BufTy.Contents (Elt F) arg20.view.ty) (fs7 : BufTy.Contents (Elt F) arg21.view.ty) (fs8 : BufTy.Contents (Elt F) arg22.view.ty) :
    Σ' (C8 : BufTy.Contents (Elt F) arg8.view.ty), Σ' (C9 : BufTy.Contents (Elt F) arg9.view.ty), Σ' (C10 : BufTy.Contents (Elt F) arg10.view.ty), Σ' (C11 : BufTy.Contents (Elt F) arg11.view.ty), Σ' (C12 : BufTy.Contents (Elt F) arg12.view.ty), Σ' (C13 : BufTy.Contents (Elt F) arg13.view.ty), Σ' (C14 : BufTy.Contents (Elt F) arg14.view.ty), Σ' (C15 : BufTy.Contents (Elt F) arg15.view.ty), Σ' (C16 : BufTy.Contents (Elt F) arg16.view.ty), Σ' (C17 : BufTy.Contents (Elt F) arg17.view.ty), Σ' (C18 : BufTy.Contents (Elt F) arg18.view.ty), Σ' (C19 : BufTy.Contents (Elt F) arg19.view.ty), Σ' (C20 : BufTy.Contents (Elt F) arg20.view.ty), Σ' (C21 : BufTy.Contents (Elt F) arg21.view.ty), { C22 : BufTy.Contents (Elt F) arg22.view.ty // ∀ (E : Set ℕ),
      (iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} f6) ∗ (arg9.view.loc (c : Thread nD τ) ↦[arg9.view.set]{fullShare} f7) ∗ (arg10.view.loc (c : Thread nD τ) ↦[arg10.view.set]{fullShare} f8) ∗ (arg11.view.loc (c : Thread nD τ) ↦[arg11.view.set]{fullShare} f9) ∗ (arg12.view.loc (c : Thread nD τ) ↦[arg12.view.set]{fullShare} f10) ∗ (arg13.view.loc (c : Thread nD τ) ↦[arg13.view.set]{fullShare} f11) ∗ (arg14.view.loc (c : Thread nD τ) ↦[arg14.view.set]{fullShare} fs0) ∗ (arg15.view.loc (c : Thread nD τ) ↦[arg15.view.set]{fullShare} fs1) ∗ (arg16.view.loc (c : Thread nD τ) ↦[arg16.view.set]{fullShare} fs2) ∗ (arg17.view.loc (c : Thread nD τ) ↦[arg17.view.set]{fullShare} fs3) ∗ (arg18.view.loc (c : Thread nD τ) ↦[arg18.view.set]{fullShare} fs4) ∗ (arg19.view.loc (c : Thread nD τ) ↦[arg19.view.set]{fullShare} fs5) ∗ (arg20.view.loc (c : Thread nD τ) ↦[arg20.view.set]{fullShare} fs6) ∗ (arg21.view.loc (c : Thread nD τ) ↦[arg21.view.set]{fullShare} fs7) ∗ (arg22.view.loc (c : Thread nD τ) ↦[arg22.view.set]{fullShare} fs8) ∗ tbPt0 c tbM0_0 xt0) : sProp 𝕄)
      ⊢ wp frame (wpE (defs₀ (F := F)) Variants.none c none) E (cc0_adafactor_step i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20) ∗ (arg21.view.loc (c : Thread nD τ) ↦[arg21.view.set]{fullShare} C21) ∗ (arg22.view.loc (c : Thread nD τ) ↦[arg22.view.set]{fullShare} C22) ∗ tbPt0 c tbM0_0 xt0)) } := by
  refine ⟨?_, ?_, ?_, ?_, ?_, ?_, ?_, ?_, ?_, ?_, ?_, ?_, ?_, ?_, ?_, fun E => ?run⟩
  case run =>
    simp only [cc0_adafactor_step_eq_skeleton]; unfold cc0_adafactor_step_skel
    iintro ⟨H0, H1, H2, H3, H4, H5, H6, H7, H8, H9, H10, H11, HS0, HS1, HS2, HS3, HS4, HS5, HS6, HS7, HS8, HT0⟩
    sl_exec (disch := first | sl_exact hc0 | sl_exact hc1 | sl_exact hc2)
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HT0

end Cert.KernelIdeal.Body

end
-- ==== Proof.KernelIdealValue.Common.lean ====
/- Reading contents at natural-number coordinates, and reading a buffer after a list of stores.
   `at2 X r c` (`at3 X a r c`) is the entry of an array at natural coordinates, zero outside the array. -/
module

public import Idealize.ShloMosaic.Lib.Pointwise
public import Idealize.ShloMosaic.Lib.Pipeline.Value
public import Idealize.ShloMosaic.Lib.Pipeline.ValueKit.Tiles

@[expose] public section

noncomputable section

namespace Cert.Val

open Idealize.ShloMosaic

/-- Entry `(r, c)` of a matrix of extended reals; zero outside it. -/
def at2 {n0 n1 : ℕ} (X : (⟨2, ![n0, n1]⟩ : Shape).Idx → EReal) (r c : ℕ) : EReal :=
  if h : r < n0 ∧ c < n1 then X (ix2 ⟨r, h.1⟩ ⟨c, h.2⟩) else 0

/-- Entry `(a, r, c)` of a rank-three array of extended reals; zero outside it. -/
def at3 {n0 n1 n2 : ℕ} (X : (⟨3, ![n0, n1, n2]⟩ : Shape).Idx → EReal) (a r c : ℕ) : EReal :=
  if h : a < n0 ∧ r < n1 ∧ c < n2 then X (ix3 ⟨a, h.1⟩ ⟨r, h.2.1⟩ ⟨c, h.2.2⟩) else 0

/-- Inside the matrix `at2` is the entry. -/
theorem at2_eq {n0 n1 : ℕ} (X : (⟨2, ![n0, n1]⟩ : Shape).Idx → EReal) (y : (⟨2, ![n0, n1]⟩ : Shape).Idx) :
    at2 X (y 0).val (y 1).val = X y := by
  unfold at2
  rw [dif_pos ⟨(y 0).isLt, (y 1).isLt⟩]
  congr 1
  funext a
  fin_cases a <;> rfl

/-- Inside the array `at3` is the entry. -/
theorem at3_eq {n0 n1 n2 : ℕ} (X : (⟨3, ![n0, n1, n2]⟩ : Shape).Idx → EReal) (y : (⟨3, ![n0, n1, n2]⟩ : Shape).Idx) :
    at3 X (y 0).val (y 1).val (y 2).val = X y := by
  unfold at3
  rw [dif_pos ⟨(y 0).isLt, (y 1).isLt, (y 2).isLt⟩]
  congr 1
  funext a
  fin_cases a <;> rfl

/-- Two arrays that agree at `(a, r, c)` have the same entry there. -/
theorem at3_congr {n0 n1 n2 : ℕ} {X Y : (⟨3, ![n0, n1, n2]⟩ : Shape).Idx → EReal} {a r c : ℕ}
    (h : ∀ y : (⟨3, ![n0, n1, n2]⟩ : Shape).Idx, (y 0).val = a → (y 1).val = r → (y 2).val = c → X y = Y y) : at3 X a r c = at3 Y a r c := by
  unfold at3
  split
  · exact h _ rfl rfl rfl
  · rfl

/-- Two matrices that agree at `(r, c)` have the same entry there. -/
theorem at2_congr {n0 n1 : ℕ} {X Y : (⟨2, ![n0, n1]⟩ : Shape).Idx → EReal} {r c : ℕ}
    (h : ∀ y : (⟨2, ![n0, n1]⟩ : Shape).Idx, (y 0).val = r → (y 1).val = c → X y = Y y) : at2 X r c = at2 Y r c := by
  unfold at2
  split
  · exact h _ rfl rfl
  · rfl

/-- A load of a block of a matrix, read at an index. -/
theorem ld_at2 {n0 n1 : ℕ} (X : (⟨2, ![n0, n1]⟩ : Shape).Idx → EReal) (off size : Fin 2 → ℕ) (inb)
    (x : (Rect.unit (s := ⟨2, ![n0, n1]⟩) off size inb).shape.Idx) :
    View.ld (Val := fun _ => EReal) (S := ⟨2, ![n0, n1]⟩) (e' := .f32) X (Rect.unit off size inb) x = at2 X (off 0 + (x 0).val) (off 1 + (x 1).val) := by
  rw [View.ld_unit_apply_of (Val := fun _ => EReal) (e := .f32) X off size inb x ((Rect.unit (s := ⟨2, ![n0, n1]⟩) off size inb).idx x) (fun a => by rw [Rect.idx_unit_val]), ← at2_eq X, Rect.idx_unit_val, Rect.idx_unit_val]

/-- A load of a block of a rank-three array, read at an index. -/
theorem ld_at3 {n0 n1 n2 : ℕ} (X : (⟨3, ![n0, n1, n2]⟩ : Shape).Idx → EReal) (off size : Fin 3 → ℕ) (inb)
    (x : (Rect.unit (s := ⟨3, ![n0, n1, n2]⟩) off size inb).shape.Idx) :
    View.ld (Val := fun _ => EReal) (S := ⟨3, ![n0, n1, n2]⟩) (e' := .f32) X (Rect.unit off size inb) x = at3 X (off 0 + (x 0).val) (off 1 + (x 1).val) (off 2 + (x 2).val) := by
  rw [View.ld_unit_apply_of (Val := fun _ => EReal) (e := .f32) X off size inb x ((Rect.unit (s := ⟨3, ![n0, n1, n2]⟩) off size inb).idx x) (fun a => by rw [Rect.idx_unit_val]), ← at3_eq X, Rect.idx_unit_val, Rect.idx_unit_val, Rect.idx_unit_val]

/-- A load from a matrix buffer (f32), read at an index. -/
theorem readAt2_f32 {sig : RefSig} {κ : Kind} {sp : Space} {n0 n1 : ℕ} (v : View sig κ sp ⟨2, ![n0, n1]⟩ .f32) (f : v.ty.Contents (Elt Ideal)) (off size : Fin 2 → ℕ) (inb)
    (x : (Rect.unit (s := ⟨2, ![n0, n1]⟩) off size inb).shape.Idx) :
    v.readAt (Elt Ideal) (Rect.unit (s := ⟨2, ![n0, n1]⟩) off size inb).toLoadRect f x = at2 (v.read (Elt Ideal) f) (off 0 + (x 0).val) (off 1 + (x 1).val) :=
  ld_at2 (v.read (Elt Ideal) f) off size inb x

/-- A load from a rank-three buffer (f32), read at an index. -/
theorem readAt3_f32 {sig : RefSig} {κ : Kind} {sp : Space} {n0 n1 n2 : ℕ} (v : View sig κ sp ⟨3, ![n0, n1, n2]⟩ .f32) (f : v.ty.Contents (Elt Ideal)) (off size : Fin 3 → ℕ) (inb)
    (x : (Rect.unit (s := ⟨3, ![n0, n1, n2]⟩) off size inb).shape.Idx) :
    v.readAt (Elt Ideal) (Rect.unit (s := ⟨3, ![n0, n1, n2]⟩) off size inb).toLoadRect f x = at3 (v.read (Elt Ideal) f) (off 0 + (x 0).val) (off 1 + (x 1).val) (off 2 + (x 2).val) :=
  ld_at3 (v.read (Elt Ideal) f) off size inb x

/-- A load from a matrix buffer (bf16), read at an index. -/
theorem readAt2_bf16 {sig : RefSig} {κ : Kind} {sp : Space} {n0 n1 : ℕ} (v : View sig κ sp ⟨2, ![n0, n1]⟩ .bf16) (f : v.ty.Contents (Elt Ideal)) (off size : Fin 2 → ℕ) (inb)
    (x : (Rect.unit (s := ⟨2, ![n0, n1]⟩) off size inb).shape.Idx) :
    v.readAt (Elt Ideal) (Rect.unit (s := ⟨2, ![n0, n1]⟩) off size inb).toLoadRect f x = at2 (v.read (Elt Ideal) f) (off 0 + (x 0).val) (off 1 + (x 1).val) :=
  ld_at2 (v.read (Elt Ideal) f) off size inb x

/-- A load from a rank-three buffer (bf16), read at an index. -/
theorem readAt3_bf16 {sig : RefSig} {κ : Kind} {sp : Space} {n0 n1 n2 : ℕ} (v : View sig κ sp ⟨3, ![n0, n1, n2]⟩ .bf16) (f : v.ty.Contents (Elt Ideal)) (off size : Fin 3 → ℕ) (inb)
    (x : (Rect.unit (s := ⟨3, ![n0, n1, n2]⟩) off size inb).shape.Idx) :
    v.readAt (Elt Ideal) (Rect.unit (s := ⟨3, ![n0, n1, n2]⟩) off size inb).toLoadRect f x = at3 (v.read (Elt Ideal) f) (off 0 + (x 0).val) (off 1 + (x 1).val) (off 2 + (x 2).val) :=
  ld_at3 (v.read (Elt Ideal) f) off size inb x

/-- A load from a matrix buffer (fp8e4m3), read at an index. -/
theorem readAt2_fp8e4m3 {sig : RefSig} {κ : Kind} {sp : Space} {n0 n1 : ℕ} (v : View sig κ sp ⟨2, ![n0, n1]⟩ .fp8e4m3) (f : v.ty.Contents (Elt Ideal)) (off size : Fin 2 → ℕ) (inb)
    (x : (Rect.unit (s := ⟨2, ![n0, n1]⟩) off size inb).shape.Idx) :
    v.readAt (Elt Ideal) (Rect.unit (s := ⟨2, ![n0, n1]⟩) off size inb).toLoadRect f x = at2 (v.read (Elt Ideal) f) (off 0 + (x 0).val) (off 1 + (x 1).val) :=
  ld_at2 (v.read (Elt Ideal) f) off size inb x

/-- A load from a rank-three buffer (fp8e4m3), read at an index. -/
theorem readAt3_fp8e4m3 {sig : RefSig} {κ : Kind} {sp : Space} {n0 n1 n2 : ℕ} (v : View sig κ sp ⟨3, ![n0, n1, n2]⟩ .fp8e4m3) (f : v.ty.Contents (Elt Ideal)) (off size : Fin 3 → ℕ) (inb)
    (x : (Rect.unit (s := ⟨3, ![n0, n1, n2]⟩) off size inb).shape.Idx) :
    v.readAt (Elt Ideal) (Rect.unit (s := ⟨3, ![n0, n1, n2]⟩) off size inb).toLoadRect f x = at3 (v.read (Elt Ideal) f) (off 0 + (x 0).val) (off 1 + (x 1).val) (off 2 + (x 2).val) :=
  ld_at3 (v.read (Elt Ideal) f) off size inb x

/-- Where a unit rectangle places an index, coordinate by coordinate. -/
theorem emb_unit_val {s : Shape} (off size : Fin s.rank → ℕ) (inb) (x : (Rect.unit (s := s) off size inb).shape.Idx) (a : Fin s.rank) :
    ((Rect.unit (s := s) off size inb).emb x a).val = off a + (x a).val := by
  rw [Rect.emb_apply]
  simp

/-- A buffer read after a list of stores, each of which agrees with one function `G`: it reads `G` wherever the
    contents before already did or some store covers the place. -/
theorem read_writes_spec {sig : RefSig} {κ : Kind} {sp : Space} {s : Shape} {e : EltTy} {Val : EltTy → Type}
    (v : View sig κ sp s e) (f : v.ty.Contents Val) (G : s.Idx → Val e) (L : List (View.Piece Val s e))
    (hp : ∀ p ∈ L, ∀ x : p.1.shape.Idx, p.2 x = G (p.1.emb x)) (y : s.Idx)
    (hn : (∀ p ∈ L, y ∉ p.1.set) → v.read Val f y = G y) : v.read Val (v.writes Val f L) y = G y := by
  by_cases h : ∃ p ∈ L, y ∈ p.1.set
  · exact View.read_writes_apply_of_pieces v f G L hp y h
  · push Not at h
    rw [View.read_writes_apply_of_forall_not_mem v f y L h]
    exact hn h

/-- A sum over `n` lanes of sums over `m` blocks of `n` columns is the sum over all `m * n` columns. -/
theorem sum_blocks (m n : ℕ) (f : ℕ → EReal) :
    (∑ l : Fin n, ∑ c ∈ Finset.range m, f (n * c + l.val)) = ∑ d ∈ Finset.range (m * n), f d := by
  rw [Finset.sum_comm, Finset.sum_range (n := m * n) f, ← (finProdFinEquiv (m := m) (n := n)).sum_comp, Fintype.sum_prod_type,
    ← Fin.sum_univ_eq_sum_range (fun c => ∑ l : Fin n, f (n * c + l.val)) m]
  refine Finset.sum_congr rfl fun c _ => Finset.sum_congr rfl fun l _ => ?_
  show f (n * c.val + l.val) = f (l.val + n * c.val)
  rw [add_comm]

/-- A sum over 128 lanes of sums over 56 blocks of 128 columns is the sum over all 7168 columns. -/
theorem sum_lanes (f : ℕ → EReal) :
    (∑ l : Fin 128, ∑ c ∈ Finset.range 56, f (128 * c + l.val)) = ∑ d ∈ Finset.range 7168, f d :=
  sum_blocks 56 128 f

end Cert.Val

end
-- ==== Proof.KernelIdealValue.T1.lean ====
/- What the first loop leaves: the row sums of squares of the gradient. -/
module

public import proofs.«01_k».proof.Proof.Gen.KernelIdeal.Loops
public import proofs.«01_k».proof.Proof.KernelIdealValue.Common

@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen

/-- The sum of squares of row `r` of a block `[1, 256, 7168]`. -/
def rowSq (X : S1x256x7168.Idx → EReal) (r : ℕ) : EReal := ∑ d ∈ Finset.range 7168, at3 X 0 r d * at3 X 0 r d

variable (𝒱 : Variants) (c : Dev nD) (bd : Option 𝒱.V) (i : grid0.Coords) (arg1 : Memref sig .tc .smem S12 .i32) (harg1 : arg1.IsWhole) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)

/-- One trip's stores into the row sums: sixteen rows, each lane the row's sum of squares. -/
theorem t1_pieces (X_arg2 : BufTy.Contents (Elt Ideal) arg2.view.ty) (X_arg3 : BufTy.Contents (Elt Ideal) arg3.view.ty) (k : Fin k0_t1_loop.trips)
    (f : BufTy.Contents (Elt Ideal) arg16.view.ty) (f' : BufTy.Contents (Elt Ideal) arg21.view.ty) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 k).1 f f', ∀ x : p.1.shape.Idx,
      p.2 x = (fun y : S256x128.Idx => rowSq (arg3.view.read (Elt Ideal) X_arg3) (y 0).val) (p.1.emb x) := by
  delta trip_k0_t1
  dsimp only
  sl_unfold_run_names
  intro p hp
  rw [List.mem_singleton] at hp
  subst hp
  intro x
  dsimp only
  obtain ⟨r, l, rfl⟩ : ∃ (r : Fin 16) (l : Fin 128), x = ix2 r l := ⟨x 0, x 1, (ix2_eta x).symm⟩
  pointwise
  have e0 : ((Rect.unit (s := S256x128) (k0_off58 k) ![16, 128] (k0_off58_inb k)).emb (ix2 r l) 0).val = 16 * k.val + r.val := by
    rw [Rect.emb_apply]; simp [k0_off58_eq]
  rw [e0, rowSq, ← sum_lanes]
  refine Finset.sum_congr rfl fun x _ => ?_
  simp only [Finset.sum_range_succ, Finset.sum_range_zero, zero_add, readAt3_bf16, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq]
  rfl

/-- One trip's stores into the row sums cover its sixteen rows. -/
theorem t1_hits (X_arg2 : BufTy.Contents (Elt Ideal) arg2.view.ty) (X_arg3 : BufTy.Contents (Elt Ideal) arg3.view.ty) (k : Fin k0_t1_loop.trips)
    (f : BufTy.Contents (Elt Ideal) arg16.view.ty) (f' : BufTy.Contents (Elt Ideal) arg21.view.ty) (y : S256x128.Idx)
    (hy : 16 * k.val ≤ (y 0).val ∧ (y 0).val < 16 * k.val + 16) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 k).1 f f', y ∈ p.1.set := by
  delta trip_k0_t1
  dsimp only
  refine ⟨_, List.mem_singleton.2 rfl, ?_⟩
  dsimp only
  rw [Rect.mem_set_unit]
  have h1 : (y 1).val < 128 := (y 1).isLt
  rw [k0_off58_eq]
  intro a
  fin_cases a
  · exact hy
  · exact ⟨Nat.zero_le _, by simpa using h1⟩

/-- After `n` trips the row sums of the first `16 * n` rows are in place, in every lane. -/
theorem t1_rsum (X_arg2 : BufTy.Contents (Elt Ideal) arg2.view.ty) (X_arg3 : BufTy.Contents (Elt Ideal) arg3.view.ty)
    (G : BufTy.Contents (Elt Ideal) arg16.view.ty) (G' : BufTy.Contents (Elt Ideal) arg21.view.ty) (n : ℕ) (hn : n ≤ 16) (y : S256x128.Idx) (hy : (y 0).val < 16 * n) :
    arg16.view.read (Elt Ideal) (arg16.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 G G' n).1) y
      = rowSq (arg3.view.read (Elt Ideal) X_arg3) (y 0).val := by
  induction n with
  | zero => omega
  | succ n ih =>
    have ht : k0_t1_loop.trips = 16 := by decide +kernel
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 G G' ⟨n, by omega⟩
    simp only at hs
    rw [hs]
    dsimp only
    rw [View.writes_append]
    refine read_writes_spec (Val := Elt Ideal) arg16.view _ (fun y : S256x128.Idx => rowSq (arg3.view.read (Elt Ideal) X_arg3) (y 0).val) _ ?_ y ?_
    · exact t1_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 ⟨n, by omega⟩ _ _
    intro hnot
    refine ih (by omega) ?_
    by_contra hlt
    obtain ⟨p, hp, hy'⟩ := t1_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 ⟨n, by omega⟩ _ _ y ⟨not_lt.1 hlt, by show _ < 16 * n + 16; omega⟩
    exact hnot p hp hy'

end Cert.Val

end
-- ==== Proof.KernelIdealValue.T2.lean ====
/- What the second loop leaves: the new column statistics and their inverse square roots. -/
module

public import proofs.«01_k».proof.Proof.Gen.KernelIdeal.Loops
public import proofs.«01_k».proof.Proof.KernelIdealValue.Common

@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen

/-- The sum of squares of column `d` of a block `[1, 256, 7168]`. -/
def colSq (X : S1x256x7168.Idx → EReal) (d : ℕ) : EReal := ∑ r ∈ Finset.range 256, at3 X 0 r d * at3 X 0 r d

variable (𝒱 : Variants) (c : Dev nD) (bd : Option 𝒱.V) (i : grid0.Coords) (arg1 : Memref sig .tc .smem S12 .i32) (harg1 : arg1.IsWhole) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)

/-- The decay `β` of the step held in a word. -/
def betaK (v2 : BitVec 32) : EReal := k0_pay830 (F := Ideal) v2 (ix2 0 0)

/-- The new column statistic from the old one and the column's sum of squares. -/
def vcNew (β x q : EReal) : EReal := β * x + (1 - β) * (q * Ideal.ofBits FTy.f32 0x3B800000#32)

theorem pay830_eq (v2 : BitVec 32) (q : Fin 1) (l : Fin 128) : k0_pay830 (F := Ideal) v2 (ix2 q l) = betaK v2 := by
  unfold betaK
  pointwise [k0_pay830, k0_pay829]

theorem pay831_eq (v2 : BitVec 32) (q : Fin 1) (l : Fin 128) : k0_pay831 (F := Ideal) v2 (ix2 q l) = 1 - betaK v2 := by
  rw [← pay830_eq v2 q l]
  pointwise [k0_pay831]

/-- One trip's stores into the column statistics. -/
theorem t2_pieces (arg0 : BitVec 32) (v2 : Elt Ideal .i32) (X_arg3 : BufTy.Contents (Elt Ideal) arg3.view.ty) (k : Fin k0_t2_loop.trips)
    (f : BufTy.Contents (Elt Ideal) arg18.view.ty) (f' : BufTy.Contents (Elt Ideal) arg19.view.ty) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 k).2.1 f f', ∀ x : p.1.shape.Idx,
      p.2 x = (fun y : S12x8x7168.Idx => vcNew (betaK v2) (at3 (arg19.view.read (Elt Ideal) f') (y 0).val (y 1).val (y 2).val) (colSq (arg3.view.read (Elt Ideal) X_arg3) (y 2).val)) (p.1.emb x) := by
  delta trip_k0_t2
  dsimp only
  sl_unfold_run_names
  simp only [List.forall_mem_cons]
  refine ⟨?_, ?_, ?_, ?_, ?_, ?_, ?_, ?_, fun _ h => absurd h List.not_mem_nil⟩
  all_goals (
    intro x
    obtain ⟨q, r, l, rfl⟩ : ∃ (q : Fin 1) (r : Fin 8) (l : Fin 128), x = ix3 q r l := ⟨x 0, x 1, x 2, (ix3_eta x).symm⟩
    obtain rfl : q = 0 := Subsingleton.elim _ _
    pointwise [k0_pay840, k0_pay839]
    rw [pay830_eq, pay831_eq]
    unfold vcNew colSq
    rw [← sum_blocks 16 16]
    simp only [emb_unit_val, Finset.sum_range_succ, Finset.sum_range_zero, zero_add, readAt3_bf16, readAt3_f32, show (0#32 : BitVec 32) = BitVec.ofNat 32 (128 * (0 : Fin 8).val) from rfl, show (128#32 : BitVec 32) = BitVec.ofNat 32 (128 * (1 : Fin 8).val) from rfl, show (256#32 : BitVec 32) = BitVec.ofNat 32 (128 * (2 : Fin 8).val) from rfl, show (384#32 : BitVec 32) = BitVec.ofNat 32 (128 * (3 : Fin 8).val) from rfl, show (512#32 : BitVec 32) = BitVec.ofNat 32 (128 * (4 : Fin 8).val) from rfl, show (640#32 : BitVec 32) = BitVec.ofNat 32 (128 * (5 : Fin 8).val) from rfl, show (768#32 : BitVec 32) = BitVec.ofNat 32 (128 * (6 : Fin 8).val) from rfl, show (896#32 : BitVec 32) = BitVec.ofNat 32 (128 * (7 : Fin 8).val) from rfl, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq]
    rfl)

/-- One trip's stores into the inverse square roots of the column statistics. -/
theorem t2_pieces18 (arg0 : BitVec 32) (v2 : Elt Ideal .i32) (X_arg3 : BufTy.Contents (Elt Ideal) arg3.view.ty) (k : Fin k0_t2_loop.trips)
    (f : BufTy.Contents (Elt Ideal) arg18.view.ty) (f' : BufTy.Contents (Elt Ideal) arg19.view.ty) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 k).1 f f', ∀ x : p.1.shape.Idx,
      p.2 x = (fun y : S8x7168.Idx => Ideal.rsqrt (vcNew (betaK v2) (at3 (arg19.view.read (Elt Ideal) f') (i 0).val (y 0).val (y 1).val) (colSq (arg3.view.read (Elt Ideal) X_arg3) (y 1).val))) (p.1.emb x) := by
  delta trip_k0_t2
  dsimp only
  sl_unfold_run_names
  simp only [List.forall_mem_cons]
  refine ⟨?_, ?_, ?_, ?_, ?_, ?_, ?_, ?_, fun _ h => absurd h List.not_mem_nil⟩
  all_goals (
    intro x
    obtain ⟨r, l, rfl⟩ : ∃ (r : Fin 8) (l : Fin 128), x = ix2 r l := ⟨x 0, x 1, (ix2_eta x).symm⟩
    pointwise [k0_pay841, k0_pay839]
    rw [pay830_eq, pay831_eq]
    unfold vcNew colSq
    rw [← sum_blocks 16 16]
    simp only [emb_unit_val, Finset.sum_range_succ, Finset.sum_range_zero, zero_add, readAt3_bf16, readAt3_f32, show (0#32 : BitVec 32) = BitVec.ofNat 32 (128 * (0 : Fin 8).val) from rfl, show (128#32 : BitVec 32) = BitVec.ofNat 32 (128 * (1 : Fin 8).val) from rfl, show (256#32 : BitVec 32) = BitVec.ofNat 32 (128 * (2 : Fin 8).val) from rfl, show (384#32 : BitVec 32) = BitVec.ofNat 32 (128 * (3 : Fin 8).val) from rfl, show (512#32 : BitVec 32) = BitVec.ofNat 32 (128 * (4 : Fin 8).val) from rfl, show (640#32 : BitVec 32) = BitVec.ofNat 32 (128 * (5 : Fin 8).val) from rfl, show (768#32 : BitVec 32) = BitVec.ofNat 32 (128 * (6 : Fin 8).val) from rfl, show (896#32 : BitVec 32) = BitVec.ofNat 32 (128 * (7 : Fin 8).val) from rfl, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq]
    simp)

/-- One trip's stores into the column statistics cover its columns, in the slot of the grid point. -/
theorem t2_hits (arg0 : BitVec 32) (v2 : Elt Ideal .i32) (X_arg3 : BufTy.Contents (Elt Ideal) arg3.view.ty) (k : Fin k0_t2_loop.trips)
    (f : BufTy.Contents (Elt Ideal) arg18.view.ty) (f' : BufTy.Contents (Elt Ideal) arg19.view.ty) (y : S12x8x7168.Idx) :
    (∃ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 k).2.1 f f', y ∈ p.1.set) ↔ (y 0).val = (i 0).val ∧ 1024 * k.val ≤ (y 2).val ∧ (y 2).val < 1024 * k.val + 1024 := by
  delta trip_k0_t2
  dsimp only
  have h1 : (y 1).val < 8 := (y 1).isLt
  simp only [List.exists_mem_cons_iff, Rect.mem_set_unit, show (0#32 : BitVec 32) = BitVec.ofNat 32 (128 * (0 : Fin 8).val) from rfl, show (128#32 : BitVec 32) = BitVec.ofNat 32 (128 * (1 : Fin 8).val) from rfl, show (256#32 : BitVec 32) = BitVec.ofNat 32 (128 * (2 : Fin 8).val) from rfl, show (384#32 : BitVec 32) = BitVec.ofNat 32 (128 * (3 : Fin 8).val) from rfl, show (512#32 : BitVec 32) = BitVec.ofNat 32 (128 * (4 : Fin 8).val) from rfl, show (640#32 : BitVec 32) = BitVec.ofNat 32 (128 * (5 : Fin 8).val) from rfl, show (768#32 : BitVec 32) = BitVec.ofNat 32 (128 * (6 : Fin 8).val) from rfl, show (896#32 : BitVec 32) = BitVec.ofNat 32 (128 * (7 : Fin 8).val) from rfl, k0_off75_eq, Fin.forall_fin_succ]
  simp
  omega

/-- One trip's stores into the inverse square roots cover its columns. -/
theorem t2_hits18 (arg0 : BitVec 32) (v2 : Elt Ideal .i32) (X_arg3 : BufTy.Contents (Elt Ideal) arg3.view.ty) (k : Fin k0_t2_loop.trips)
    (f : BufTy.Contents (Elt Ideal) arg18.view.ty) (f' : BufTy.Contents (Elt Ideal) arg19.view.ty) (y : S8x7168.Idx) :
    (∃ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 k).1 f f', y ∈ p.1.set) ↔ 1024 * k.val ≤ (y 1).val ∧ (y 1).val < 1024 * k.val + 1024 := by
  delta trip_k0_t2
  dsimp only
  have h1 : (y 0).val < 8 := (y 0).isLt
  simp only [List.exists_mem_cons_iff, Rect.mem_set_unit, show (0#32 : BitVec 32) = BitVec.ofNat 32 (128 * (0 : Fin 8).val) from rfl, show (128#32 : BitVec 32) = BitVec.ofNat 32 (128 * (1 : Fin 8).val) from rfl, show (256#32 : BitVec 32) = BitVec.ofNat 32 (128 * (2 : Fin 8).val) from rfl, show (384#32 : BitVec 32) = BitVec.ofNat 32 (128 * (3 : Fin 8).val) from rfl, show (512#32 : BitVec 32) = BitVec.ofNat 32 (128 * (4 : Fin 8).val) from rfl, show (640#32 : BitVec 32) = BitVec.ofNat 32 (128 * (5 : Fin 8).val) from rfl, show (768#32 : BitVec 32) = BitVec.ofNat 32 (128 * (6 : Fin 8).val) from rfl, show (896#32 : BitVec 32) = BitVec.ofNat 32 (128 * (7 : Fin 8).val) from rfl, k0_off76_eq, Fin.forall_fin_succ]
  simp
  omega

/-- After `n` trips the statistics of the first `1024 * n` columns are new, in the slot of the grid point, and nothing
    else of the column statistics has changed; the inverse square roots of those columns are in place. -/
theorem t2_loop (arg0 : BitVec 32) (v2 : Elt Ideal .i32) (X_arg3 : BufTy.Contents (Elt Ideal) arg3.view.ty)
    (G : BufTy.Contents (Elt Ideal) arg18.view.ty) (G' : BufTy.Contents (Elt Ideal) arg19.view.ty) (n : ℕ) (hn : n ≤ 7) :
    (∀ y : S12x8x7168.Idx, arg19.view.read (Elt Ideal) (arg19.view.writes (Elt Ideal) G' (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 G G' n).2) y
      = if (y 0).val = (i 0).val ∧ (y 2).val < 1024 * n then
          vcNew (betaK v2) (at3 (arg19.view.read (Elt Ideal) G') (y 0).val (y 1).val (y 2).val) (colSq (arg3.view.read (Elt Ideal) X_arg3) (y 2).val)
        else arg19.view.read (Elt Ideal) G' y)
    ∧ (∀ y : S8x7168.Idx, (y 1).val < 1024 * n → arg18.view.read (Elt Ideal) (arg18.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 G G' n).1) y
      = Ideal.rsqrt (vcNew (betaK v2) (at3 (arg19.view.read (Elt Ideal) G') (i 0).val (y 0).val (y 1).val) (colSq (arg3.view.read (Elt Ideal) X_arg3) (y 1).val))) := by
  induction n with
  | zero => exact ⟨fun y => by rw [if_neg (by omega)]; rfl, fun y hy => absurd hy (by omega)⟩
  | succ n ih =>
    obtain ⟨ih1, ih2⟩ := ih (by omega)
    have ht : k0_t2_loop.trips = 7 := by decide +kernel
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 G G' ⟨n, by omega⟩
    simp only at hs
    rw [hs]
    dsimp only
    rw [View.writes_append, View.writes_append]
    have hi : (i 0).val < 12 := (i 0).isLt
    constructor
    · intro y
      by_cases hh : (y 0).val = (i 0).val ∧ 1024 * n ≤ (y 2).val ∧ (y 2).val < 1024 * n + 1024
      · refine (View.read_writes_apply_of_pieces (Val := Elt Ideal) arg19.view _ (fun y : S12x8x7168.Idx => vcNew (betaK v2) (at3 (arg19.view.read (Elt Ideal) (arg19.view.writes (Elt Ideal) G' (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 G G' n).2)) (y 0).val (y 1).val (y 2).val) (colSq (arg3.view.read (Elt Ideal) X_arg3) (y 2).val)) _ ?_ y ?_).trans ?_
        · exact t2_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 ⟨n, by omega⟩ _ _
        · exact (t2_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 ⟨n, by omega⟩ _ _ y).2 hh
        rw [if_pos (by omega)]
        dsimp only
        rw [at3_eq, ih1 y, if_neg (by omega), ← at3_eq (arg19.view.read (Elt Ideal) G') y]
      · rw [View.read_writes_apply_of_forall_not_mem (Val := Elt Ideal) arg19.view _ y _ (fun p hp hy => hh ((t2_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 ⟨n, by omega⟩ _ _ y).1 ⟨p, hp, hy⟩)), ih1 y]
        by_cases hlt : (y 0).val = (i 0).val ∧ (y 2).val < 1024 * n
        · rw [if_pos hlt, if_pos (by omega)]
        · rw [if_neg hlt, if_neg (by omega)]
    · intro y hy
      by_cases hh : 1024 * n ≤ (y 1).val ∧ (y 1).val < 1024 * n + 1024
      · refine (View.read_writes_apply_of_pieces (Val := Elt Ideal) arg18.view _ (fun y : S8x7168.Idx => Ideal.rsqrt (vcNew (betaK v2) (at3 (arg19.view.read (Elt Ideal) (arg19.view.writes (Elt Ideal) G' (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 G G' n).2)) (i 0).val (y 0).val (y 1).val) (colSq (arg3.view.read (Elt Ideal) X_arg3) (y 1).val))) _ ?_ y ?_).trans ?_
        · exact t2_pieces18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 ⟨n, by omega⟩ _ _
        · exact (t2_hits18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 ⟨n, by omega⟩ _ _ y).2 hh
        dsimp only
        have h0 : (y 0).val < 8 := (y 0).isLt
        have h1 : (y 1).val < 7168 := (y 1).isLt
        rw [at3_congr (Y := arg19.view.read (Elt Ideal) G')]
        intro z _ _ hz2
        rw [ih1 z, if_neg (by omega)]
      · rw [View.read_writes_apply_of_forall_not_mem (Val := Elt Ideal) arg18.view _ y _ (fun p hp hy => hh ((t2_hits18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v2 X_arg3 ⟨n, by omega⟩ _ _ y).1 ⟨p, hp, hy⟩)), ih2 y (by omega)]

end Cert.Val

end
-- ==== Proof.KernelIdealValue.Rows.lean ====
/- The straight-line middle of the kernel body: the new row statistics, their mean, and the row factors. -/
module

public import proofs.«01_k».proof.Proof.KernelIdealValue.RunMid
public import proofs.«01_k».proof.Proof.KernelIdealValue.T1
public import proofs.«01_k».proof.Proof.KernelIdealValue.T2

public import Idealize.ShloMosaic.Lib.WritesUnit

@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen Cert.KernelIdeal.Body

/-- The kernel's decay factor of the step count `t`: `1 - exp (log t * (-0.8))`. -/
def betaE (t : EReal) : EReal := 1 - Ideal.exp (Ideal.log t * Ideal.ofBits .f32 3209481421#32)

/-- The step count read at a grid point. -/
def stepAt (c : Dev nD) (i : grid0.Coords) (xt0 : TbBuf0 (F := Ideal) c tbM0_0) : EReal :=
  ((BitVec.toInt (runMid.sl.r (F := Ideal) c i xt0) : ℝ) : EReal)

/-- Row `r` of column `b` of the transposed row statistics, as the kernel picks it: a masked sum over the lanes. -/
def oldRow (R14 : S256x128.Idx → EReal) (b r : ℕ) : EReal :=
  ∑ x : Fin 128, Scalar.select (IntOp.cmpi .eq (BitVec.ofNat 32 x.val) (BitVec.ofNat 32 b)) (at2 R14 r x.val) 0

/-- The reciprocal of the row length. -/
def invD : EReal := ((1 / 7168 : ℝ) : EReal)

theorem named_invD : (Named.named κ "inv_d" 957499685#32 : Ideal .f32) = invD :=
  IdealRules.named_const.ideal_named_scalar _ _ _ _ rfl

theorem ix2_fst {n m : ℕ} (r : Fin n) (l : Fin m) : ix2 r l 0 = r := rfl
theorem ix2_snd {n m : ℕ} (r : Fin n) (l : Fin m) : ix2 r l 1 = l := rfl

/-- The new row statistic from the decay, the old statistics, and the row sums. -/
def vrRow (β : EReal) (R14 R16 : S256x128.Idx → EReal) (b r l : ℕ) : EReal :=
  β * oldRow R14 b r + (1 - β) * (at2 R16 r l * invD)

/-- The mean over the rows of the new row statistics, as the kernel adds it up. -/
def meanRow (vr : ℕ → ℕ → EReal) (l : ℕ) : EReal :=
  (∑ s : Fin 8, ∑ j ∈ Finset.range 32, vr (8 * j + s.val) l) * Ideal.ofBits .f32 0x3B800000#32

variable (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (f6 : BufTy.Contents (Elt Ideal) arg8.view.ty) (f7 : BufTy.Contents (Elt Ideal) arg9.view.ty) (f8 : BufTy.Contents (Elt Ideal) arg10.view.ty) (f9 : BufTy.Contents (Elt Ideal) arg11.view.ty) (f10 : BufTy.Contents (Elt Ideal) arg12.view.ty) (f11 : BufTy.Contents (Elt Ideal) arg13.view.ty) (fs0 : BufTy.Contents (Elt Ideal) arg14.view.ty) (fs1 : BufTy.Contents (Elt Ideal) arg15.view.ty) (fs2 : BufTy.Contents (Elt Ideal) arg16.view.ty) (fs3 : BufTy.Contents (Elt Ideal) arg17.view.ty) (fs4 : BufTy.Contents (Elt Ideal) arg18.view.ty) (fs5 : BufTy.Contents (Elt Ideal) arg19.view.ty) (fs6 : BufTy.Contents (Elt Ideal) arg20.view.ty) (fs7 : BufTy.Contents (Elt Ideal) arg21.view.ty) (fs8 : BufTy.Contents (Elt Ideal) arg22.view.ty)

/-- Every store of a row group's new statistics holds the new row statistics. -/
theorem rows_pieces : ∀ p ∈ runMid.sl.HS3_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2, ∀ x, p.2 x = (fun y : S256x128.Idx => vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (y 0).val (y 1).val) (p.1.emb x) := by
  delta runMid.sl.HS3_32
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals
    intro x
    obtain ⟨r, l, rfl⟩ : ∃ (r : Fin 8) (l : Fin 128), x = ix2 r l := ⟨x 0, x 1, (ix2_eta x).symm⟩
    unfold vrRow oldRow betaE stepAt
    sl_unfold_run_names
    pointwise [k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976]
    simp only [emb_unit_val, readAt2_f32, named_invD, ix2_fst, ix2_snd, Matrix.cons_val_zero, Matrix.cons_val_one, zero_add]

/-- Every store into the next row statistics replaces the lane of this grid point and keeps the others. -/
theorem rows_pieces15 : ∀ p ∈ runMid.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2, ∀ x, p.2 x
    = (fun y : S256x128.Idx => Scalar.select (IntOp.cmpi .eq (BitVec.ofNat 32 (y 1).val) (BitVec.ofNat 32 (i 0).val)) (vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (y 0).val (y 1).val)
        (at2 (arg15.view.read (Elt Ideal) fs1) (y 0).val (y 1).val)) (p.1.emb x) := by
  delta runMid.sl.HS1_32
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals
    intro x
    obtain ⟨r, l, rfl⟩ : ∃ (r : Fin 8) (l : Fin 128), x = ix2 r l := ⟨x 0, x 1, (ix2_eta x).symm⟩
    unfold vrRow oldRow betaE stepAt
    sl_unfold_run_names
    pointwise [k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976]
    simp only [emb_unit_val, readAt2_f32, named_invD, ix2_fst, ix2_snd, Matrix.cons_val_zero, Matrix.cons_val_one, zero_add]

/-- What the kernel divides by: the mean of the new row statistics. -/
theorem rows_mean (l : Fin 128) : runMid.sl.v896 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 (ix2 0 l)
    = meanRow (vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val) l.val := by
  unfold meanRow vrRow oldRow betaE stepAt
  sl_unfold_run_names
  pointwise [k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976]
  simp only [Finset.sum_range_succ, Finset.sum_range_zero, zero_add, Nat.reduceMul]
  simp only [emb_unit_val, readAt2_f32, named_invD, ix2_fst, ix2_snd, Matrix.cons_val_zero, Matrix.cons_val_one, zero_add]

/-- The row groups together cover the buffer. -/
theorem rows_cover (y : S256x128.Idx) : ∃ p ∈ runMid.sl.HS3_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2, y ∈ p.1.set := by
  have h0 : (y 0).val < 256 := (y 0).isLt
  have h1 : (y 1).val < 128 := (y 1).isLt
  delta runMid.sl.HS3_32
  simp only [List.exists_mem_cons_iff, Rect.mem_set_unit, Fin.forall_fin_two]
  simp
  omega

theorem rows_cover15 (y : S256x128.Idx) : ∃ p ∈ runMid.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2, y ∈ p.1.set := by
  have h0 : (y 0).val < 256 := (y 0).isLt
  have h1 : (y 1).val < 128 := (y 1).isLt
  delta runMid.sl.HS1_32
  simp only [List.exists_mem_cons_iff, Rect.mem_set_unit, Fin.forall_fin_two]
  simp
  omega

/-- After the first pass over the row groups the buffer holds the new row statistics. -/
theorem rows_read (y : S256x128.Idx) : arg17.view.read (Elt Ideal) (arg17.view.writes (Elt Ideal) arg17.view.junk (runMid.sl.HS3_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (y 0).val (y 1).val :=
  View.read_writes_apply_of_pieces (Val := Elt Ideal) arg17.view _ (fun y : S256x128.Idx => vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (y 0).val (y 1).val) _ (rows_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2) y (rows_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 y)

/-- The next row statistics: the lane of this grid point is replaced by the new row statistics. -/
theorem rows_read15 (f : BufTy.Contents (Elt Ideal) arg15.view.ty) (y : S256x128.Idx) :
    arg15.view.read (Elt Ideal) (arg15.view.writes (Elt Ideal) f (runMid.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2)) y
      = Scalar.select (IntOp.cmpi .eq (BitVec.ofNat 32 (y 1).val) (BitVec.ofNat 32 (i 0).val)) (vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (y 0).val (y 1).val)
        (at2 (arg15.view.read (Elt Ideal) fs1) (y 0).val (y 1).val) :=
  View.read_writes_apply_of_pieces (Val := Elt Ideal) arg15.view _ (fun y : S256x128.Idx => Scalar.select (IntOp.cmpi .eq (BitVec.ofNat 32 (y 1).val) (BitVec.ofNat 32 (i 0).val)) (vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (y 0).val (y 1).val)
        (at2 (arg15.view.read (Elt Ideal) fs1) (y 0).val (y 1).val)) _ (rows_pieces15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2) y (rows_cover15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2 y)

/-- After the second pass: the first `8 * k` rows hold the row factors, the others still the new row statistics. -/
def factorAt (R : ℕ → ℕ → EReal) (M : ℕ → EReal) (k : ℕ) (r l : ℕ) : EReal :=
  if r < 8 * k then Ideal.rsqrt (Ideal.div (R r l) (M l)) else R r l

/-- One row group of the second pass. -/
theorem factor_step (V : FVec Ideal S1x128 .f32) (R : ℕ → ℕ → EReal) (M : ℕ → EReal) (hM : ∀ l : Fin 128, V (ix2 0 l) = M l.val) (k : ℕ) (hk : k < 32)
    (L : List (View.Piece (Elt Ideal) S256x128 .f32)) (h : ∀ y : S256x128.Idx, arg17.view.read (Elt Ideal) (arg17.view.writes (Elt Ideal) arg17.view.junk L) y = factorAt R M k (y 0).val (y 1).val)
    (inb : ∀ a, (![8 * k, 0] : Fin 2 → ℕ) a + S8x128.size a ≤ S256x128.size a) (hb : Shape.Broadcasts S1x128 S8x128) (hs : Shape.ShapeCasts S8x128 S8x128) (y : S256x128.Idx) :
    arg17.view.read (Elt Ideal) (arg17.view.writes (Elt Ideal) arg17.view.junk (⟨Rect.unit (s := S256x128) ![8 * k, 0] S8x128.size inb,
      (shapeCast S8x128 (rsqrt (divf (arg17.view.readCov (Val := (Elt Ideal)) L (Rect.unit (s := S256x128) ![8 * k, 0] S8x128.size inb).toLoadRect : FVec Ideal S8x128 .f32) (broadcastTo S8x128 V hb)) : FVec Ideal S8x128 .f32) hs : FVec Ideal S8x128 .f32)⟩ :: L)) y
      = factorAt R M (k + 1) (y 0).val (y 1).val := by
  have hp : ∀ x : S8x128.Idx, (shapeCast S8x128 (rsqrt (divf (arg17.view.readCov (Val := (Elt Ideal)) L (Rect.unit (s := S256x128) ![8 * k, 0] S8x128.size inb).toLoadRect : FVec Ideal S8x128 .f32) (broadcastTo S8x128 V hb)) : FVec Ideal S8x128 .f32) hs : FVec Ideal S8x128 .f32) x
      = Ideal.rsqrt (Ideal.div (R (8 * k + (x 0).val) (x 1).val) (M (x 1).val)) := by
    intro x
    obtain ⟨r, l, rfl⟩ : ∃ (r : Fin 8) (l : Fin 128), x = ix2 r l := ⟨x 0, x 1, (ix2_eta x).symm⟩
    pointwise [View.readCov]
    rw [readAt2_f32]
    have hr : (r : ℕ) < 8 := r.isLt
    have hl : (l : ℕ) < 128 := l.isLt
    rw [hM]
    have e : at2 (arg17.view.read (Elt Ideal) (arg17.view.writes (Elt Ideal) arg17.view.junk L)) (8 * k + r.val) l.val
      = arg17.view.read (Elt Ideal) (arg17.view.writes (Elt Ideal) arg17.view.junk L) (ix2 ⟨8 * k + r.val, by omega⟩ l) := at2_eq _ (ix2 ⟨8 * k + r.val, by omega⟩ l)
    simp only [ix2_fst, ix2_snd, Matrix.cons_val_zero, Matrix.cons_val_one, zero_add]
    rw [e, h]
    simp only [ix2_fst, ix2_snd]
    unfold factorAt
    rw [if_neg (by omega)]
  by_cases hh : 8 * k ≤ (y 0).val ∧ (y 0).val < 8 * k + 8
  · have hy1 : (y 1).val < 128 := (y 1).isLt
    rw [View.read_writes_cons_rows_of_mem arg17.view _ inb _ L y (ix2 ⟨(y 0).val - 8 * k, by omega⟩ ⟨(y 1).val, hy1⟩) rfl (by rw [ix2_fst]; dsimp only; omega) rfl, hp]
    unfold factorAt
    rw [if_pos (by omega), ix2_fst, ix2_snd]
    dsimp only
    rw [show 8 * k + ((y 0).val - 8 * k) = (y 0).val by omega]
  · rw [View.read_writes_cons_rows_of_not_mem arg17.view _ inb _ L y rfl (W := 8) rfl (by omega), h]
    unfold factorAt
    by_cases hlt : (y 0).val < 8 * k
    · rw [if_pos hlt, if_pos (by omega)]
    · rw [if_neg hlt, if_neg (by omega)]

/-- The row factors the kernel multiplies by. -/
theorem rows_factor (y : S256x128.Idx) : arg17.view.read (Elt Ideal) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y
    = Ideal.rsqrt (Ideal.div (vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (y 0).val (y 1).val) (meanRow (vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val) (y 1).val)) := by
  have hM := rows_mean c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2
  have h0 : ∀ y : S256x128.Idx, arg17.view.read (Elt Ideal) (arg17.view.writes (Elt Ideal) arg17.view.junk (runMid.sl.HS3_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt (vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val) (meanRow (vrRow (betaE (stepAt c i xt0)) (arg14.view.read (Elt Ideal) fs0) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val)) 0 (y 0).val (y 1).val := fun y => rows_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 y
  have h1 : ∀ y : S256x128.Idx, arg17.view.read (Elt Ideal) (arg17.view.writes (Elt Ideal) arg17.view.junk (runMid.sl.HS3_33 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 1 (y 0).val (y 1).val := factor_step (arg17 := arg17) _ _ _ hM 0 (by omega) _ h0 _ _ _
  have h2 : ∀ y : S256x128.Idx, arg17.view.read (Elt Ideal) (arg17.view.writes (Elt Ideal) arg17.view.junk (runMid.sl.HS3_34 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 2 (y 0).val (y 1).val := factor_step (arg17 := arg17) _ _ _ hM 1 (by omega) _ h1 _ _ _
  have h3 : ∀ y : S256x128.Idx, arg17.view.read (Elt Ideal) (arg17.view.writes (Elt Ideal) arg17.view.junk (runMid.sl.HS3_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 3 (y 0).val (y 1).val := factor_step (arg17 := arg17) _ _ _ hM 2 (by omega) _ h2 _ _ _
  have h4 : ∀ y : S256x128.Idx, arg17.view.read (Elt Ideal) (arg17.view.writes (Elt Ideal) arg17.view.junk (runMid.sl.HS3_36 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 4 (y 0).val (y 1).val := factor_step (arg17 := arg17) _ _ _ hM 3 (by omega) _ h3 _ _ _
  have h5 : ∀ y : S256x128.Idx, arg17.view.read (Elt Ideal) (arg17.view.writes (Elt Ideal) arg17.view.junk (runMid.sl.HS3_37 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 5 (y 0).val (y 1).val := factor_step (arg17 := arg17) _ _ _ hM 4 (by omega) _ h4 _ _ _
  have h6 : ∀ y : S256x128.Idx, arg17.view.read (Elt Ideal) (arg17.view.writes (Elt Ideal) arg17.view.junk (runMid.sl.HS3_38 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 6 (y 0).val (y 1).val := factor_step (arg17 := arg17) _ _ _ hM 5 (by omega) _ h5 _ _ _
  have h7 : ∀ y : S256x128.Idx, arg17.view.read (Elt Ideal) (arg17.view.writes (Elt Ideal) arg17.view.junk (runMid.sl.HS3_39 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 7 (y 0).val (y 1).val := factor_step (arg17 := arg17) _ _ _ hM 6 (by omega) _ h6 _ _ _
  have h8 : ∀ y : S256x128.Idx, arg17.view.read (Elt Ideal) (arg17.view.writes (Elt Ideal) arg17.view.junk (runMid.sl.HS3_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 8 (y 0).val (y 1).val := factor_step (arg17 := arg17) _ _ _ hM 7 (by omega) _ h7 _ _ _
  have h9 : ∀ y : S256x128.Idx, arg17.view.read (Elt Ideal) (arg17.view.writes (Elt Ideal) arg17.view.junk (runMid.sl.HS3_41 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 9 (y 0).val (y 1).val := factor_step (arg17 := arg17) _ _ _ hM 8 (by omega) _ h8 _ _ _
  have h10 : ∀ y : S256x128.Idx, arg17.view.read (Elt Ideal) (arg17.view.writes (Elt Ideal) arg17.view.junk (runMid.sl.HS3_42 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 10 (y 0).val (y 1).val := factor_step (arg17 := arg17) _ _ _ hM 9 (by omega) _ h9 _ _ _
  have h11 : ∀ y : S256x128.Idx, arg17.view.read (Elt Ideal) (arg17.view.writes (Elt Ideal) arg17.view.junk (runMid.sl.HS3_43 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 11 (y 0).val (y 1).val := factor_step (arg17 := arg17) _ _ _ hM 10 (by omega) _ h10 _ _ _
  have h12 : ∀ y : S256x128.Idx, arg17.view.read (Elt Ideal) (arg17.view.writes (Elt Ideal) arg17.view.junk (runMid.sl.HS3_44 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 12 (y 0).val (y 1).val := factor_step (arg17 := arg17) _ _ _ hM 11 (by omega) _ h11 _ _ _
  have h13 : ∀ y : S256x128.Idx, arg17.view.read (Elt Ideal) (arg17.view.writes (Elt Ideal) arg17.view.junk (runMid.sl.HS3_45 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 13 (y 0).val (y 1).val := factor_step (arg17 := arg17) _ _ _ hM 12 (by omega) _ h12 _ _ _
  have h14 : ∀ y : S256x128.Idx, arg17.view.read (Elt Ideal) (arg17.view.writes (Elt Ideal) arg17.view.junk (runMid.sl.HS3_46 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 14 (y 0).val (y 1).val := factor_step (arg17 := arg17) _ _ _ hM 13 (by omega) _ h13 _ _ _
  have h15 : ∀ y : S256x128.Idx, arg17.view.read (Elt Ideal) (arg17.view.writes (Elt Ideal) arg17.view.junk (runMid.sl.HS3_47 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 15 (y 0).val (y 1).val := factor_step (arg17 := arg17) _ _ _ hM 14 (by omega) _ h14 _ _ _
  have h16 : ∀ y : S256x128.Idx, arg17.view.read (Elt Ideal) (arg17.view.writes (Elt Ideal) arg17.view.junk (runMid.sl.HS3_48 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 16 (y 0).val (y 1).val := factor_step (arg17 := arg17) _ _ _ hM 15 (by omega) _ h15 _ _ _
  have h17 : ∀ y : S256x128.Idx, arg17.view.read (Elt Ideal) (arg17.view.writes (Elt Ideal) arg17.view.junk (runMid.sl.HS3_49 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 17 (y 0).val (y 1).val := factor_step (arg17 := arg17) _ _ _ hM 16 (by omega) _ h16 _ _ _
  have h18 : ∀ y : S256x128.Idx, arg17.view.read (Elt Ideal) (arg17.view.writes (Elt Ideal) arg17.view.junk (runMid.sl.HS3_50 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 18 (y 0).val (y 1).val := factor_step (arg17 := arg17) _ _ _ hM 17 (by omega) _ h17 _ _ _
  have h19 : ∀ y : S256x128.Idx, arg17.view.read (Elt Ideal) (arg17.view.writes (Elt Ideal) arg17.view.junk (runMid.sl.HS3_51 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 19 (y 0).val (y 1).val := factor_step (arg17 := arg17) _ _ _ hM 18 (by omega) _ h18 _ _ _
  have h20 : ∀ y : S256x128.Idx, arg17.view.read (Elt Ideal) (arg17.view.writes (Elt Ideal) arg17.view.junk (runMid.sl.HS3_52 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 20 (y 0).val (y 1).val := factor_step (arg17 := arg17) _ _ _ hM 19 (by omega) _ h19 _ _ _
  have h21 : ∀ y : S256x128.Idx, arg17.view.read (Elt Ideal) (arg17.view.writes (Elt Ideal) arg17.view.junk (runMid.sl.HS3_53 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 21 (y 0).val (y 1).val := factor_step (arg17 := arg17) _ _ _ hM 20 (by omega) _ h20 _ _ _
  have h22 : ∀ y : S256x128.Idx, arg17.view.read (Elt Ideal) (arg17.view.writes (Elt Ideal) arg17.view.junk (runMid.sl.HS3_54 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 22 (y 0).val (y 1).val := factor_step (arg17 := arg17) _ _ _ hM 21 (by omega) _ h21 _ _ _
  have h23 : ∀ y : S256x128.Idx, arg17.view.read (Elt Ideal) (arg17.view.writes (Elt Ideal) arg17.view.junk (runMid.sl.HS3_55 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 23 (y 0).val (y 1).val := factor_step (arg17 := arg17) _ _ _ hM 22 (by omega) _ h22 _ _ _
  have h24 : ∀ y : S256x128.Idx, arg17.view.read (Elt Ideal) (arg17.view.writes (Elt Ideal) arg17.view.junk (runMid.sl.HS3_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 24 (y 0).val (y 1).val := factor_step (arg17 := arg17) _ _ _ hM 23 (by omega) _ h23 _ _ _
  have h25 : ∀ y : S256x128.Idx, arg17.view.read (Elt Ideal) (arg17.view.writes (Elt Ideal) arg17.view.junk (runMid.sl.HS3_57 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 25 (y 0).val (y 1).val := factor_step (arg17 := arg17) _ _ _ hM 24 (by omega) _ h24 _ _ _
  have h26 : ∀ y : S256x128.Idx, arg17.view.read (Elt Ideal) (arg17.view.writes (Elt Ideal) arg17.view.junk (runMid.sl.HS3_58 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 26 (y 0).val (y 1).val := factor_step (arg17 := arg17) _ _ _ hM 25 (by omega) _ h25 _ _ _
  have h27 : ∀ y : S256x128.Idx, arg17.view.read (Elt Ideal) (arg17.view.writes (Elt Ideal) arg17.view.junk (runMid.sl.HS3_59 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 27 (y 0).val (y 1).val := factor_step (arg17 := arg17) _ _ _ hM 26 (by omega) _ h26 _ _ _
  have h28 : ∀ y : S256x128.Idx, arg17.view.read (Elt Ideal) (arg17.view.writes (Elt Ideal) arg17.view.junk (runMid.sl.HS3_60 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 28 (y 0).val (y 1).val := factor_step (arg17 := arg17) _ _ _ hM 27 (by omega) _ h27 _ _ _
  have h29 : ∀ y : S256x128.Idx, arg17.view.read (Elt Ideal) (arg17.view.writes (Elt Ideal) arg17.view.junk (runMid.sl.HS3_61 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 29 (y 0).val (y 1).val := factor_step (arg17 := arg17) _ _ _ hM 28 (by omega) _ h28 _ _ _
  have h30 : ∀ y : S256x128.Idx, arg17.view.read (Elt Ideal) (arg17.view.writes (Elt Ideal) arg17.view.junk (runMid.sl.HS3_62 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 30 (y 0).val (y 1).val := factor_step (arg17 := arg17) _ _ _ hM 29 (by omega) _ h29 _ _ _
  have h31 : ∀ y : S256x128.Idx, arg17.view.read (Elt Ideal) (arg17.view.writes (Elt Ideal) arg17.view.junk (runMid.sl.HS3_63 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 31 (y 0).val (y 1).val := factor_step (arg17 := arg17) _ _ _ hM 30 (by omega) _ h30 _ _ _
  have h32 : ∀ y : S256x128.Idx, arg17.view.read (Elt Ideal) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) y = factorAt _ _ 32 (y 0).val (y 1).val := factor_step (arg17 := arg17) _ _ _ hM 31 (by omega) _ h31 _ _ _
  rw [h32]
  unfold factorAt
  rw [if_pos (by have := (y 0).isLt; exact this)]

end Cert.Val
end
-- ==== Proof.KernelIdealValue.T1W.lean ====
/- What the first loop leaves in the accumulator of the weights' squares. -/
module

public import proofs.«01_k».proof.Proof.KernelIdealValue.T1

@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen

variable (𝒱 : Variants) (c : Dev nD) (bd : Option 𝒱.V) (i : grid0.Coords) (arg1 : Memref sig .tc .smem S12 .i32) (harg1 : arg1.IsWhole) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)

/-- What trip `k` of the first loop adds to place `(s, l)` of the weights' accumulator: the squares of row `16 * k + s` at every 128th column from `l` on. -/
def wTerm (X : S1x256x7168.Idx → EReal) (k s l : ℕ) : EReal :=
  ∑ c ∈ Finset.range 56, at3 X 0 (16 * k + s) (128 * c + l) * at3 X 0 (16 * k + s) (128 * c + l)

/-- One trip's store into the accumulator: it adds the trip's term. -/
theorem t1w_pieces (X_arg2 : BufTy.Contents (Elt Ideal) arg2.view.ty) (X_arg3 : BufTy.Contents (Elt Ideal) arg3.view.ty) (k : Fin k0_t1_loop.trips) (f : BufTy.Contents (Elt Ideal) arg16.view.ty) (f' : BufTy.Contents (Elt Ideal) arg21.view.ty) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 k).2.1 f f', ∀ x : p.1.shape.Idx,
      p.2 x = (fun y : S16x128.Idx => at2 (arg21.view.read (Elt Ideal) f') (y 0).val (y 1).val + wTerm (arg2.view.read (Elt Ideal) X_arg2) k.val (y 0).val (y 1).val) (p.1.emb x) := by
  delta trip_k0_t1
  dsimp only
  sl_unfold_run_names
  simp only [List.forall_mem_cons]
  refine ⟨?_, fun _ h => absurd h List.not_mem_nil⟩
  intro x
  obtain ⟨r, l, rfl⟩ : ∃ (r : Fin 16) (l : Fin 128), x = ix2 r l := ⟨x 0, x 1, (ix2_eta x).symm⟩
  unfold wTerm
  pointwise [k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859]
  simp only [emb_unit_val, Finset.sum_range_succ, Finset.sum_range_zero, zero_add, readAt3_bf16, readAt2_f32, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq]
  simp

/-- One trip's store into the accumulator covers it. -/
theorem t1w_hits (X_arg2 : BufTy.Contents (Elt Ideal) arg2.view.ty) (X_arg3 : BufTy.Contents (Elt Ideal) arg3.view.ty) (k : Fin k0_t1_loop.trips) (f : BufTy.Contents (Elt Ideal) arg16.view.ty) (f' : BufTy.Contents (Elt Ideal) arg21.view.ty) (y : S16x128.Idx) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 k).2.1 f f', y ∈ p.1.set := by
  delta trip_k0_t1
  dsimp only
  refine ⟨_, List.mem_singleton.2 rfl, ?_⟩
  dsimp only
  rw [Rect.mem_set_unit]
  have h0 : (y 0).val < 16 := (y 0).isLt
  have h1 : (y 1).val < 128 := (y 1).isLt
  intro a
  fin_cases a
  · exact ⟨Nat.zero_le _, by simpa using h0⟩
  · exact ⟨Nat.zero_le _, by simpa using h1⟩

/-- After `n` trips the accumulator has taken in the terms of the trips so far. -/
theorem t1w_loop (X_arg2 : BufTy.Contents (Elt Ideal) arg2.view.ty) (X_arg3 : BufTy.Contents (Elt Ideal) arg3.view.ty) (G : BufTy.Contents (Elt Ideal) arg16.view.ty) (G' : BufTy.Contents (Elt Ideal) arg21.view.ty) (n : ℕ) (hn : n ≤ 16) (y : S16x128.Idx) :
    arg21.view.read (Elt Ideal) (arg21.view.writes (Elt Ideal) G' (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 G G' n).2) y
      = at2 (arg21.view.read (Elt Ideal) G') (y 0).val (y 1).val + ∑ k ∈ Finset.range n, wTerm (arg2.view.read (Elt Ideal) X_arg2) k (y 0).val (y 1).val := by
  induction n generalizing y with
  | zero => rw [Finset.sum_range_zero, add_zero, at2_eq]; rfl
  | succ n ih =>
    have ht : k0_t1_loop.trips = 16 := by decide +kernel
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 G G' ⟨n, by omega⟩
    simp only at hs
    rw [hs]
    dsimp only
    rw [View.writes_append, Finset.sum_range_succ, ← add_assoc]
    refine (View.read_writes_apply_of_pieces (Val := Elt Ideal) arg21.view _ (fun y : S16x128.Idx => at2 (arg21.view.read (Elt Ideal) (arg21.view.writes (Elt Ideal) G' (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 G G' n).2)) (y 0).val (y 1).val + wTerm (arg2.view.read (Elt Ideal) X_arg2) n (y 0).val (y 1).val) _ (t1w_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 ⟨n, by omega⟩ _ _) y (t1w_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 ⟨n, by omega⟩ _ _ y)).trans ?_
    dsimp only
    rw [at2_eq, ih (by omega)]

end Cert.Val

end
-- ==== Proof.KernelIdealValue.T3.lean ====
/- What the third loop leaves: the row sums of squares of the gradient. -/
module

public import proofs.«01_k».proof.Proof.Gen.KernelIdeal.Loops
public import proofs.«01_k».proof.Proof.KernelIdealValue.Common

@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen

variable (𝒱 : Variants) (c : Dev nD) (bd : Option 𝒱.V) (i : grid0.Coords) (arg1 : Memref sig .tc .smem S12 .i32) (harg1 : arg1.IsWhole) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)

/-- One trip's stores into the scaled gradient: the gradient times the column factor. -/
theorem t3_pieces (X_arg3 : BufTy.Contents (Elt Ideal) arg3.view.ty) (X_arg17 : BufTy.Contents (Elt Ideal) arg17.view.ty) (X_arg18 : BufTy.Contents (Elt Ideal) arg18.view.ty) (k : Fin k0_t3_loop.trips)
    (f : BufTy.Contents (Elt Ideal) arg20.view.ty) (f' : BufTy.Contents (Elt Ideal) arg22.view.ty) :
    ∀ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 k).1 f f', ∀ x : p.1.shape.Idx,
      p.2 x = (fun y : S256x7168.Idx => at3 (arg3.view.read (Elt Ideal) X_arg3) 0 (y 0).val (y 1).val * at2 (arg18.view.read (Elt Ideal) X_arg18) ((y 0).val % 8) (y 1).val) (p.1.emb x) := by
  delta trip_k0_t3
  dsimp only
  sl_unfold_run_names
  simp only [List.forall_mem_cons]
  have hmod : ∀ (r : Fin 16), (if h : r.val < 8 then r.val else r.val - 8) = (16 * k.val + r.val) % 8 := fun r => by
    have := r.isLt
    split <;> omega
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals (
    intro x
    obtain ⟨r, l, rfl⟩ : ∃ (r : Fin 16) (l : Fin 128), x = ix2 r l := ⟨x 0, x 1, (ix2_eta x).symm⟩
    pointwise
    simp only [emb_unit_val, readAt3_bf16, readAt2_f32, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq, k0_off173_eq, k0_off174_eq, k0_off175_eq, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq]
    have hm := hmod r
    by_cases h8 : r.val < 8
    · rw [dif_pos h8] at hm ⊢
      simp [← hm]
    · rw [dif_neg h8] at hm ⊢
      simp [← hm])

/-- One trip's store into the squares' accumulator. -/
theorem t3_pieces22 (X_arg3 : BufTy.Contents (Elt Ideal) arg3.view.ty) (X_arg17 : BufTy.Contents (Elt Ideal) arg17.view.ty) (X_arg18 : BufTy.Contents (Elt Ideal) arg18.view.ty) (k : Fin k0_t3_loop.trips)
    (f : BufTy.Contents (Elt Ideal) arg20.view.ty) (f' : BufTy.Contents (Elt Ideal) arg22.view.ty) :
    ∀ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 k).2.1 f f', ∀ x : p.1.shape.Idx,
      p.2 x = (fun y : S16x128.Idx => at2 (arg22.view.read (Elt Ideal) f') (y 0).val (y 1).val
        + (∑ c ∈ Finset.range 56, (at3 (arg3.view.read (Elt Ideal) X_arg3) 0 (16 * k.val + (y 0).val) (128 * c + (y 1).val) * at2 (arg18.view.read (Elt Ideal) X_arg18) ((y 0).val % 8) (128 * c + (y 1).val)) * (at3 (arg3.view.read (Elt Ideal) X_arg3) 0 (16 * k.val + (y 0).val) (128 * c + (y 1).val) * at2 (arg18.view.read (Elt Ideal) X_arg18) ((y 0).val % 8) (128 * c + (y 1).val)))
          * (at2 (arg17.view.read (Elt Ideal) X_arg17) (16 * k.val + (y 0).val) (y 1).val * at2 (arg17.view.read (Elt Ideal) X_arg17) (16 * k.val + (y 0).val) (y 1).val)) (p.1.emb x) := by
  delta trip_k0_t3
  dsimp only
  sl_unfold_run_names
  simp only [List.forall_mem_cons]
  refine ⟨?_, fun _ h => absurd h List.not_mem_nil⟩
  intro x
  obtain ⟨r, l, rfl⟩ : ∃ (r : Fin 16) (l : Fin 128), x = ix2 r l := ⟨x 0, x 1, (ix2_eta x).symm⟩
  pointwise [k0_pay1015]
  simp only [emb_unit_val, Finset.sum_range_succ, Finset.sum_range_zero, zero_add, readAt3_bf16, readAt2_f32, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq, k0_off173_eq, k0_off174_eq, k0_off175_eq, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq]
  have hm : (if h : r.val < 8 then r.val else r.val - 8) = r.val % 8 := by
    have := r.isLt
    split <;> omega
  by_cases h8 : r.val < 8
  · rw [dif_pos h8] at hm
    simp only [dif_pos h8]
    simp [← hm]
  · rw [dif_neg h8] at hm
    simp only [dif_neg h8]
    simp [← hm]

end Cert.Val

end
-- ==== Proof.KernelIdealValue.T3L.lean ====
/- What the third loop leaves: the gradient scaled by the column factors, and the accumulator of the squares of the scaled gradient. -/
module

public import proofs.«01_k».proof.Proof.KernelIdealValue.T3

@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen

variable (𝒱 : Variants) (c : Dev nD) (bd : Option 𝒱.V) (i : grid0.Coords) (arg1 : Memref sig .tc .smem S12 .i32) (harg1 : arg1.IsWhole) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)

/-- What trip `k` of the third loop adds to place `(s, l)` of the accumulator: the squares of row `16 * k + s` of the gradient times the column factor, at every 128th column from `l` on, times the square of the row factor. -/
def uTerm (X : S1x256x7168.Idx → EReal) (R17 : S256x128.Idx → EReal) (R18 : S8x7168.Idx → EReal) (k s l : ℕ) : EReal :=
  (∑ c ∈ Finset.range 56, (at3 X 0 (16 * k + s) (128 * c + l) * at2 R18 (s % 8) (128 * c + l)) * (at3 X 0 (16 * k + s) (128 * c + l) * at2 R18 (s % 8) (128 * c + l)))
    * (at2 R17 (16 * k + s) l * at2 R17 (16 * k + s) l)

/-- One trip's stores into the scaled gradient cover its sixteen rows. -/
theorem t3_hits (X_arg3 : BufTy.Contents (Elt Ideal) arg3.view.ty) (X_arg17 : BufTy.Contents (Elt Ideal) arg17.view.ty) (X_arg18 : BufTy.Contents (Elt Ideal) arg18.view.ty) (k : Fin k0_t3_loop.trips) (f : BufTy.Contents (Elt Ideal) arg20.view.ty) (f' : BufTy.Contents (Elt Ideal) arg22.view.ty) (y : S256x7168.Idx)
    (hy : 16 * k.val ≤ (y 0).val ∧ (y 0).val < 16 * k.val + 16) :
    ∃ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 k).1 f f', y ∈ p.1.set := by
  have h1 : (y 1).val < 7168 := (y 1).isLt
  delta trip_k0_t3
  dsimp only
  simp only [List.exists_mem_cons_iff, Rect.mem_set_unit, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq, k0_off173_eq, k0_off174_eq, k0_off175_eq, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, Fin.forall_fin_succ]
  simp
  omega

/-- After `n` trips the first `16 * n` rows of the scaled gradient are in place. -/
theorem t3_loop (X_arg3 : BufTy.Contents (Elt Ideal) arg3.view.ty) (X_arg17 : BufTy.Contents (Elt Ideal) arg17.view.ty) (X_arg18 : BufTy.Contents (Elt Ideal) arg18.view.ty) (G : BufTy.Contents (Elt Ideal) arg20.view.ty) (G' : BufTy.Contents (Elt Ideal) arg22.view.ty) (n : ℕ) (hn : n ≤ 16) (y : S256x7168.Idx) (hy : (y 0).val < 16 * n) :
    arg20.view.read (Elt Ideal) (arg20.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 G G' n).1) y = (fun y : S256x7168.Idx => at3 (arg3.view.read (Elt Ideal) X_arg3) 0 (y 0).val (y 1).val * at2 (arg18.view.read (Elt Ideal) X_arg18) ((y 0).val % 8) (y 1).val) y := by
  induction n with
  | zero => omega
  | succ n ih =>
    have ht : k0_t3_loop.trips = 16 := by decide +kernel
    have hs := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 G G' ⟨n, by omega⟩
    simp only at hs
    rw [hs]
    dsimp only
    rw [View.writes_append]
    refine read_writes_spec (Val := Elt Ideal) arg20.view _ (fun y : S256x7168.Idx => at3 (arg3.view.read (Elt Ideal) X_arg3) 0 (y 0).val (y 1).val * at2 (arg18.view.read (Elt Ideal) X_arg18) ((y 0).val % 8) (y 1).val) _ ?_ y ?_
    · exact t3_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 ⟨n, by omega⟩ _ _
    intro hnot
    refine ih (by omega) ?_
    by_contra hlt
    obtain ⟨p, hp, hy'⟩ := t3_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 ⟨n, by omega⟩ _ _ y ⟨not_lt.1 hlt, by show _ < 16 * n + 16; omega⟩
    exact hnot p hp hy'

/-- One trip's store into the accumulator covers it. -/
theorem t3u_hits (X_arg3 : BufTy.Contents (Elt Ideal) arg3.view.ty) (X_arg17 : BufTy.Contents (Elt Ideal) arg17.view.ty) (X_arg18 : BufTy.Contents (Elt Ideal) arg18.view.ty) (k : Fin k0_t3_loop.trips) (f : BufTy.Contents (Elt Ideal) arg20.view.ty) (f' : BufTy.Contents (Elt Ideal) arg22.view.ty) (y : S16x128.Idx) :
    ∃ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 k).2.1 f f', y ∈ p.1.set := by
  delta trip_k0_t3
  dsimp only
  refine ⟨_, List.mem_singleton.2 rfl, ?_⟩
  dsimp only
  rw [Rect.mem_set_unit]
  have h0 : (y 0).val < 16 := (y 0).isLt
  have h1 : (y 1).val < 128 := (y 1).isLt
  intro a
  fin_cases a
  · exact ⟨Nat.zero_le _, by simpa using h0⟩
  · exact ⟨Nat.zero_le _, by simpa using h1⟩

/-- After `n` trips the accumulator has taken in the terms of the trips so far. -/
theorem t3u_loop (X_arg3 : BufTy.Contents (Elt Ideal) arg3.view.ty) (X_arg17 : BufTy.Contents (Elt Ideal) arg17.view.ty) (X_arg18 : BufTy.Contents (Elt Ideal) arg18.view.ty) (G : BufTy.Contents (Elt Ideal) arg20.view.ty) (G' : BufTy.Contents (Elt Ideal) arg22.view.ty) (n : ℕ) (hn : n ≤ 16) (y : S16x128.Idx) :
    arg22.view.read (Elt Ideal) (arg22.view.writes (Elt Ideal) G' (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 G G' n).2) y
      = at2 (arg22.view.read (Elt Ideal) G') (y 0).val (y 1).val + ∑ k ∈ Finset.range n, uTerm (arg3.view.read (Elt Ideal) X_arg3) (arg17.view.read (Elt Ideal) X_arg17) (arg18.view.read (Elt Ideal) X_arg18) k (y 0).val (y 1).val := by
  induction n generalizing y with
  | zero => rw [Finset.sum_range_zero, add_zero, at2_eq]; rfl
  | succ n ih =>
    have ht : k0_t3_loop.trips = 16 := by decide +kernel
    have hs := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 G G' ⟨n, by omega⟩
    simp only at hs
    rw [hs]
    dsimp only
    rw [View.writes_append, Finset.sum_range_succ, ← add_assoc]
    refine (View.read_writes_apply_of_pieces (Val := Elt Ideal) arg22.view _ (fun y : S16x128.Idx => at2 (arg22.view.read (Elt Ideal) (arg22.view.writes (Elt Ideal) G' (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 G G' n).2)) (y 0).val (y 1).val + uTerm (arg3.view.read (Elt Ideal) X_arg3) (arg17.view.read (Elt Ideal) X_arg17) (arg18.view.read (Elt Ideal) X_arg18) n (y 0).val (y 1).val) _ (t3_pieces22 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 ⟨n, by omega⟩ _ _) y (t3u_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg3 X_arg17 X_arg18 ⟨n, by omega⟩ _ _ y)).trans ?_
    dsimp only
    rw [at2_eq, ih (by omega)]

end Cert.Val

end
-- ==== Proof.KernelIdealValue.T4.lean ====
/- What the fourth loop leaves: the new codes and scales of the momentum, the weight changes and the new weights. -/
module

public import proofs.«01_k».proof.Proof.KernelIdealValue.Rows

@[expose] public section

set_option maxRecDepth 16384
set_option maxHeartbeats 16000000

noncomputable section

namespace Cert.Val

open Idealize.ShloMosaic Idealize.ShloMosaic.TcCoe Idealize.ShloMosaic.Tactic
open Cert.KernelIdeal Cert.KernelIdeal.Gen

variable (𝒱 : Variants) (c : Dev nD) (bd : Option 𝒱.V) (i : grid0.Coords) (arg1 : Memref sig .tc .smem S12 .i32) (harg1 : arg1.IsWhole) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)

section Momentum

variable (M6 : S1x256x7168.Idx → EReal) (M7 : S1x256x56.Idx → EReal) (U17 : S256x128.Idx → EReal) (U20 : S256x7168.Idx → EReal) (gain : EReal)

/-- The new momentum at row `r`, lane `l` of column block `c`: the decoded old one, decayed, plus the scaled update. -/
def momVal (r c l : ℕ) : EReal :=
  at3 M6 0 r (128 * c + l) * (at3 M7 0 r c * Ideal.ofBits .f32 1063675494#32) + at2 U20 r (128 * c + l) * (at2 U17 r l * gain)

/-- The largest size of the new momentum in column block `c` of row `r`, over the largest code. -/
def topVal (r c : ℕ) : EReal :=
  Finset.fold max (Ideal.ofBits .f32 4286578688#32) (fun x : Fin 128 => FloatOps.absf (F := Ideal) (φ := .f32) (momVal M6 M7 U17 U20 gain r c x.val)) Finset.univ
    * Ideal.ofBits .f32 991054117#32

/-- The exponent of the new scale of column block `c` of row `r`. -/
def expVal (r c : ℕ) : EReal :=
  if topVal M6 M7 U17 U20 gain r c = 0 then 0
  else Ideal.liftRound Int.floor (Ideal.div (Ideal.log (topVal M6 M7 U17 U20 gain r c)) (Ideal.log (Ideal.ofBits .f32 1073741824#32))) + 1

/-- The new code at row `r`, column `d`. -/
def codeVal (r d : ℕ) : EReal :=
  min (Ideal.ofBits .f32 1138753536#32) (max (Ideal.ofBits .f32 3286237184#32)
    (momVal M6 M7 U17 U20 gain r (d / 128) (d % 128) * Ideal.exp2 (0 - expVal M6 M7 U17 U20 gain r (d / 128))))

/-- The weight change at row `r`, column `d`, where `a l` is minus the step size in lane `l`. -/
def dwVal (a : ℕ → EReal) (r d : ℕ) : EReal :=
  codeVal M6 M7 U17 U20 gain r d * (Ideal.exp2 (expVal M6 M7 U17 U20 gain r (d / 128)) * a (d % 128))

end Momentum

/-- The reciprocal of the number of weights of one matrix. -/
def invSD : EReal := ((1 / 1835008 : ℝ) : EReal)

theorem named_invSD : (Named.named κ "inv_sd" 890390821#32 : Ideal .f32) = invSD :=
  IdealRules.named_const.ideal_named_scalar _ _ _ _ rfl

/-- Minus the step size: the root mean square of the weights, at least 1/1000, times the step's rate. -/
def stepOf (v1143 : Vec Ideal S16x128 .f32) (v15 : FVec Ideal S1x128 .f32) (l : ℕ) : EReal :=
  0 - max (Ideal.ofBits .f32 981668463#32) (Ideal.sqrt ((∑ x : Fin 128, ∑ x_1 : Fin 16, v1143 (ix2 x_1 x)) * invSD)) * (if h : l < 128 then v15 (ix2 0 ⟨l, h⟩) else 0)

theorem stepOf_val (v1143 : Vec Ideal S16x128 .f32) (v15 : FVec Ideal S1x128 .f32) (l : Fin 128) :
    stepOf v1143 v15 l.val = 0 - max (Ideal.ofBits .f32 981668463#32) (Ideal.sqrt ((∑ x : Fin 128, ∑ x_1 : Fin 16, v1143 (ix2 x_1 x)) * invSD)) * v15 (ix2 0 l) := by
  unfold stepOf
  rw [dif_pos l.isLt]

theorem off_div (a : ℕ) (l : Fin 128) (h : a % 128 = 0) : (a + l.val) / 128 = a / 128 := by have := l.isLt; omega
theorem off_mod (a : ℕ) (l : Fin 128) (h : a % 128 = 0) : (a + l.val) % 128 = l.val := by have := l.isLt; omega
theorem lane_div (l : Fin 128) : l.val / 128 = 0 := by have := l.isLt; omega
theorem lane_mod (l : Fin 128) : l.val % 128 = l.val := by have := l.isLt; omega
theorem ix3_fst {n m p : ℕ} (q : Fin n) (r : Fin m) (l : Fin p) : ix3 q r l 0 = q := rfl
theorem ix3_snd {n m p : ℕ} (q : Fin n) (r : Fin m) (l : Fin p) : ix3 q r l 1 = r := rfl
theorem ix3_trd {n m p : ℕ} (q : Fin n) (r : Fin m) (l : Fin p) : ix3 q r l 2 = l := rfl

/-- One trip's stores into the new weights, into the weight changes and into the new codes. -/
theorem t4_pieces (v15 : FVec Ideal S1x128 .f32) (v1140 : FVec Ideal S1x1 .f32) (v1141 : FVec Ideal S1x1 .f32) (v1143 : Vec Ideal S16x128 .f32) (v1157 : IVec S32x128 32) (X_arg2 : BufTy.Contents (Elt Ideal) arg2.view.ty) (X_arg6 : BufTy.Contents (Elt Ideal) arg6.view.ty) (X_arg7 : BufTy.Contents (Elt Ideal) arg7.view.ty) (X_arg17 : BufTy.Contents (Elt Ideal) arg17.view.ty) (X_arg20 : BufTy.Contents (Elt Ideal) arg20.view.ty) (k : Fin k0_t4_loop.trips) :
    (∀ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 k).1, ∀ x : p.1.shape.Idx,
      p.2 x = (fun y : S1x256x7168.Idx => at3 (arg2.view.read (Elt Ideal) X_arg2) 0 (y 1).val (y 2).val + dwVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (stepOf v1143 v15) (y 1).val (y 2).val) (p.1.emb x)) ∧
    (∀ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 k).2.1, ∀ x : p.1.shape.Idx,
      p.2 x = (fun y : S1x256x7168.Idx => dwVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (stepOf v1143 v15) (y 1).val (y 2).val) (p.1.emb x)) ∧
    (∀ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 k).2.2.1, ∀ x : p.1.shape.Idx,
      p.2 x = (fun y : S1x256x7168.Idx => codeVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (y 1).val (y 2).val) (p.1.emb x)) := by
  delta trip_k0_t4
  dsimp only
  simp only [List.forall_mem_cons]
  refine ⟨?_, ?_, ?_⟩ <;> refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals
    intro x
    obtain ⟨q, r, l, rfl⟩ : ∃ (q : Fin 1) (r : Fin 32) (l : Fin 128), x = ix3 q r l := ⟨x 0, x 1, x 2, (ix3_eta x).symm⟩
    sl_unfold_run_names
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829]
    simp only [emb_unit_val, readAt3_bf16, readAt3_f32, readAt3_fp8e4m3, readAt2_f32, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq, k0_off260_eq, k0_off261_eq, k0_off262_eq, k0_off263_eq, k0_off264_eq, k0_off265_eq, k0_off266_eq, k0_off267_eq, k0_off268_eq, k0_off269_eq, k0_off270_eq, k0_off271_eq, k0_off272_eq, k0_off273_eq, k0_off274_eq, k0_off275_eq, k0_off276_eq, k0_off277_eq, k0_off278_eq, k0_off279_eq, k0_off280_eq, k0_off281_eq, k0_off282_eq, k0_off283_eq, k0_off284_eq, k0_off285_eq, k0_off286_eq, k0_off287_eq, k0_off288_eq, k0_off289_eq, k0_off290_eq, k0_off291_eq, k0_off292_eq, k0_off293_eq, k0_off294_eq, k0_off295_eq, k0_off296_eq, k0_off297_eq, k0_off298_eq, k0_off299_eq, k0_off300_eq, k0_off301_eq, k0_off302_eq, k0_off303_eq, named_invSD]
    simp only [Matrix.cons_val_zero, Matrix.cons_val_one, Matrix.cons_val, ix2_fst, ix2_snd, ix3_fst, ix3_snd, ix3_trd, Fin.val_zero, zero_add, add_zero, codeVal, dwVal, expVal, topVal, momVal, off_div, off_mod, lane_div, lane_mod, Nat.reduceMod, Nat.reduceDiv, Nat.reduceMul, Nat.reduceAdd, stepOf_val, mul_zero]
    rfl

/-- Each of the three fills its thirty-two rows. -/
theorem t4_hits (v15 : FVec Ideal S1x128 .f32) (v1140 : FVec Ideal S1x1 .f32) (v1141 : FVec Ideal S1x1 .f32) (v1143 : Vec Ideal S16x128 .f32) (v1157 : IVec S32x128 32) (X_arg2 : BufTy.Contents (Elt Ideal) arg2.view.ty) (X_arg6 : BufTy.Contents (Elt Ideal) arg6.view.ty) (X_arg7 : BufTy.Contents (Elt Ideal) arg7.view.ty) (X_arg17 : BufTy.Contents (Elt Ideal) arg17.view.ty) (X_arg20 : BufTy.Contents (Elt Ideal) arg20.view.ty) (k : Fin k0_t4_loop.trips) (y : S1x256x7168.Idx) (hy : 32 * k.val ≤ (y 1).val ∧ (y 1).val < 32 * k.val + 32) :
    (∃ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 k).1, y ∈ p.1.set) ∧
    (∃ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 k).2.1, y ∈ p.1.set) ∧
    (∃ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 k).2.2.1, y ∈ p.1.set) := by
  have h0 : (y 0).val < 1 := (y 0).isLt
  have h2 : (y 2).val < 7168 := (y 2).isLt
  delta trip_k0_t4
  dsimp only
  refine ⟨?_, ?_, ?_⟩
  all_goals simp only [List.exists_mem_cons_iff, Rect.mem_set_unit, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq, k0_off260_eq, k0_off261_eq, k0_off262_eq, k0_off263_eq, k0_off264_eq, k0_off265_eq, k0_off266_eq, k0_off267_eq, k0_off268_eq, k0_off269_eq, k0_off270_eq, k0_off271_eq, k0_off272_eq, k0_off273_eq, k0_off274_eq, k0_off275_eq, k0_off276_eq, k0_off277_eq, k0_off278_eq, k0_off279_eq, k0_off280_eq, k0_off281_eq, k0_off282_eq, k0_off283_eq, k0_off284_eq, k0_off285_eq, k0_off286_eq, k0_off287_eq, k0_off288_eq, k0_off289_eq, k0_off290_eq, k0_off291_eq, k0_off292_eq, k0_off293_eq, k0_off294_eq, k0_off295_eq, k0_off296_eq, k0_off297_eq, k0_off298_eq, k0_off299_eq, k0_off300_eq, k0_off301_eq, k0_off302_eq, k0_off303_eq, Fin.forall_fin_succ]
  all_goals simp
  all_goals omega

/-- After `n` trips the first `32 * n` rows of the new weights are in place. -/
theorem t4_loop_arg8 (v15 : FVec Ideal S1x128 .f32) (v1140 : FVec Ideal S1x1 .f32) (v1141 : FVec Ideal S1x1 .f32) (v1143 : Vec Ideal S16x128 .f32) (v1157 : IVec S32x128 32) (X_arg2 : BufTy.Contents (Elt Ideal) arg2.view.ty) (X_arg6 : BufTy.Contents (Elt Ideal) arg6.view.ty) (X_arg7 : BufTy.Contents (Elt Ideal) arg7.view.ty) (X_arg17 : BufTy.Contents (Elt Ideal) arg17.view.ty) (X_arg20 : BufTy.Contents (Elt Ideal) arg20.view.ty)  (G : BufTy.Contents (Elt Ideal) arg8.view.ty) (n : ℕ) (hn : n ≤ 8) (y : S1x256x7168.Idx) (hy : (y 1).val < 32 * n) :
    arg8.view.read (Elt Ideal) (arg8.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 n).1) y = at3 (arg2.view.read (Elt Ideal) X_arg2) 0 (y 1).val (y 2).val + dwVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (stepOf v1143 v15) (y 1).val (y 2).val := by
  induction n with
  | zero => omega
  | succ n ih =>
    have ht : k0_t4_loop.trips = 8 := by decide +kernel
    have hs := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 ⟨n, by omega⟩
    simp only at hs
    rw [hs]
    dsimp only
    rw [View.writes_append]
    refine read_writes_spec (Val := Elt Ideal) arg8.view _ (fun y : S1x256x7168.Idx => at3 (arg2.view.read (Elt Ideal) X_arg2) 0 (y 1).val (y 2).val + dwVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (stepOf v1143 v15) (y 1).val (y 2).val) _ ?_ y ?_
    · exact (t4_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20  ⟨n, by omega⟩).1
    intro hnot
    refine ih (by omega) ?_
    by_contra hlt
    obtain ⟨p, hp, hy'⟩ := (t4_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 ⟨n, by omega⟩ y ⟨not_lt.1 hlt, by show _ < 32 * n + 32; omega⟩).1
    exact hnot p hp hy'

/-- After `n` trips the first `32 * n` rows of the weight changes are in place. -/
theorem t4_loop_arg9 (v15 : FVec Ideal S1x128 .f32) (v1140 : FVec Ideal S1x1 .f32) (v1141 : FVec Ideal S1x1 .f32) (v1143 : Vec Ideal S16x128 .f32) (v1157 : IVec S32x128 32) (X_arg2 : BufTy.Contents (Elt Ideal) arg2.view.ty) (X_arg6 : BufTy.Contents (Elt Ideal) arg6.view.ty) (X_arg7 : BufTy.Contents (Elt Ideal) arg7.view.ty) (X_arg17 : BufTy.Contents (Elt Ideal) arg17.view.ty) (X_arg20 : BufTy.Contents (Elt Ideal) arg20.view.ty)  (G : BufTy.Contents (Elt Ideal) arg9.view.ty) (n : ℕ) (hn : n ≤ 8) (y : S1x256x7168.Idx) (hy : (y 1).val < 32 * n) :
    arg9.view.read (Elt Ideal) (arg9.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 n).2.1) y = dwVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (stepOf v1143 v15) (y 1).val (y 2).val := by
  induction n with
  | zero => omega
  | succ n ih =>
    have ht : k0_t4_loop.trips = 8 := by decide +kernel
    have hs := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 ⟨n, by omega⟩
    simp only at hs
    rw [hs]
    dsimp only
    rw [View.writes_append]
    refine read_writes_spec (Val := Elt Ideal) arg9.view _ (fun y : S1x256x7168.Idx => dwVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (stepOf v1143 v15) (y 1).val (y 2).val) _ ?_ y ?_
    · exact (t4_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20  ⟨n, by omega⟩).2.1
    intro hnot
    refine ih (by omega) ?_
    by_contra hlt
    obtain ⟨p, hp, hy'⟩ := (t4_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 ⟨n, by omega⟩ y ⟨not_lt.1 hlt, by show _ < 32 * n + 32; omega⟩).2.1
    exact hnot p hp hy'

/-- After `n` trips the first `32 * n` rows of the new codes are in place. -/
theorem t4_loop_arg12 (v15 : FVec Ideal S1x128 .f32) (v1140 : FVec Ideal S1x1 .f32) (v1141 : FVec Ideal S1x1 .f32) (v1143 : Vec Ideal S16x128 .f32) (v1157 : IVec S32x128 32) (X_arg2 : BufTy.Contents (Elt Ideal) arg2.view.ty) (X_arg6 : BufTy.Contents (Elt Ideal) arg6.view.ty) (X_arg7 : BufTy.Contents (Elt Ideal) arg7.view.ty) (X_arg17 : BufTy.Contents (Elt Ideal) arg17.view.ty) (X_arg20 : BufTy.Contents (Elt Ideal) arg20.view.ty)  (G : BufTy.Contents (Elt Ideal) arg12.view.ty) (n : ℕ) (hn : n ≤ 8) (y : S1x256x7168.Idx) (hy : (y 1).val < 32 * n) :
    arg12.view.read (Elt Ideal) (arg12.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 n).2.2.1) y = codeVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (y 1).val (y 2).val := by
  induction n with
  | zero => omega
  | succ n ih =>
    have ht : k0_t4_loop.trips = 8 := by decide +kernel
    have hs := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 ⟨n, by omega⟩
    simp only at hs
    rw [hs]
    dsimp only
    rw [View.writes_append]
    refine read_writes_spec (Val := Elt Ideal) arg12.view _ (fun y : S1x256x7168.Idx => codeVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (y 1).val (y 2).val) _ ?_ y ?_
    · exact (t4_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20  ⟨n, by omega⟩).2.2
    intro hnot
    refine ih (by omega) ?_
    by_contra hlt
    obtain ⟨p, hp, hy'⟩ := (t4_hits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 ⟨n, by omega⟩ y ⟨not_lt.1 hlt, by show _ < 32 * n + 32; omega⟩).2.2
    exact hnot p hp hy'

end Cert.Val

end
-- ==== Proof.KernelIdealValue.T4S.lean ====
/- What the fourth loop leaves of the new scales. -/
module

public import proofs.«01_k».proof.Proof.KernelIdealValue.T4

@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen

variable (𝒱 : Variants) (c : Dev nD) (bd : Option 𝒱.V) (i : grid0.Coords) (arg1 : Memref sig .tc .smem S12 .i32) (harg1 : arg1.IsWhole) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)

/-- A lane's choice: when its number is `c` it takes the value of block `c`, otherwise what was chosen before. -/
theorem sel_step (f : ℕ → EReal) (l c : ℕ) (a rest : EReal) (hl : l < 56) (hc : c < 56) (ha : a = f c) (h : l ≠ c → rest = f l) :
    Scalar.select (IntOp.cmpi .eq (BitVec.ofNat 32 l) (BitVec.ofNat 32 c)) a rest = f l := by
  by_cases e : l = c
  · subst e
    simp [Scalar.select, IntOp.cmpi, ha]
  · have : BitVec.ofNat 32 l ≠ BitVec.ofNat 32 c := by
      intro h'
      have := congrArg BitVec.toNat h'
      simp only [BitVec.toNat_ofNat] at this
      omega
    have hb : (BitVec.ofNat 32 l == BitVec.ofNat 32 c) = false := by simpa using this
    simp [Scalar.select, IntOp.cmpi, hb, h e]

/-- One trip's store into the new scales. -/
theorem t4_pieces_arg13 (v15 : FVec Ideal S1x128 .f32) (v1140 : FVec Ideal S1x1 .f32) (v1141 : FVec Ideal S1x1 .f32) (v1143 : Vec Ideal S16x128 .f32) (v1157 : IVec S32x128 32) (X_arg2 : BufTy.Contents (Elt Ideal) arg2.view.ty) (X_arg6 : BufTy.Contents (Elt Ideal) arg6.view.ty) (X_arg7 : BufTy.Contents (Elt Ideal) arg7.view.ty) (X_arg17 : BufTy.Contents (Elt Ideal) arg17.view.ty) (X_arg20 : BufTy.Contents (Elt Ideal) arg20.view.ty) (hv : ∀ (r : Fin 32) (l : Fin 128), v1157 (ix2 r l) = BitVec.ofNat 32 l.val) (k : Fin k0_t4_loop.trips) :
    ∀ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 k).2.2.2.1, ∀ x : p.1.shape.Idx,
      p.2 x = (fun y : S1x256x56.Idx => Ideal.exp2 (expVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (y 1).val (y 2).val)) (p.1.emb x) := by
  delta trip_k0_t4
  dsimp only
  simp only [List.forall_mem_cons]
  refine ⟨?_, fun _ h => absurd h List.not_mem_nil⟩
  intro x
  obtain ⟨q, r, l, rfl⟩ : ∃ (q : Fin 1) (r : Fin 32) (l : Fin 56), x = ix3 q r l := ⟨x 0, x 1, x 2, (ix3_eta x).symm⟩
  have hl := l.isLt
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829]
  simp only [emb_unit_val, readAt3_bf16, readAt3_f32, readAt3_fp8e4m3, readAt2_f32, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq, k0_off260_eq, k0_off261_eq, k0_off262_eq, k0_off263_eq, k0_off264_eq, k0_off265_eq, k0_off266_eq, k0_off267_eq, k0_off268_eq, k0_off269_eq, k0_off270_eq, k0_off271_eq, k0_off272_eq, k0_off273_eq, k0_off274_eq, k0_off275_eq, k0_off276_eq, k0_off277_eq, k0_off278_eq, k0_off279_eq, k0_off280_eq, k0_off281_eq, k0_off282_eq, k0_off283_eq, k0_off284_eq, k0_off285_eq, k0_off286_eq, k0_off287_eq, k0_off288_eq, k0_off289_eq, k0_off290_eq, k0_off291_eq, k0_off292_eq, k0_off293_eq, k0_off294_eq, k0_off295_eq, k0_off296_eq, k0_off297_eq, k0_off298_eq, k0_off299_eq, k0_off300_eq, k0_off301_eq, k0_off302_eq, k0_off303_eq]
  simp only [Matrix.cons_val_zero, Matrix.cons_val_one, Matrix.cons_val, ix2_fst, ix2_snd, ix3_fst, ix3_snd, ix3_trd, Fin.val_zero, zero_add, add_zero, hv, mul_zero]
  iterate 56
    refine sel_step (fun c => Ideal.exp2 (expVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (32 * k.val + r.val) c)) _ _ _ _ hl (by decide) (by simp only [expVal, topVal, momVal, Nat.reduceMul, mul_zero, zero_add]; rfl) ?_
    intro _
  omega

/-- One trip's store into the new scales fills its thirty-two rows. -/
theorem t4_hits_arg13 (v15 : FVec Ideal S1x128 .f32) (v1140 : FVec Ideal S1x1 .f32) (v1141 : FVec Ideal S1x1 .f32) (v1143 : Vec Ideal S16x128 .f32) (v1157 : IVec S32x128 32) (X_arg2 : BufTy.Contents (Elt Ideal) arg2.view.ty) (X_arg6 : BufTy.Contents (Elt Ideal) arg6.view.ty) (X_arg7 : BufTy.Contents (Elt Ideal) arg7.view.ty) (X_arg17 : BufTy.Contents (Elt Ideal) arg17.view.ty) (X_arg20 : BufTy.Contents (Elt Ideal) arg20.view.ty) (k : Fin k0_t4_loop.trips) (y : S1x256x56.Idx) (hy : 32 * k.val ≤ (y 1).val ∧ (y 1).val < 32 * k.val + 32) :
    ∃ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 k).2.2.2.1, y ∈ p.1.set := by
  have h0 : (y 0).val < 1 := (y 0).isLt
  have h2 : (y 2).val < 56 := (y 2).isLt
  delta trip_k0_t4
  dsimp only
  simp only [List.exists_mem_cons_iff, Rect.mem_set_unit, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq, k0_off260_eq, k0_off261_eq, k0_off262_eq, k0_off263_eq, k0_off264_eq, k0_off265_eq, k0_off266_eq, k0_off267_eq, k0_off268_eq, k0_off269_eq, k0_off270_eq, k0_off271_eq, k0_off272_eq, k0_off273_eq, k0_off274_eq, k0_off275_eq, k0_off276_eq, k0_off277_eq, k0_off278_eq, k0_off279_eq, k0_off280_eq, k0_off281_eq, k0_off282_eq, k0_off283_eq, k0_off284_eq, k0_off285_eq, k0_off286_eq, k0_off287_eq, k0_off288_eq, k0_off289_eq, k0_off290_eq, k0_off291_eq, k0_off292_eq, k0_off293_eq, k0_off294_eq, k0_off295_eq, k0_off296_eq, k0_off297_eq, k0_off298_eq, k0_off299_eq, k0_off300_eq, k0_off301_eq, k0_off302_eq, k0_off303_eq, Fin.forall_fin_succ]
  simp
  omega

/-- After `n` trips the first `32 * n` rows of the new scales are in place. -/
theorem t4_loop_arg13 (v15 : FVec Ideal S1x128 .f32) (v1140 : FVec Ideal S1x1 .f32) (v1141 : FVec Ideal S1x1 .f32) (v1143 : Vec Ideal S16x128 .f32) (v1157 : IVec S32x128 32) (X_arg2 : BufTy.Contents (Elt Ideal) arg2.view.ty) (X_arg6 : BufTy.Contents (Elt Ideal) arg6.view.ty) (X_arg7 : BufTy.Contents (Elt Ideal) arg7.view.ty) (X_arg17 : BufTy.Contents (Elt Ideal) arg17.view.ty) (X_arg20 : BufTy.Contents (Elt Ideal) arg20.view.ty) (hv : ∀ (r : Fin 32) (l : Fin 128), v1157 (ix2 r l) = BitVec.ofNat 32 l.val) (G : BufTy.Contents (Elt Ideal) arg13.view.ty) (n : ℕ) (hn : n ≤ 8) (y : S1x256x56.Idx) (hy : (y 1).val < 32 * n) :
    arg13.view.read (Elt Ideal) (arg13.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 n).2.2.2) y = Ideal.exp2 (expVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (y 1).val (y 2).val) := by
  induction n with
  | zero => omega
  | succ n ih =>
    have ht : k0_t4_loop.trips = 8 := by decide +kernel
    have hs := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 ⟨n, by omega⟩
    simp only at hs
    rw [hs]
    dsimp only
    rw [View.writes_append]
    refine read_writes_spec (Val := Elt Ideal) arg13.view _ (fun y : S1x256x56.Idx => Ideal.exp2 (expVal (arg6.view.read (Elt Ideal) X_arg6) (arg7.view.read (Elt Ideal) X_arg7) (arg17.view.read (Elt Ideal) X_arg17) (arg20.view.read (Elt Ideal) X_arg20) (Ideal.div (v1141 (ix2 0 0)) (v1140 (ix2 0 0))) (y 1).val (y 2).val)) _ ?_ y ?_
    · exact t4_pieces_arg13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 hv ⟨n, by omega⟩
    intro hnot
    refine ih (by omega) ?_
    by_contra hlt
    obtain ⟨p, hp, hy'⟩ := t4_hits_arg13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v1140 v1141 v1143 v1157 X_arg2 X_arg6 X_arg7 X_arg17 X_arg20 ⟨n, by omega⟩ y ⟨not_lt.1 hlt, by show _ < 32 * n + 32; omega⟩
    exact hnot p hp hy'

end Cert.Val

end
-- ==== Proof.KernelIdealValue.Pass.lean ====
/- What one grid point of the kernel computes, as plain functions of the blocks it reads and of the statistics it finds. -/
module

public import proofs.«01_k».proof.Proof.KernelIdealValue.Rows
public import proofs.«01_k».proof.Proof.KernelIdealValue.T1W
public import proofs.«01_k».proof.Proof.KernelIdealValue.T3L
public import proofs.«01_k».proof.Proof.KernelIdealValue.T4
public import proofs.«01_k».proof.Proof.KernelIdealValue.T4S

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Body

/-- The decay factor the column pass computes from the step count is `betaE` of it. -/
theorem betaK_eq (v2 : Elt Ideal .i32) : betaK v2 = betaE ((BitVec.toInt v2 : ℝ) : EReal) := by
  unfold betaK betaE
  pointwise [k0_pay830, k0_pay829]

section
variable (t : EReal) (b : ℕ) (X0 X1 : S1x256x7168.Idx → EReal) (X4 : S1x256x7168.Idx → EReal) (X5 : S1x256x56.Idx → EReal)
  (R14 : S256x128.Idx → EReal) (R19 : S12x8x7168.Idx → EReal)

/-- The new row statistic of row `r` (the same in every lane `l`). -/
def pVr (r l : ℕ) : EReal := vrRow (betaE t) R14 (fun y => rowSq X1 (y 0).val) b r l

/-- The row factors. -/
def pFac : S256x128.Idx → EReal := fun y =>
  Ideal.rsqrt (Ideal.div (pVr t b X1 R14 (y 0).val (y 1).val) (meanRow (pVr t b X1 R14) (y 1).val))

/-- The new column statistic of column `d` (the same in every sublane `s`). -/
def pVc (s d : ℕ) : EReal := vcNew (betaE t) (at3 R19 b s d) (colSq X1 d)

/-- The column factors. -/
def pCol : S8x7168.Idx → EReal := fun y => Ideal.rsqrt (pVc t b X1 R19 (y 0).val (y 1).val)

/-- The gradient times the column factors. -/
def pUpd : S256x7168.Idx → EReal := fun y =>
  at3 X1 0 (y 0).val (y 1).val * at2 (pCol t b X1 R19) ((y 0).val % 8) (y 1).val

/-- The accumulated squares of the weights. -/
def pAccW : S16x128.Idx → EReal := fun y => ∑ k ∈ Finset.range 16, wTerm X0 k (y 0).val (y 1).val

/-- The accumulated squares of the update. -/
def pAccU : S16x128.Idx → EReal := fun y =>
  ∑ k ∈ Finset.range 16, uTerm X1 (pFac t b X1 R14) (pCol t b X1 R19) k (y 0).val (y 1).val

/-- The root mean square of an accumulator. -/
def rmsOf (A : S16x128.Idx → EReal) : EReal := Ideal.sqrt ((∑ x : Fin 128, ∑ x_1 : Fin 16, A (ix2 x_1 x)) * invSD)

/-- The factor by which the clipped update enters the momentum. -/
def pGain : EReal :=
  Ideal.div (Ideal.ofBits .f32 1036831949#32)
    (max (Ideal.ofBits .f32 1065353216#32) (Ideal.div (rmsOf (pAccU t b X1 R14 R19)) (Ideal.ofBits .f32 1065353216#32)))

/-- Minus the step size. -/
def pStep : EReal :=
  0 - max (Ideal.ofBits .f32 981668463#32) (rmsOf (pAccW X0)) * min (Ideal.ofBits .f32 1008981770#32) (Ideal.rsqrt t)

/-- The new exponent of column block `c` of row `r`. -/
def pExp (r c : ℕ) : EReal := expVal X4 X5 (pFac t b X1 R14) (pUpd t b X1 R19) (pGain t b X1 R14 R19) r c

/-- The new code at row `r`, column `d`. -/
def pCode (r d : ℕ) : EReal := codeVal X4 X5 (pFac t b X1 R14) (pUpd t b X1 R19) (pGain t b X1 R14 R19) r d

/-- The weight change at row `r`, column `d`. -/
def pDw (r d : ℕ) : EReal :=
  pCode t b X1 X4 X5 R14 R19 r d * (Ideal.exp2 (pExp t b X1 X4 X5 R14 R19 r (d / 128)) * pStep t X0)
end

end Cert.Val
end
-- ==== Proof.KernelIdealValue.Mid.lean ====
/- What the kernel body leaves behind at a grid point, in terms of the plain functions of `Pass`. -/
module

public import proofs.«01_k».proof.Proof.KernelIdealValue.Pass
@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen Cert.KernelIdeal.Body

theorem trips1 : (Scf.trips k0_t1_loop.lb k0_t1_loop.ub k0_t1_loop.st) = 16 := by decide +kernel
theorem trips2 : (Scf.trips 0#32 (Scalar.addi 0#32 7#32) 1#32) = 7 := by decide +kernel
theorem trips3 : (Scf.trips 0#32 (Scalar.addi 0#32 16#32) 1#32) = 16 := by decide +kernel
theorem trips4 : (Scf.trips 0#32 (Scalar.addi 0#32 8#32) 1#32) = 8 := by decide +kernel

theorem zero21 (arg21 : Memref sig .tc .vmem S16x128 .f32) (harg21 : arg21.IsWhole) : ∀ y : S16x128.Idx, arg21.view.read (Elt Ideal) (arg21.view.writes (Elt Ideal) arg21.view.junk (runMid.sl.HS7_1 (F := Ideal))) y = 0 := by
  intro y
  refine View.read_writes_apply_of_pieces (Val := Elt Ideal) arg21.view _ (fun _ : S16x128.Idx => (0 : EReal)) _ ?_ y ?_
  · delta runMid.sl.HS7_1
    simp only [List.forall_mem_cons]
    refine ⟨?_, fun _ h => absurd h List.not_mem_nil⟩
    intro x
    obtain ⟨r, l, rfl⟩ : ∃ (r : Fin 16) (l : Fin 128), x = ix2 r l := ⟨x 0, x 1, (ix2_eta x).symm⟩
    sl_unfold_run_names
    pointwise []
  · have h0 : (y 0).val < 16 := (y 0).isLt
    have h1 : (y 1).val < 128 := (y 1).isLt
    delta runMid.sl.HS7_1
    simp only [List.exists_mem_cons_iff, Rect.mem_set_unit, Fin.forall_fin_two]
    simp
    omega

theorem zero22 (arg22 : Memref sig .tc .vmem S16x128 .f32) (harg22 : arg22.IsWhole) : ∀ y : S16x128.Idx, arg22.view.read (Elt Ideal) (arg22.view.writes (Elt Ideal) arg22.view.junk (runMid.sl.HS8_1 (F := Ideal))) y = 0 := by
  intro y
  refine View.read_writes_apply_of_pieces (Val := Elt Ideal) arg22.view _ (fun _ : S16x128.Idx => (0 : EReal)) _ ?_ y ?_
  · delta runMid.sl.HS8_1
    simp only [List.forall_mem_cons]
    refine ⟨?_, fun _ h => absurd h List.not_mem_nil⟩
    intro x
    obtain ⟨r, l, rfl⟩ : ∃ (r : Fin 16) (l : Fin 128), x = ix2 r l := ⟨x 0, x 1, (ix2_eta x).symm⟩
    sl_unfold_run_names
    pointwise [k0_pay1014]
  · have h0 : (y 0).val < 16 := (y 0).isLt
    have h1 : (y 1).val < 128 := (y 1).isLt
    delta runMid.sl.HS8_1
    simp only [List.exists_mem_cons_iff, Rect.mem_set_unit, Fin.forall_fin_two]
    simp
    omega

theorem mid_iota (r : Fin 32) (l : Fin 128) : runMid.sl.v1157 (ix2 r l) = BitVec.ofNat 32 l.val := by
  sl_unfold_run_names
  pointwise []

section
variable (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

/-- The row sums after the first pass. -/
theorem mid_rsum (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs2 : BufTy.Contents (Elt Ideal) arg16.view.ty) : arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1) = fun y => rowSq x1 (y 0).val := by
  funext y
  rw [trips1, t1_rsum Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) 16 le_rfl y (y 0).isLt, harg3.read_unread]

/-- The row factors. -/
theorem mid_fac (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs2 : BufTy.Contents (Elt Ideal) arg16.view.ty) : arg17.view.read (Elt Ideal) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) = (pFac (stepAt c i xt0) (i 0).val x1 (arg14.view.read (Elt Ideal) fs0)) := by
  funext y
  rw [rows_factor c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 y, mid_rsum c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs2]
  rfl

/-- The column statistics. -/
theorem mid_vc (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs4 : BufTy.Contents (Elt Ideal) arg18.view.ty) (fs5 : BufTy.Contents (Elt Ideal) arg19.view.ty) (y : S12x8x7168.Idx) : arg19.view.read (Elt Ideal) (arg19.view.writes (Elt Ideal) fs5 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).2) y
    = if (y 0).val = (i 0).val then pVc (stepAt c i xt0) (i 0).val x1 (arg19.view.read (Elt Ideal) fs5) (y 1).val (y 2).val else (arg19.view.read (Elt Ideal) fs5) y := by
  have h2 : (y 2).val < 1024 * 7 := (y 2).isLt
  rw [trips2, (t2_loop Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 7 le_rfl).1 y, harg3.read_unread, betaK_eq]
  simp only [h2, and_true]
  split
  · next h => rw [h]; rfl
  · rfl

/-- The column factors. -/
theorem mid_col (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs4 : BufTy.Contents (Elt Ideal) arg18.view.ty) (fs5 : BufTy.Contents (Elt Ideal) arg19.view.ty) : arg18.view.read (Elt Ideal) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) = (pCol (stepAt c i xt0) (i 0).val x1 (arg19.view.read (Elt Ideal) fs5)) := by
  funext y
  have h2 : (y 1).val < 1024 * 7 := (y 1).isLt
  rw [trips2, (t2_loop Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 7 le_rfl).2 y h2, harg3.read_unread, betaK_eq]
  rfl

/-- The row statistics kept for the later points. -/
theorem mid_vr (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs1 : BufTy.Contents (Elt Ideal) arg15.view.ty) (fs2 : BufTy.Contents (Elt Ideal) arg16.view.ty) (f : BufTy.Contents (Elt Ideal) arg15.view.ty) (y : S256x128.Idx) :
    arg15.view.read (Elt Ideal) (arg15.view.writes (Elt Ideal) f (runMid.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2)) y
    = Scalar.select (IntOp.cmpi .eq (BitVec.ofNat 32 (y 1).val) (BitVec.ofNat 32 (i 0).val)) (pVr (stepAt c i xt0) (i 0).val x1 (arg14.view.read (Elt Ideal) fs0) (y 0).val (y 1).val)
        (arg15.view.read (Elt Ideal) fs1 y) := by
  rw [rows_read15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2 f y, mid_rsum c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs2, at2_eq]
  rfl

/-- The update before its row factors. -/
theorem mid_upd (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs2 : BufTy.Contents (Elt Ideal) arg16.view.ty) (fs4 : BufTy.Contents (Elt Ideal) arg18.view.ty) (fs5 : BufTy.Contents (Elt Ideal) arg19.view.ty) (fs6 : BufTy.Contents (Elt Ideal) arg20.view.ty) : arg20.view.read (Elt Ideal) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) = (pUpd (stepAt c i xt0) (i 0).val x1 (arg19.view.read (Elt Ideal) fs5)) := by
  funext y
  rw [trips3, t3_loop Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) 16 le_rfl y (y 0).isLt, harg3.read_unread, mid_col c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs4 fs5]
  rfl

/-- The weights' accumulator after the first pass. -/
theorem mid_accw (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs2 : BufTy.Contents (Elt Ideal) arg16.view.ty) : (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) = pAccW x0 := by
  funext x
  obtain ⟨r, l, rfl⟩ : ∃ (r : Fin 16) (l : Fin 128), x = ix2 r l := ⟨x 0, x 1, (ix2_eta x).symm⟩
  delta runMid.sl.v1143
  show View.readAt (Elt Ideal) arg21.view _ (arg21.view.writes (Elt Ideal) arg21.view.junk (_ ++ _)) _ = _
  rw [View.writes_append, trips1]
  refine (readAt2_f32 _ _ _ _ _ _).trans ?_
  simp only [ix2_fst, ix2_snd, Matrix.cons_val_zero, Matrix.cons_val_one, zero_add]
  refine (at2_eq _ (ix2 r l)).trans ?_
  refine (t1w_loop Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) 16 le_rfl (ix2 r l)).trans ?_
  rw [harg2.read_unread]
  refine (congrArg (· + _) (at2_eq _ (ix2 r l))).trans ?_
  refine (congrArg (· + _) (zero21 arg21 harg21 (ix2 r l))).trans ?_
  exact zero_add _

/-- The update's accumulator after the third pass. -/
theorem mid_accu (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs2 : BufTy.Contents (Elt Ideal) arg16.view.ty) (fs4 : BufTy.Contents (Elt Ideal) arg18.view.ty) (fs5 : BufTy.Contents (Elt Ideal) arg19.view.ty) (fs6 : BufTy.Contents (Elt Ideal) arg20.view.ty) : (runMid.sl.v1129 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) = pAccU (stepAt c i xt0) (i 0).val x1 (arg14.view.read (Elt Ideal) fs0) (arg19.view.read (Elt Ideal) fs5) := by
  funext x
  obtain ⟨r, l, rfl⟩ : ∃ (r : Fin 16) (l : Fin 128), x = ix2 r l := ⟨x 0, x 1, (ix2_eta x).symm⟩
  delta runMid.sl.v1129
  show View.readAt (Elt Ideal) arg22.view _ (arg22.view.writes (Elt Ideal) arg22.view.junk (_ ++ _)) _ = _
  rw [View.writes_append, trips3]
  refine (readAt2_f32 _ _ _ _ _ _).trans ?_
  simp only [ix2_fst, ix2_snd, Matrix.cons_val_zero, Matrix.cons_val_one, zero_add]
  refine (at2_eq _ (ix2 r l)).trans ?_
  refine (t3u_loop Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) 16 le_rfl (ix2 r l)).trans ?_
  rw [harg3.read_unread, mid_col c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs4 fs5, mid_fac c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2]
  refine (congrArg (· + _) (at2_eq _ (ix2 r l))).trans ?_
  refine (congrArg (· + _) (zero22 arg22 harg22 (ix2 r l))).trans ?_
  exact zero_add _

/-- The gain. -/
theorem mid_gain (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs2 : BufTy.Contents (Elt Ideal) arg16.view.ty) (fs4 : BufTy.Contents (Elt Ideal) arg18.view.ty) (fs5 : BufTy.Contents (Elt Ideal) arg19.view.ty) (fs6 : BufTy.Contents (Elt Ideal) arg20.view.ty) : Ideal.div ((k0_pay1017 (F := Ideal)) (ix2 0 0)) ((runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (ix2 0 0)) = (pGain (stepAt c i xt0) (i 0).val x1 (arg14.view.read (Elt Ideal) fs0) (arg19.view.read (Elt Ideal) fs5)) := by
  delta runMid.sl.r_56
  rw [mid_accu c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6]
  unfold pGain rmsOf
  generalize pAccU (stepAt c i xt0) (i 0).val x1 (arg14.view.read (Elt Ideal) fs0) (arg19.view.read (Elt Ideal) fs5) = A
  pointwise [k0_pay1016, k0_pay1017, named_invSD]

/-- Minus the step size. -/
theorem mid_step (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs2 : BufTy.Contents (Elt Ideal) arg16.view.ty) (l : ℕ) (hl : l < 128) : stepOf (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) (runMid.sl.v15 (F := Ideal) c i xt0) l = pStep (stepAt c i xt0) x0 := by
  rw [mid_accw c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs2]
  have h := stepOf_val (pAccW x0) (runMid.sl.v15 (F := Ideal) c i xt0) ⟨l, hl⟩
  refine h.trans ?_
  unfold pStep rmsOf
  generalize pAccW x0 = A
  refine congrArg (fun z => 0 - max (Ideal.ofBits .f32 981668463#32) (Ideal.sqrt ((∑ x : Fin 128, ∑ x_1 : Fin 16, A (ix2 x_1 x)) * invSD)) * z) ?_
  unfold stepAt
  sl_unfold_run_names
  pointwise []

/-- The new weights. -/
theorem mid_out8 (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs1 : BufTy.Contents (Elt Ideal) arg15.view.ty) (fs2 : BufTy.Contents (Elt Ideal) arg16.view.ty) (fs4 : BufTy.Contents (Elt Ideal) arg18.view.ty) (fs5 : BufTy.Contents (Elt Ideal) arg19.view.ty) (fs6 : BufTy.Contents (Elt Ideal) arg20.view.ty) (f : BufTy.Contents (Elt Ideal) arg8.view.ty) (y : S1x256x7168.Idx) :
    arg8.view.read (Elt Ideal) (arg8.view.writes (Elt Ideal) f ((pb_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runMid.sl.v15 (F := Ideal) c i xt0) (runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (k0_pay1017 (F := Ideal)) (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) runMid.sl.v1157 (harg2.unread x0) (harg6.unread x4) (harg7.unread x5) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) (Scf.trips 0#32 (Scalar.addi 0#32 8#32) 1#32))).1) y = x0 y + pDw (stepAt c i xt0) (i 0).val x0 x1 x4 x5 (arg14.view.read (Elt Ideal) fs0) (arg19.view.read (Elt Ideal) fs5) (y 1).val (y 2).val := by
  rw [trips4, t4_loop_arg8 Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runMid.sl.v15 (F := Ideal) c i xt0) (runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (k0_pay1017 (F := Ideal)) (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) runMid.sl.v1157 (harg2.unread x0) (harg6.unread x4) (harg7.unread x5) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) f 8 le_rfl y (y 1).isLt, harg2.read_unread, harg6.read_unread, harg7.read_unread, mid_fac c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2, mid_upd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6,
    mid_gain c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6]
  unfold dwVal
  rw [mid_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs2 _ (Nat.mod_lt _ (by norm_num))]
  refine congrArg₂ (· + ·) ?_ rfl
  have h0 : (y 0).val = 0 := by have h : (y 0).val < 1 := (y 0).isLt; omega
  exact (congrArg (fun a => at3 x0 a (y 1).val (y 2).val) h0.symm).trans (at3_eq x0 y)

/-- The weight change. -/
theorem mid_out9 (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs1 : BufTy.Contents (Elt Ideal) arg15.view.ty) (fs2 : BufTy.Contents (Elt Ideal) arg16.view.ty) (fs4 : BufTy.Contents (Elt Ideal) arg18.view.ty) (fs5 : BufTy.Contents (Elt Ideal) arg19.view.ty) (fs6 : BufTy.Contents (Elt Ideal) arg20.view.ty) (f : BufTy.Contents (Elt Ideal) arg9.view.ty) (y : S1x256x7168.Idx) :
    arg9.view.read (Elt Ideal) (arg9.view.writes (Elt Ideal) f ((pb_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runMid.sl.v15 (F := Ideal) c i xt0) (runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (k0_pay1017 (F := Ideal)) (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) runMid.sl.v1157 (harg2.unread x0) (harg6.unread x4) (harg7.unread x5) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) (Scf.trips 0#32 (Scalar.addi 0#32 8#32) 1#32))).2.1) y = pDw (stepAt c i xt0) (i 0).val x0 x1 x4 x5 (arg14.view.read (Elt Ideal) fs0) (arg19.view.read (Elt Ideal) fs5) (y 1).val (y 2).val := by
  rw [trips4, t4_loop_arg9 Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runMid.sl.v15 (F := Ideal) c i xt0) (runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (k0_pay1017 (F := Ideal)) (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) runMid.sl.v1157 (harg2.unread x0) (harg6.unread x4) (harg7.unread x5) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) f 8 le_rfl y (y 1).isLt, harg6.read_unread, harg7.read_unread, mid_fac c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2, mid_upd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6,
    mid_gain c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6]
  unfold dwVal
  rw [mid_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs2 _ (Nat.mod_lt _ (by norm_num))]
  rfl

/-- The new codes. -/
theorem mid_out12 (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs1 : BufTy.Contents (Elt Ideal) arg15.view.ty) (fs2 : BufTy.Contents (Elt Ideal) arg16.view.ty) (fs4 : BufTy.Contents (Elt Ideal) arg18.view.ty) (fs5 : BufTy.Contents (Elt Ideal) arg19.view.ty) (fs6 : BufTy.Contents (Elt Ideal) arg20.view.ty) (f : BufTy.Contents (Elt Ideal) arg12.view.ty) (y : S1x256x7168.Idx) :
    arg12.view.read (Elt Ideal) (arg12.view.writes (Elt Ideal) f ((pb_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runMid.sl.v15 (F := Ideal) c i xt0) (runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (k0_pay1017 (F := Ideal)) (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) runMid.sl.v1157 (harg2.unread x0) (harg6.unread x4) (harg7.unread x5) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) (Scf.trips 0#32 (Scalar.addi 0#32 8#32) 1#32))).2.2.1) y = pCode (stepAt c i xt0) (i 0).val x1 x4 x5 (arg14.view.read (Elt Ideal) fs0) (arg19.view.read (Elt Ideal) fs5) (y 1).val (y 2).val := by
  rw [trips4, t4_loop_arg12 Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runMid.sl.v15 (F := Ideal) c i xt0) (runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (k0_pay1017 (F := Ideal)) (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) runMid.sl.v1157 (harg2.unread x0) (harg6.unread x4) (harg7.unread x5) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) f 8 le_rfl y (y 1).isLt, harg6.read_unread, harg7.read_unread, mid_fac c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2, mid_upd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6,
    mid_gain c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6]
  rfl

/-- The new scales. -/
theorem mid_out13 (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs1 : BufTy.Contents (Elt Ideal) arg15.view.ty) (fs2 : BufTy.Contents (Elt Ideal) arg16.view.ty) (fs4 : BufTy.Contents (Elt Ideal) arg18.view.ty) (fs5 : BufTy.Contents (Elt Ideal) arg19.view.ty) (fs6 : BufTy.Contents (Elt Ideal) arg20.view.ty) (f : BufTy.Contents (Elt Ideal) arg13.view.ty) (y : S1x256x56.Idx) :
    arg13.view.read (Elt Ideal) (arg13.view.writes (Elt Ideal) f ((pb_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runMid.sl.v15 (F := Ideal) c i xt0) (runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (k0_pay1017 (F := Ideal)) (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) runMid.sl.v1157 (harg2.unread x0) (harg6.unread x4) (harg7.unread x5) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) (Scf.trips 0#32 (Scalar.addi 0#32 8#32) 1#32))).2.2.2) y = Ideal.exp2 (pExp (stepAt c i xt0) (i 0).val x1 x4 x5 (arg14.view.read (Elt Ideal) fs0) (arg19.view.read (Elt Ideal) fs5) (y 1).val (y 2).val) := by
  rw [trips4, t4_loop_arg13 Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (runMid.sl.v15 (F := Ideal) c i xt0) (runMid.sl.r_56 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2 fs4 fs5 fs6) (k0_pay1017 (F := Ideal)) (runMid.sl.v1143 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 fs2) runMid.sl.v1157 (harg2.unread x0) (harg6.unread x4) (harg7.unread x5) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg20.view.writes (Elt Ideal) fs6 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg3.unread x1) (arg17.view.writes (Elt Ideal) arg17.view.junk (runMid.sl.HS3_64 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs2)) (arg18.view.writes (Elt Ideal) fs4 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).1) fs6 (arg22.view.writes (Elt Ideal) arg22.view.junk (runMid.sl.HS8_1 (F := Ideal))) (Scf.trips 0#32 (Scalar.addi 0#32 16#32) 1#32)).1) mid_iota f 8 le_rfl y (y 1).isLt, harg6.read_unread, harg7.read_unread, mid_fac c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2, mid_upd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6,
    mid_gain c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs2 fs4 fs5 fs6]
  rfl

end

end Cert.Val
end
-- ==== Proof.KernelIdealValue.Launch.lean ====
/- The launch with what is carried between points tracked: an invariant of the carried scratch and, per output
   window and point, what the body leaves there. The run of one point is a hypothesis (`RunTo`). -/
module

public import proofs.«01_k».proof.Proof.KernelIdealBody.Base
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.KernelIdeal.Gen

variable {F : FTy → Type} [FloatOps F] [Named F]

local notation "𝕄" => MT nD τ sig Unit (Elt F) ℕ (UR sig nD τ) ℕ

/-- One pass of the body, from given contents: it ends with every buffer at contents of which the outputs and the carried
    scratch meet `Post`, the inputs unchanged. -/
def RunTo (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)
    (x0 : Vec F S1x256x7168 .bf16) (x1 : Vec F S1x256x7168 .bf16) (x2 : Vec F S12x256 .f32) (x3 : Vec F S12x7168 .f32) (x4 : Vec F S1x256x7168 .fp8e4m3) (x5 : Vec F S1x256x56 .f32) (xt0 : TbBuf0 (F := F) c tbM0_0) (f6 : BufTy.Contents (Elt F) arg8.view.ty) (f7 : BufTy.Contents (Elt F) arg9.view.ty) (f8 : BufTy.Contents (Elt F) arg10.view.ty) (f9 : BufTy.Contents (Elt F) arg11.view.ty) (f10 : BufTy.Contents (Elt F) arg12.view.ty) (f11 : BufTy.Contents (Elt F) arg13.view.ty) (fs0 : BufTy.Contents (Elt F) arg14.view.ty) (fs1 : BufTy.Contents (Elt F) arg15.view.ty) (fs2 : BufTy.Contents (Elt F) arg16.view.ty) (fs3 : BufTy.Contents (Elt F) arg17.view.ty) (fs4 : BufTy.Contents (Elt F) arg18.view.ty) (fs5 : BufTy.Contents (Elt F) arg19.view.ty) (fs6 : BufTy.Contents (Elt F) arg20.view.ty) (fs7 : BufTy.Contents (Elt F) arg21.view.ty) (fs8 : BufTy.Contents (Elt F) arg22.view.ty) (Post : Vec F S1x256x7168 .bf16 → Vec F S1x256x7168 .bf16 → Vec F S12x256 .f32 → Vec F S12x7168 .f32 → Vec F S1x256x7168 .fp8e4m3 → Vec F S1x256x56 .f32 → Vec F S256x128 .f32 → Vec F S256x128 .f32 → Vec F S12x8x7168 .f32 → Prop) : Prop :=
  ∃ (C8 : BufTy.Contents (Elt F) arg8.view.ty) (C9 : BufTy.Contents (Elt F) arg9.view.ty) (C10 : BufTy.Contents (Elt F) arg10.view.ty) (C11 : BufTy.Contents (Elt F) arg11.view.ty) (C12 : BufTy.Contents (Elt F) arg12.view.ty) (C13 : BufTy.Contents (Elt F) arg13.view.ty) (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty) (C19 : BufTy.Contents (Elt F) arg19.view.ty) (C20 : BufTy.Contents (Elt F) arg20.view.ty) (C21 : BufTy.Contents (Elt F) arg21.view.ty) (C22 : BufTy.Contents (Elt F) arg22.view.ty),
    Post (arg8.view.read (Elt F) C8) (arg9.view.read (Elt F) C9) (arg10.view.read (Elt F) C10) (arg11.view.read (Elt F) C11) (arg12.view.read (Elt F) C12) (arg13.view.read (Elt F) C13) (arg14.view.read (Elt F) C14) (arg15.view.read (Elt F) C15) (arg19.view.read (Elt F) C19) ∧ ∀ (E : Set ℕ),
      (iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} f6) ∗ (arg9.view.loc (c : Thread nD τ) ↦[arg9.view.set]{fullShare} f7) ∗ (arg10.view.loc (c : Thread nD τ) ↦[arg10.view.set]{fullShare} f8) ∗ (arg11.view.loc (c : Thread nD τ) ↦[arg11.view.set]{fullShare} f9) ∗ (arg12.view.loc (c : Thread nD τ) ↦[arg12.view.set]{fullShare} f10) ∗ (arg13.view.loc (c : Thread nD τ) ↦[arg13.view.set]{fullShare} f11) ∗ (arg14.view.loc (c : Thread nD τ) ↦[arg14.view.set]{fullShare} fs0) ∗ (arg15.view.loc (c : Thread nD τ) ↦[arg15.view.set]{fullShare} fs1) ∗ (arg16.view.loc (c : Thread nD τ) ↦[arg16.view.set]{fullShare} fs2) ∗ (arg17.view.loc (c : Thread nD τ) ↦[arg17.view.set]{fullShare} fs3) ∗ (arg18.view.loc (c : Thread nD τ) ↦[arg18.view.set]{fullShare} fs4) ∗ (arg19.view.loc (c : Thread nD τ) ↦[arg19.view.set]{fullShare} fs5) ∗ (arg20.view.loc (c : Thread nD τ) ↦[arg20.view.set]{fullShare} fs6) ∗ (arg21.view.loc (c : Thread nD τ) ↦[arg21.view.set]{fullShare} fs7) ∗ (arg22.view.loc (c : Thread nD τ) ↦[arg22.view.set]{fullShare} fs8) ∗ tbPt0 c tbM0_0 xt0) : sProp 𝕄)
      ⊢ wp frame (wpE (defs₀ (F := F)) Variants.none c none) E (cc0_adafactor_step i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20) ∗ (arg21.view.loc (c : Thread nD τ) ↦[arg21.view.set]{fullShare} C21) ∗ (arg22.view.loc (c : Thread nD τ) ↦[arg22.view.set]{fullShare} C22) ∗ tbPt0 c tbM0_0 xt0))

set_option maxHeartbeats 4000000 in
/-- The same between owned memrefs, the carried scratch under an invariant. -/
theorem owns_of_run (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)
    (x0 : Vec F S1x256x7168 .bf16) (x1 : Vec F S1x256x7168 .bf16) (x2 : Vec F S12x256 .f32) (x3 : Vec F S12x7168 .f32) (x4 : Vec F S1x256x7168 .fp8e4m3) (x5 : Vec F S1x256x56 .f32) (xt0 : TbBuf0 (F := F) c tbM0_0) (Inv : Vec F S256x128 .f32 → Vec F S256x128 .f32 → Vec F S12x8x7168 .f32 → Prop) (Post : Vec F S1x256x7168 .bf16 → Vec F S1x256x7168 .bf16 → Vec F S12x256 .f32 → Vec F S12x7168 .f32 → Vec F S1x256x7168 .fp8e4m3 → Vec F S1x256x56 .f32 → Vec F S256x128 .f32 → Vec F S256x128 .f32 → Vec F S12x8x7168 .f32 → Prop)
    (h : ∀ (f6 : BufTy.Contents (Elt F) arg8.view.ty) (f7 : BufTy.Contents (Elt F) arg9.view.ty) (f8 : BufTy.Contents (Elt F) arg10.view.ty) (f9 : BufTy.Contents (Elt F) arg11.view.ty) (f10 : BufTy.Contents (Elt F) arg12.view.ty) (f11 : BufTy.Contents (Elt F) arg13.view.ty) (fs0 : BufTy.Contents (Elt F) arg14.view.ty) (fs1 : BufTy.Contents (Elt F) arg15.view.ty) (fs2 : BufTy.Contents (Elt F) arg16.view.ty) (fs3 : BufTy.Contents (Elt F) arg17.view.ty) (fs4 : BufTy.Contents (Elt F) arg18.view.ty) (fs5 : BufTy.Contents (Elt F) arg19.view.ty) (fs6 : BufTy.Contents (Elt F) arg20.view.ty) (fs7 : BufTy.Contents (Elt F) arg21.view.ty) (fs8 : BufTy.Contents (Elt F) arg22.view.ty), Inv (arg14.view.read (Elt F) fs0) (arg15.view.read (Elt F) fs1) (arg19.view.read (Elt F) fs5) → RunTo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 f6 f7 f8 f9 f10 f11 fs0 fs1 fs2 fs3 fs4 fs5 fs6 fs7 fs8 Post) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d14 d15 d16 d17 d18 d19 d20 d21 d22, ⌜Inv d14 d15 d19⌝ ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22) ∗ tbPt0 c tbM0_0 xt0) : sProp 𝕄)
      ⊢ wp frame (wpE (defs₀ (F := F)) Variants.none c none) E (cc0_adafactor_step i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d8 d9 d10 d11 d12 d13 d14 d15 d16 d17 d18 d19 d20 d21 d22, ⌜Post d8 d9 d10 d11 d12 d13 d14 d15 d19⌝ ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22) ∗ tbPt0 c tbM0_0 xt0)) := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%e14, %e15, %e16, %e17, %e18, %e19, %e20, %e21, %e22, %hI, ⟨%fs0, %hs0, HS0⟩, ⟨%fs1, %hs1, HS1⟩, ⟨%fs2, %hs2, HS2⟩, ⟨%fs3, %hs3, HS3⟩, ⟨%fs4, %hs4, HS4⟩, ⟨%fs5, %hs5, HS5⟩, ⟨%fs6, %hs6, HS6⟩, ⟨%fs7, %hs7, HS7⟩, ⟨%fs8, %hs8, HS8⟩⟩, HT0⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  subst hs0; subst hs1; subst hs2; subst hs3; subst hs4; subst hs5; subst hs6; subst hs7; subst hs8
  obtain ⟨C8, C9, C10, C11, C12, C13, C14, C15, C16, C17, C18, C19, C20, C21, C22, hP, hrun⟩ := h f6 f7 f8 f9 f10 f11 fs0 fs1 fs2 fs3 fs4 fs5 fs6 fs7 fs8 hI
  iapply (wp_wand_r Idealize.ShloMosaic.frame (wpE (defs₀ (F := F)) Variants.none (c : Thread nD τ) none) E)
  isplitl [H0 H1 H2 H3 H4 H5 H6 H7 H8 H9 H10 H11 HS0 HS1 HS2 HS3 HS4 HS5 HS6 HS7 HS8 HT0]
  · iapply (hrun E)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HT0
  · iintro %_ ⟨H0, H1, H2, H3, H4, H5, H6, H7, H8, H9, H10, H11, HS0, HS1, HS2, HS3, HS4, HS5, HS6, HS7, HS8, HT0⟩
    isplitl [H0]; · iexists _; isplitr; (· ipureintro; exact harg2.read_unread _); iexact H0
    isplitl [H1]; · iexists _; isplitr; (· ipureintro; exact harg3.read_unread _); iexact H1
    isplitl [H2]; · iexists _; isplitr; (· ipureintro; exact harg4.read_unread _); iexact H2
    isplitl [H3]; · iexists _; isplitr; (· ipureintro; exact harg5.read_unread _); iexact H3
    isplitl [H4]; · iexists _; isplitr; (· ipureintro; exact harg6.read_unread _); iexact H4
    isplitl [H5]; · iexists _; isplitr; (· ipureintro; exact harg7.read_unread _); iexact H5
    isplitl [H6 H7 H8 H9 H10 H11 HS0 HS1 HS2 HS3 HS4 HS5 HS6 HS7 HS8]
    · iexists (arg8.view.read (Elt F) C8), (arg9.view.read (Elt F) C9), (arg10.view.read (Elt F) C10), (arg11.view.read (Elt F) C11), (arg12.view.read (Elt F) C12), (arg13.view.read (Elt F) C13), (arg14.view.read (Elt F) C14), (arg15.view.read (Elt F) C15), (arg16.view.read (Elt F) C16), (arg17.view.read (Elt F) C17), (arg18.view.read (Elt F) C18), (arg19.view.read (Elt F) C19), (arg20.view.read (Elt F) C20), (arg21.view.read (Elt F) C21), (arg22.view.read (Elt F) C22)
      isplitr; · ipureintro; exact hP
      isplitl [H6]; · iexists _; isplitr; (· ipureintro; rfl); iexact H6
      isplitl [H7]; · iexists _; isplitr; (· ipureintro; rfl); iexact H7
      isplitl [H8]; · iexists _; isplitr; (· ipureintro; rfl); iexact H8
      isplitl [H9]; · iexists _; isplitr; (· ipureintro; rfl); iexact H9
      isplitl [H10]; · iexists _; isplitr; (· ipureintro; rfl); iexact H10
      isplitl [H11]; · iexists _; isplitr; (· ipureintro; rfl); iexact H11
      isplitl [HS0]; · iexists _; isplitr; (· ipureintro; rfl); iexact HS0
      isplitl [HS1]; · iexists _; isplitr; (· ipureintro; rfl); iexact HS1
      isplitl [HS2]; · iexists _; isplitr; (· ipureintro; rfl); iexact HS2
      isplitl [HS3]; · iexists _; isplitr; (· ipureintro; rfl); iexact HS3
      isplitl [HS4]; · iexists _; isplitr; (· ipureintro; rfl); iexact HS4
      isplitl [HS5]; · iexists _; isplitr; (· ipureintro; rfl); iexact HS5
      isplitl [HS6]; · iexists _; isplitr; (· ipureintro; rfl); iexact HS6
      isplitl [HS7]; · iexists _; isplitr; (· ipureintro; rfl); iexact HS7
      iexists _; isplitr; (· ipureintro; rfl); iexact HS8
    iexact HT0

variable (m : (ℓ : Loc nD τ sig) → Buf (Elt F) ℓ) (ρ : Dev nD → PrngReg)

/-- The windows whose contents are held to a predicate: the six outputs. -/
def held : Fin 12 → Bool := fun w => w.val == 6 || w.val == 7 || w.val == 8 || w.val == 9 || w.val == 10 || w.val == 11

/-- What is carried between points: the scratch, its carried part under the invariant, and the generator register. -/
def carried (Inv : ℕ → Vec F S256x128 .f32 → Vec F S256x128 .f32 → Vec F S12x8x7168 .f32 → Prop) (c : Dev nD) (n : ℕ) : sProp 𝕄 :=
  iprop((∃ d14 d15 d16 d17 d18 d19 d20 d21 d22, ⌜Inv n d14 d15 d19⌝ ∗ owns (c : Thread nD τ) scM0_0 fullShare d14 ∗ owns (c : Thread nD τ) scM0_1 fullShare d15 ∗ owns (c : Thread nD τ) scM0_2 fullShare d16 ∗ owns (c : Thread nD τ) scM0_3 fullShare d17 ∗ owns (c : Thread nD τ) scM0_4 fullShare d18 ∗ owns (c : Thread nD τ) scM0_5 fullShare d19 ∗ owns (c : Thread nD τ) scM0_6 fullShare d20 ∗ owns (c : Thread nD τ) scM0_7 fullShare d21 ∗ owns (c : Thread nD τ) scM0_8 fullShare d22) ∗ (∃ r, prngReg c r))

/-- The proof data: each input's buffer at its block after the body, the carried scratch under the invariant. -/
def vdats (Inv : ℕ → Vec F S256x128 .f32 → Vec F S256x128 .f32 → Vec F S12x8x7168 .f32 → Prop) (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ n := iprop(carried Inv c n.val ∗ Pipeline.ΦT pre0 (tbl m) c)
  q _ := fullShare
  owed _ := 0

/-- What each output window is held to. -/
def Rl (hO : Ok m) (R6 : Fin (cfgM m hO).N → Vec F S1x256x7168 .bf16 → Prop) (R7 : Fin (cfgM m hO).N → Vec F S1x256x7168 .bf16 → Prop) (R8 : Fin (cfgM m hO).N → Vec F S12x256 .f32 → Prop) (R9 : Fin (cfgM m hO).N → Vec F S12x7168 .f32 → Prop) (R10 : Fin (cfgM m hO).N → Vec F S1x256x7168 .fp8e4m3 → Prop) (R11 : Fin (cfgM m hO).N → Vec F S1x256x56 .f32 → Prop) :
    (w : Fin (cfgM m hO).W) → Fin (cfgM m hO).N → (((cfgM m hO).win w).block.Idx → Elt F ((cfgM m hO).win w).elt) → Prop := fun w t =>
  match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => fun X => R6 t X
    | ⟨7, _⟩ => fun X => R7 t X
    | ⟨8, _⟩ => fun X => R8 t X
    | ⟨9, _⟩ => fun X => R9 t X
    | ⟨10, _⟩ => fun X => R10 t X
    | ⟨11, _⟩ => fun X => R11 t X

section Launch

variable (Inv : ℕ → Vec F S256x128 .f32 → Vec F S256x128 .f32 → Vec F S12x8x7168 .f32 → Prop) (hO : Ok m) (R6 : Fin (cfgM m hO).N → Vec F S1x256x7168 .bf16 → Prop) (R7 : Fin (cfgM m hO).N → Vec F S1x256x7168 .bf16 → Prop) (R8 : Fin (cfgM m hO).N → Vec F S12x256 .f32 → Prop) (R9 : Fin (cfgM m hO).N → Vec F S12x7168 .f32 → Prop) (R10 : Fin (cfgM m hO).N → Vec F S1x256x7168 .fp8e4m3 → Prop) (R11 : Fin (cfgM m hO).N → Vec F S1x256x56 .f32 → Prop)

theorem vA_eq (c : Dev nD) (w : Fin (cfgM m hO).W) : (vdats m Inv hO 0 c).A w = V m c (Pipeline.arrRef spec0 w) := by
  dsimp only [vdats]
theorem vafter0_0 (c : Dev nD) (t : Fin (cfgM m hO).N) : (vdats m Inv hO 0 c).after 0 t = iblk m hO c 0 t := by dsimp only [vdats]; try rfl
theorem vbefore0_0 (c : Dev nD) (t : Fin (cfgM m hO).N) (d) : (vdats m Inv hO 0 c).before 0 t d = iblk m hO c 0 t :=
  before0_0_of m hO (vdats m Inv hO 0 c) (vA_eq m Inv hO c 0) (vafter0_0 m Inv hO c) t d
theorem vafter0_1 (c : Dev nD) (t : Fin (cfgM m hO).N) : (vdats m Inv hO 0 c).after 1 t = iblk m hO c 1 t := by dsimp only [vdats]; try rfl
theorem vbefore0_1 (c : Dev nD) (t : Fin (cfgM m hO).N) (d) : (vdats m Inv hO 0 c).before 1 t d = iblk m hO c 1 t :=
  before0_1_of m hO (vdats m Inv hO 0 c) (vA_eq m Inv hO c 1) (vafter0_1 m Inv hO c) t d
theorem vafter0_2 (c : Dev nD) (t : Fin (cfgM m hO).N) : (vdats m Inv hO 0 c).after 2 t = iblk m hO c 2 t := by dsimp only [vdats]; try rfl
theorem vbefore0_2 (c : Dev nD) (t : Fin (cfgM m hO).N) (d) : (vdats m Inv hO 0 c).before 2 t d = iblk m hO c 2 t :=
  before0_2_of m hO (vdats m Inv hO 0 c) (vA_eq m Inv hO c 2) (vafter0_2 m Inv hO c) t d
theorem vafter0_3 (c : Dev nD) (t : Fin (cfgM m hO).N) : (vdats m Inv hO 0 c).after 3 t = iblk m hO c 3 t := by dsimp only [vdats]; try rfl
theorem vbefore0_3 (c : Dev nD) (t : Fin (cfgM m hO).N) (d) : (vdats m Inv hO 0 c).before 3 t d = iblk m hO c 3 t :=
  before0_3_of m hO (vdats m Inv hO 0 c) (vA_eq m Inv hO c 3) (vafter0_3 m Inv hO c) t d
theorem vafter0_4 (c : Dev nD) (t : Fin (cfgM m hO).N) : (vdats m Inv hO 0 c).after 4 t = iblk m hO c 4 t := by dsimp only [vdats]; try rfl
theorem vbefore0_4 (c : Dev nD) (t : Fin (cfgM m hO).N) (d) : (vdats m Inv hO 0 c).before 4 t d = iblk m hO c 4 t :=
  before0_4_of m hO (vdats m Inv hO 0 c) (vA_eq m Inv hO c 4) (vafter0_4 m Inv hO c) t d
theorem vafter0_5 (c : Dev nD) (t : Fin (cfgM m hO).N) : (vdats m Inv hO 0 c).after 5 t = iblk m hO c 5 t := by dsimp only [vdats]; try rfl
theorem vbefore0_5 (c : Dev nD) (t : Fin (cfgM m hO).N) (d) : (vdats m Inv hO 0 c).before 5 t d = iblk m hO c 5 t :=
  before0_5_of m hO (vdats m Inv hO 0 c) (vA_eq m Inv hO c 5) (vafter0_5 m Inv hO c) t d

/-- What the body is called with at point `t`, window by window. -/
def vbodyPre (c : Dev nD) (t : Fin (cfgM m hO).N) : sProp 𝕄 :=
  iprop((vdats m Inv hO 0 c).Φ t.castSucc ∗ (vdats m Inv hO 0 c).owesAt () t.castSucc
    ∗ (∃ d, owns (c : Thread nD τ) (ms0_0 m hO t) fullShare ((vdats m Inv hO 0 c).before 0 t d))
    ∗ (∃ d, owns (c : Thread nD τ) (ms0_1 m hO t) fullShare ((vdats m Inv hO 0 c).before 1 t d))
    ∗ (∃ d, owns (c : Thread nD τ) (ms0_2 m hO t) fullShare ((vdats m Inv hO 0 c).before 2 t d))
    ∗ (∃ d, owns (c : Thread nD τ) (ms0_3 m hO t) fullShare ((vdats m Inv hO 0 c).before 3 t d))
    ∗ (∃ d, owns (c : Thread nD τ) (ms0_4 m hO t) fullShare ((vdats m Inv hO 0 c).before 4 t d))
    ∗ (∃ d, owns (c : Thread nD τ) (ms0_5 m hO t) fullShare ((vdats m Inv hO 0 c).before 5 t d))
    ∗ (∃ Y, ⌜(Dat.toRRel (vdats m Inv hO 0 c) held (Rl m hO R6 R7 R8 R9 R10 R11)).Finds 6 t Y⌝ ∗ owns (c : Thread nD τ) (ms0_6 m hO t) fullShare Y)
    ∗ (∃ Y, ⌜(Dat.toRRel (vdats m Inv hO 0 c) held (Rl m hO R6 R7 R8 R9 R10 R11)).Finds 7 t Y⌝ ∗ owns (c : Thread nD τ) (ms0_7 m hO t) fullShare Y)
    ∗ (∃ Y, ⌜(Dat.toRRel (vdats m Inv hO 0 c) held (Rl m hO R6 R7 R8 R9 R10 R11)).Finds 8 t Y⌝ ∗ owns (c : Thread nD τ) (ms0_8 m hO t) fullShare Y)
    ∗ (∃ Y, ⌜(Dat.toRRel (vdats m Inv hO 0 c) held (Rl m hO R6 R7 R8 R9 R10 R11)).Finds 9 t Y⌝ ∗ owns (c : Thread nD τ) (ms0_9 m hO t) fullShare Y)
    ∗ (∃ Y, ⌜(Dat.toRRel (vdats m Inv hO 0 c) held (Rl m hO R6 R7 R8 R9 R10 R11)).Finds 10 t Y⌝ ∗ owns (c : Thread nD τ) (ms0_10 m hO t) fullShare Y)
    ∗ (∃ Y, ⌜(Dat.toRRel (vdats m Inv hO 0 c) held (Rl m hO R6 R7 R8 R9 R10 R11)).Finds 11 t Y⌝ ∗ owns (c : Thread nD τ) (ms0_11 m hO t) fullShare Y))

/-- What the body returns at point `t`, window by window. -/
def vbodyPost (c : Dev nD) (t : Fin (cfgM m hO).N) : sProp 𝕄 :=
  iprop((vdats m Inv hO 0 c).Φ t.succ ∗ (vdats m Inv hO 0 c).owesAt () t.succ
    ∗ (vdats m Inv hO 0 c).leavesExact 0 t
    ∗ (vdats m Inv hO 0 c).leavesExact 1 t
    ∗ (vdats m Inv hO 0 c).leavesExact 2 t
    ∗ (vdats m Inv hO 0 c).leavesExact 3 t
    ∗ (vdats m Inv hO 0 c).leavesExact 4 t
    ∗ (vdats m Inv hO 0 c).leavesExact 5 t
    ∗ (∃ X, ⌜R6 t X⌝ ∗ owns (c : Thread nD τ) (ms0_6 m hO t) fullShare X)
    ∗ (∃ X, ⌜R7 t X⌝ ∗ owns (c : Thread nD τ) (ms0_7 m hO t) fullShare X)
    ∗ (∃ X, ⌜R8 t X⌝ ∗ owns (c : Thread nD τ) (ms0_8 m hO t) fullShare X)
    ∗ (∃ X, ⌜R9 t X⌝ ∗ owns (c : Thread nD τ) (ms0_9 m hO t) fullShare X)
    ∗ (∃ X, ⌜R10 t X⌝ ∗ owns (c : Thread nD τ) (ms0_10 m hO t) fullShare X)
    ∗ (∃ X, ⌜R11 t X⌝ ∗ owns (c : Thread nD τ) (ms0_11 m hO t) fullShare X))

/-- One step: the body at point `t`, from the invariant there, runs to the invariant at the next point and the outputs as held. -/
def Step (c : Dev nD) (t : Fin (cfgM m hO).N) : Prop :=
  ∀ (f6 : BufTy.Contents (Elt F) (ms0_6 m hO t).view.ty) (f7 : BufTy.Contents (Elt F) (ms0_7 m hO t).view.ty) (f8 : BufTy.Contents (Elt F) (ms0_8 m hO t).view.ty) (f9 : BufTy.Contents (Elt F) (ms0_9 m hO t).view.ty) (f10 : BufTy.Contents (Elt F) (ms0_10 m hO t).view.ty) (f11 : BufTy.Contents (Elt F) (ms0_11 m hO t).view.ty) (fs0 : BufTy.Contents (Elt F) scM0_0.view.ty) (fs1 : BufTy.Contents (Elt F) scM0_1.view.ty) (fs2 : BufTy.Contents (Elt F) scM0_2.view.ty) (fs3 : BufTy.Contents (Elt F) scM0_3.view.ty) (fs4 : BufTy.Contents (Elt F) scM0_4.view.ty) (fs5 : BufTy.Contents (Elt F) scM0_5.view.ty) (fs6 : BufTy.Contents (Elt F) scM0_6.view.ty) (fs7 : BufTy.Contents (Elt F) scM0_7.view.ty) (fs8 : BufTy.Contents (Elt F) scM0_8.view.ty), Inv t.val (scM0_0.view.read (Elt F) fs0) (scM0_1.view.read (Elt F) fs1) (scM0_5.view.read (Elt F) fs5) →
    RunTo c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m hO c 0 t) (iblk m hO c 1 t) (iblk m hO c 2 t) (iblk m hO c 3 t) (iblk m hO c 4 t) (iblk m hO c 5 t) (tbl m 0) f6 f7 f8 f9 f10 f11 fs0 fs1 fs2 fs3 fs4 fs5 fs6 fs7 fs8
      (fun d8 d9 d10 d11 d12 d13 d14 d15 d19 => R6 t d8 ∧ R7 t d9 ∧ R8 t d10 ∧ R9 t d11 ∧ R10 t d12 ∧ R11 t d13 ∧ Inv (t.val + 1) d14 d15 d19)

set_option maxHeartbeats 4000000 in
/-- The body at a point, off its step. -/
theorem vsound_body (c : Dev nD) (t : Fin (cfgM m hO).N) (hstep : Step m Inv hO R6 R7 R8 R9 R10 R11 c t) :
    vbodyPre m Inv hO R6 R7 R8 R9 R10 R11 c t ⊢ wp frame (wpE (defs₀ (F := F)) Variants.none c none) Set.univ (bodyAt0 (adm m hO) t) (fun _ => vbodyPost m Inv hO R6 R7 R8 R9 R10 R11 c t) := by
  unfold vbodyPre vbodyPost bodyAt0
  simp only [vbefore0_0, vbefore0_1, vbefore0_2, vbefore0_3, vbefore0_4, vbefore0_5]
  rw [show (vdats m Inv hO 0 c).owesAt () t.succ = (vdats m Inv hO 0 c).owesAt () t.castSucc from rfl]
  rw [show (vdats m Inv hO 0 c).Φ t.castSucc = iprop(carried Inv c t.val ∗ Pipeline.ΦT pre0 (tbl m) c) from rfl, show (vdats m Inv hO 0 c).Φ t.succ = iprop(carried Inv c (t.val + 1) ∗ Pipeline.ΦT pre0 (tbl m) c) from rfl, PhiT0_eq]
  unfold carried
  rw [show (vdats m Inv hO 0 c).leavesExact 0 t = owns (c : Thread nD τ) (ms0_0 m hO t) fullShare ((vdats m Inv hO 0 c).after 0 t) from by
    unfold Dat.leavesExact; rw [liveAt0_0 m hO t]; try rfl, vafter0_0]
  rw [show (vdats m Inv hO 0 c).leavesExact 1 t = owns (c : Thread nD τ) (ms0_1 m hO t) fullShare ((vdats m Inv hO 0 c).after 1 t) from by
    unfold Dat.leavesExact; rw [liveAt0_1 m hO t]; try rfl, vafter0_1]
  rw [show (vdats m Inv hO 0 c).leavesExact 2 t = owns (c : Thread nD τ) (ms0_2 m hO t) fullShare ((vdats m Inv hO 0 c).after 2 t) from by
    unfold Dat.leavesExact; rw [liveAt0_2 m hO t]; try rfl, vafter0_2]
  rw [show (vdats m Inv hO 0 c).leavesExact 3 t = owns (c : Thread nD τ) (ms0_3 m hO t) fullShare ((vdats m Inv hO 0 c).after 3 t) from by
    unfold Dat.leavesExact; rw [liveAt0_3 m hO t]; try rfl, vafter0_3]
  rw [show (vdats m Inv hO 0 c).leavesExact 4 t = owns (c : Thread nD τ) (ms0_4 m hO t) fullShare ((vdats m Inv hO 0 c).after 4 t) from by
    unfold Dat.leavesExact; rw [liveAt0_4 m hO t]; try rfl, vafter0_4]
  rw [show (vdats m Inv hO 0 c).leavesExact 5 t = owns (c : Thread nD τ) (ms0_5 m hO t) fullShare ((vdats m Inv hO 0 c).after 5 t) from by
    unfold Dat.leavesExact; rw [liveAt0_5 m hO t]; try rfl, vafter0_5]
  iintro ⟨⟨⟨HC, Hg⟩, HT0⟩, Ho, ⟨%d0, H0⟩, ⟨%d1, H1⟩, ⟨%d2, H2⟩, ⟨%d3, H3⟩, ⟨%d4, H4⟩, ⟨%d5, H5⟩, ⟨%y6, -, H6⟩, ⟨%y7, -, H7⟩, ⟨%y8, -, H8⟩, ⟨%y9, -, H9⟩, ⟨%y10, -, H10⟩, ⟨%y11, -, H11⟩⟩
  iapply (wp_wand_r Idealize.ShloMosaic.frame (wpE (defs₀ (F := F)) Variants.none (c : Thread nD τ) none) Set.univ)
  isplitl [H0 H1 H2 H3 H4 H5 H6 H7 H8 H9 H10 H11 HC HT0]
  · iapply (owns_of_run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m hO c 0 t) (iblk m hO c 1 t) (iblk m hO c 2 t) (iblk m hO c 3 t) (iblk m hO c 4 t) (iblk m hO c 5 t) (tbl m 0) (Inv t.val) _ hstep Set.univ)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HC]; · iexact HC
    iexact HT0
  · iintro %_ ⟨H0, H1, H2, H3, H4, H5, ⟨%d8, %d9, %d10, %d11, %d12, %d13, %d14, %d15, %d16, %d17, %d18, %d19, %d20, %d21, %d22, %hP, H6, H7, H8, H9, H10, H11, HS0, HS1, HS2, HS3, HS4, HS5, HS6, HS7, HS8⟩, HT0⟩
    obtain ⟨h6, h7, h8, h9, h10, h11, hI⟩ := hP
    isplitl [HS0 HS1 HS2 HS3 HS4 HS5 HS6 HS7 HS8 Hg HT0]
    · isplitl [HS0 HS1 HS2 HS3 HS4 HS5 HS6 HS7 HS8 Hg]
      · isplitl [HS0 HS1 HS2 HS3 HS4 HS5 HS6 HS7 HS8]
        · iexists d14, d15, d16, d17, d18, d19, d20, d21, d22
          isplitr; · ipureintro; exact hI
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; isplitr; (· ipureintro; exact h6); iexact H6
    isplitl [H7]; · iexists _; isplitr; (· ipureintro; exact h7); iexact H7
    isplitl [H8]; · iexists _; isplitr; (· ipureintro; exact h8); iexact H8
    isplitl [H9]; · iexists _; isplitr; (· ipureintro; exact h9); iexact H9
    isplitl [H10]; · iexists _; isplitr; (· ipureintro; exact h10); iexact H10
    iexists _; isplitr; (· ipureintro; exact h11); iexact H11

/-- The body table's row at point `t`'s slots is the body as `bodyAt0` spells it. -/
theorem vdefs₀_row (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation at every point, off the steps. -/
theorem vbody_obligation (hstep : ∀ c t, Step m Inv hO R6 R7 R8 R9 R10 R11 c t) (c : Dev nD) :
    BodyObligationRel (vdats m Inv hO 0 c) (defs₀ (F := F)) Variants.none () Set.univ held (Rl m hO R6 R7 R8 R9 R10 R11) := fun t => by
  rw [bigSep_W0, bigSep_W0, vdefs₀_row m hO]
  exact triple_restated (vsound_body m Inv hO R6 R7 R8 R9 R10 R11 c t (hstep c t)) rfl .rfl fun _ => .rfl

set_option backward.isDefEq.respectTransparency.types false in
/-- The launch: every run ends with the arrays at contents that the body may have left, each output's met by its predicate. -/
theorem vrun_main (hstep : ∀ c t, Step m Inv hO R6 R7 R8 R9 R10 R11 c t) (h0 : ∀ d14 d15 d19, Inv 0 d14 d15 d19) :
    θ_run defs (onTc (τ := τ) (main (F := F))) (s₀ m ρ) (Pipeline.RDat.FramePost ((Pipeline.pin pcfgs fun _ => adm m hO) 0) (fun c => (Dat.toRRel (vdats m Inv hO 0 c) held (Rl m hO R6 R7 R8 R9 R10 R11))) (V m)) :=
  Pipeline.RDat.θ_run_frameP_track (Q' := _) pcfgs (fun _ => adm m hO) (0 : Fin 1) launch0 defs₀ Variants.none (fun c => (Dat.toRRel (vdats m Inv hO 0 c) held (Rl m hO R6 R7 R8 R9 R10 R11))) m ρ main
    (hbody := fun c => (vbody_obligation m Inv hO R6 R7 R8 R9 R10 R11 hstep c).toRRel) (hshare := fun c => (vdats m Inv hO 0 c).share_full fun _ => rfl)
    (howed := fun _ _ => rfl) (V := V m) (hmain := hmain m Variants.none) (hA := vA_eq m Inv hO) (hpf := V_pre m)
    (hin := fun c => by
      show iprop(Pipeline.ΦA spec0 c ∗ Pipeline.ΦT pre0 (tbl m) c) ⊢ iprop(carried Inv c 0 ∗ Pipeline.ΦT pre0 (tbl m) c)
      refine sep_mono ?_ .rfl
      rw [PhiA0_eq]
      unfold carried
      iintro ⟨⟨⟨%d14, HS0⟩, ⟨%d15, HS1⟩, ⟨%d16, HS2⟩, ⟨%d17, HS3⟩, ⟨%d18, HS4⟩, ⟨%d19, HS5⟩, ⟨%d20, HS6⟩, ⟨%d21, HS7⟩, ⟨%d22, HS8⟩⟩, Hg⟩
      isplitl [HS0 HS1 HS2 HS3 HS4 HS5 HS6 HS7 HS8]
      · iexists d14, d15, d16, d17, d18, d19, d20, d21, d22
        isplitr; · ipureintro; exact h0 _ _ _
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg)
    (hout := fun c => by
      show iprop(carried Inv c (Fin.last (cfgM m hO).N).val ∗ Pipeline.ΦT pre0 (tbl m) c) ⊢ Pipeline.ΦA spec0 c
      rw [PhiA0_eq]
      unfold carried
      iintro ⟨⟨⟨%d14, %d15, %d16, %d17, %d18, %d19, %d20, %d21, %d22, -, HS0, HS1, HS2, HS3, HS4, HS5, HS6, HS7, HS8⟩, Hg⟩, -⟩
      isplitl [HS0 HS1 HS2 HS3 HS4 HS5 HS6 HS7 HS8]
      · isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        isplitl [HS7]; · iexists _; iexact HS7
        iexists _; iexact HS8
      iexact Hg)

end Launch

end Cert.KernelIdeal.Body

end
-- ==== Proof.KernelIdealValue.RunFirst.lean ====
/- The run of the kernel body in one of its three cases, with the contents it leaves. -/
module

public import proofs.«01_k».proof.Proof.KernelIdealBody.Base
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The body at the first grid point: every buffer it writes ends at the contents named in the result. -/
@[irreducible] def runFirst (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hc0 : condFirst i) (hc1 : ¬condCol i) (hc2 : ¬condRow i)
    (x0 : Vec F S1x256x7168 .bf16) (x1 : Vec F S1x256x7168 .bf16) (x2 : Vec F S12x256 .f32) (x3 : Vec F S12x7168 .f32) (x4 : Vec F S1x256x7168 .fp8e4m3) (x5 : Vec F S1x256x56 .f32) (xt0 : TbBuf0 (F := F) c tbM0_0) (f6 : BufTy.Contents (Elt F) arg8.view.ty) (f7 : BufTy.Contents (Elt F) arg9.view.ty) (f8 : BufTy.Contents (Elt F) arg10.view.ty) (f9 : BufTy.Contents (Elt F) arg11.view.ty) (f10 : BufTy.Contents (Elt F) arg12.view.ty) (f11 : BufTy.Contents (Elt F) arg13.view.ty) (fs0 : BufTy.Contents (Elt F) arg14.view.ty) (fs1 : BufTy.Contents (Elt F) arg15.view.ty) (fs2 : BufTy.Contents (Elt F) arg16.view.ty) (fs3 : BufTy.Contents (Elt F) arg17.view.ty) (fs4 : BufTy.Contents (Elt F) arg18.view.ty) (fs5 : BufTy.Contents (Elt F) arg19.view.ty) (fs6 : BufTy.Contents (Elt F) arg20.view.ty) (fs7 : BufTy.Contents (Elt F) arg21.view.ty) (fs8 : BufTy.Contents (Elt F) arg22.view.ty) :
    Σ' (C8 : BufTy.Contents (Elt F) arg8.view.ty), Σ' (C9 : BufTy.Contents (Elt F) arg9.view.ty), Σ' (C10 : BufTy.Contents (Elt F) arg10.view.ty), Σ' (C11 : BufTy.Contents (Elt F) arg11.view.ty), Σ' (C12 : BufTy.Contents (Elt F) arg12.view.ty), Σ' (C13 : BufTy.Contents (Elt F) arg13.view.ty), Σ' (C14 : BufTy.Contents (Elt F) arg14.view.ty), Σ' (C15 : BufTy.Contents (Elt F) arg15.view.ty), Σ' (C16 : BufTy.Contents (Elt F) arg16.view.ty), Σ' (C17 : BufTy.Contents (Elt F) arg17.view.ty), Σ' (C18 : BufTy.Contents (Elt F) arg18.view.ty), Σ' (C19 : BufTy.Contents (Elt F) arg19.view.ty), Σ' (C20 : BufTy.Contents (Elt F) arg20.view.ty), Σ' (C21 : BufTy.Contents (Elt F) arg21.view.ty), { C22 : BufTy.Contents (Elt F) arg22.view.ty // ∀ (E : Set ℕ),
      (iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} f6) ∗ (arg9.view.loc (c : Thread nD τ) ↦[arg9.view.set]{fullShare} f7) ∗ (arg10.view.loc (c : Thread nD τ) ↦[arg10.view.set]{fullShare} f8) ∗ (arg11.view.loc (c : Thread nD τ) ↦[arg11.view.set]{fullShare} f9) ∗ (arg12.view.loc (c : Thread nD τ) ↦[arg12.view.set]{fullShare} f10) ∗ (arg13.view.loc (c : Thread nD τ) ↦[arg13.view.set]{fullShare} f11) ∗ (arg14.view.loc (c : Thread nD τ) ↦[arg14.view.set]{fullShare} fs0) ∗ (arg15.view.loc (c : Thread nD τ) ↦[arg15.view.set]{fullShare} fs1) ∗ (arg16.view.loc (c : Thread nD τ) ↦[arg16.view.set]{fullShare} fs2) ∗ (arg17.view.loc (c : Thread nD τ) ↦[arg17.view.set]{fullShare} fs3) ∗ (arg18.view.loc (c : Thread nD τ) ↦[arg18.view.set]{fullShare} fs4) ∗ (arg19.view.loc (c : Thread nD τ) ↦[arg19.view.set]{fullShare} fs5) ∗ (arg20.view.loc (c : Thread nD τ) ↦[arg20.view.set]{fullShare} fs6) ∗ (arg21.view.loc (c : Thread nD τ) ↦[arg21.view.set]{fullShare} fs7) ∗ (arg22.view.loc (c : Thread nD τ) ↦[arg22.view.set]{fullShare} fs8) ∗ tbPt0 c tbM0_0 xt0) : sProp 𝕄)
      ⊢ wp frame (wpE (defs₀ (F := F)) Variants.none c none) E (cc0_adafactor_step i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20) ∗ (arg21.view.loc (c : Thread nD τ) ↦[arg21.view.set]{fullShare} C21) ∗ (arg22.view.loc (c : Thread nD τ) ↦[arg22.view.set]{fullShare} C22) ∗ tbPt0 c tbM0_0 xt0)) } := by
  refine ⟨?_, ?_, ?_, ?_, ?_, ?_, ?_, ?_, ?_, ?_, ?_, ?_, ?_, ?_, ?_, fun E => ?run⟩
  case run =>
    simp only [cc0_adafactor_step_eq_skeleton]; unfold cc0_adafactor_step_skel
    iintro ⟨H0, H1, H2, H3, H4, H5, H6, H7, H8, H9, H10, H11, HS0, HS1, HS2, HS3, HS4, HS5, HS6, HS7, HS8, HT0⟩
    sl_exec (disch := first | sl_exact hc0 | sl_exact hc1 | sl_exact hc2)
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HT0

end Cert.KernelIdeal.Body

end
-- ==== Proof.KernelIdealValue.First.lean ====
/- What the first grid point leaves behind. -/
module

public import proofs.«01_k».proof.Proof.KernelIdealValue.Mid
public import proofs.«01_k».proof.Proof.KernelIdealValue.RunFirst
public import Idealize.ShloMosaic.Lib.CellWrites
@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen Cert.KernelIdeal.Body

/-- A place some piece covers reads `val`, when every piece holds `val` at that place. -/
theorem read_at_place {sig : RefSig} {κ : Kind} {sp : Space} {s : Shape} {e : EltTy} {Val : EltTy → Type} (v : View sig κ sp s e) (f : v.ty.Contents Val) (y : s.Idx) (val : Val e) :
    ∀ L : List (View.Piece Val s e), (∀ p ∈ L, ∀ x : p.1.shape.Idx, p.1.emb x = y → p.2 x = val) → (∃ p ∈ L, y ∈ p.1.set) →
      v.read Val (v.writes Val f L) y = val
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x rfl
    · have hy' : y ∉ Finset.univ.map p.1.emb := by rwa [Rect.map_emb_univ]
      rw [View.writes_cons, View.read_slice_write_of_not_mem p.1 _ _ _ hy']
      refine read_at_place v f y val L (fun q hq => hP q (List.mem_cons_of_mem _ hq)) ?_
      obtain ⟨q, hq, hyq⟩ := h
      rcases List.mem_cons.mp hq with rfl | hq'
      · exact absurd hyq hy
      · exact ⟨q, hq', hyq⟩

/-- A load after writes over unknown contents, read at an index. -/
theorem readCov2_f32 {sig : RefSig} {κ : Kind} {sp : Space} {n0 n1 : ℕ} (v : View sig κ sp ⟨2, ![n0, n1]⟩ .f32) (L : List (View.Piece (Elt Ideal) ⟨2, ![n0, n1]⟩ .f32)) (off size : Fin 2 → ℕ) (inb)
    (x : (Rect.unit (s := ⟨2, ![n0, n1]⟩) off size inb).shape.Idx) :
    v.readCov (Val := Elt Ideal) L (Rect.unit (s := ⟨2, ![n0, n1]⟩) off size inb).toLoadRect x
      = at2 (v.read (Elt Ideal) (v.writes (Elt Ideal) v.junk L)) (off 0 + (x 0).val) (off 1 + (x 1).val) :=
  ld_at2 (v.read (Elt Ideal) (v.writes (Elt Ideal) v.junk L)) off size inb x

/-- A masked choice in the chosen lane. -/
theorem sel_same {α : Type} (a b : ℕ) (h : a = b) (u v : α) : Scalar.select (IntOp.cmpi .eq (BitVec.ofNat 32 a) (BitVec.ofNat 32 b)) u v = u := by
  subst h
  simp [Scalar.select, IntOp.cmpi]

section
variable (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

/-- The buffer of old row statistics: the transposed input, padded with zeros to 128 lanes. -/
theorem first14 (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (y : S256x128.Idx) : arg14.view.read (Elt Ideal) (arg14.view.writes (Elt Ideal) arg14.view.junk (runFirst.sl.HS0_1 (F := Ideal) arg4 harg4 x2)) y = if (y 1).val < 12 then at2 x2 (y 1).val (y 0).val else 0 := by
  refine View.read_writes_apply_of_pieces (Val := Elt Ideal) arg14.view _ (fun y : S256x128.Idx => if (y 1).val < 12 then at2 x2 (y 1).val (y 0).val else 0) _ ?_ y ?_
  · delta runFirst.sl.HS0_1
    simp only [List.forall_mem_cons]
    refine ⟨?_, fun _ h => absurd h List.not_mem_nil⟩
    intro x
    obtain ⟨r, l, rfl⟩ : ∃ (r : Fin 256) (l : Fin 128), x = ix2 r l := ⟨x 0, x 1, (ix2_eta x).symm⟩
    sl_unfold_run_names
    pointwise []
    simp only [emb_unit_val, readAt2_f32, ix2_fst, ix2_snd, Matrix.cons_val_zero, Matrix.cons_val_one, zero_add]
    rw [harg4.read_unread]
    rfl
  · have h0 : (y 0).val < 256 := (y 0).isLt
    have h1 : (y 1).val < 128 := (y 1).isLt
    delta runFirst.sl.HS0_1
    simp only [List.exists_mem_cons_iff, Rect.mem_set_unit, Fin.forall_fin_two]
    simp
    omega

/-- The buffer of column statistics before the first update: every sublane holds the input row. -/
theorem first19 (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (y : S12x8x7168.Idx) : arg19.view.read (Elt Ideal) (arg19.view.writes (Elt Ideal) arg19.view.junk (runFirst.sl.HS5_12 (F := Ideal) arg5 harg5 x3)) y = at2 x3 (y 0).val (y 2).val := by
  refine View.read_writes_apply_of_pieces (Val := Elt Ideal) arg19.view _ (fun y : S12x8x7168.Idx => at2 x3 (y 0).val (y 2).val) _ ?_ y ?_
  · delta runFirst.sl.HS5_12
    simp only [List.forall_mem_cons]
    refine ⟨?_, ?_, ?_, ?_, ?_, ?_, ?_, ?_, ?_, ?_, ?_, ?_,  fun _ h => absurd h List.not_mem_nil⟩
    all_goals
      intro x
      obtain ⟨a, r, l, rfl⟩ : ∃ (a : Fin 1) (r : Fin 8) (l : Fin 7168), x = ix3 a r l := ⟨x 0, x 1, x 2, (ix3_eta x).symm⟩
      sl_unfold_run_names
      pointwise []
      simp only [emb_unit_val, readAt2_f32, ix3_fst, ix3_snd, ix3_trd, ix2_fst, ix2_snd, Matrix.cons_val_zero, Matrix.cons_val_one, zero_add]
      obtain rfl : a = 0 := Fin.fin_one_eq_zero a
      rw [harg5.read_unread]
      refine (congrArg (fun d => at2 x3 _ d) (zero_add l.val).symm).trans ?_
      rfl
  · have h0 : (y 0).val < 12 := (y 0).isLt
    have h1 : (y 1).val < 8 := (y 1).isLt
    have h2 : (y 2).val < 7168 := (y 2).isLt
    delta runFirst.sl.HS5_12
    simp only [List.exists_mem_cons_iff, Rect.mem_set_unit]
    simp [Fin.forall_fin_succ]
    omega

/-- The kept row statistics after the first point, in the lane of that point. -/
theorem first_vr (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs2 : BufTy.Contents (Elt Ideal) arg16.view.ty) (y : S256x128.Idx) (hl : (y 1).val = (i 0).val) :
    arg15.view.read (Elt Ideal) (arg15.view.writes (Elt Ideal) arg15.view.junk (⟨Rect.unit ![248, 0] ![8, 128] inb_S256x128_S8x128_248_0, runFirst.sl.v892 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2⟩ :: runFirst.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2)) y = pVr (stepAt c i xt0) (i 0).val x1 (arg14.view.read (Elt Ideal) (arg14.view.writes (Elt Ideal) arg14.view.junk (runFirst.sl.HS0_1 (F := Ideal) arg4 harg4 x2))) (y 0).val (y 1).val := by
  unfold pVr
  rw [← mid_rsum c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs2]
  have key : ∀ A : List (View.Piece (Elt Ideal) S256x128 .f32),
      (∀ p ∈ A, ∀ x : p.1.shape.Idx, p.1.emb x = y → p.2 x = vrRow (betaE (stepAt c i xt0)) (arg14.view.read (Elt Ideal) (arg14.view.writes (Elt Ideal) arg14.view.junk (runFirst.sl.HS0_1 (F := Ideal) arg4 harg4 x2))) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (p.1.emb x 0).val (p.1.emb x 1).val) →
      (∃ p ∈ A, y ∈ p.1.set) → arg15.view.read (Elt Ideal) (arg15.view.writes (Elt Ideal) arg15.view.junk (A ++ runFirst.sl.HS1_1 (F := Ideal))) y
        = vrRow (betaE (stepAt c i xt0)) (arg14.view.read (Elt Ideal) (arg14.view.writes (Elt Ideal) arg14.view.junk (runFirst.sl.HS0_1 (F := Ideal) arg4 harg4 x2))) (arg16.view.read (Elt Ideal) (arg16.view.writes (Elt Ideal) fs2 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x0) (harg3.unread x1) fs2 (arg21.view.writes (Elt Ideal) arg21.view.junk (runMid.sl.HS7_1 (F := Ideal))) (Scf.trips k0_t1_loop.lb k0_t1_loop.ub k0_t1_loop.st)).1)) (i 0).val (y 0).val (y 1).val := by
    intro A h hc
    rw [View.writes_append]
    refine read_at_place (Val := Elt Ideal) arg15.view _ y _ A ?_ hc
    intro p hp x hx
    rw [h p hp x hx, hx]
  delta runFirst.sl.HS1_32 runFirst.sl.HS1_31 runFirst.sl.HS1_30 runFirst.sl.HS1_29 runFirst.sl.HS1_28 runFirst.sl.HS1_27 runFirst.sl.HS1_26 runFirst.sl.HS1_25 runFirst.sl.HS1_24 runFirst.sl.HS1_23 runFirst.sl.HS1_22 runFirst.sl.HS1_21 runFirst.sl.HS1_20 runFirst.sl.HS1_19 runFirst.sl.HS1_18 runFirst.sl.HS1_17 runFirst.sl.HS1_16 runFirst.sl.HS1_15 runFirst.sl.HS1_14 runFirst.sl.HS1_13 runFirst.sl.HS1_12 runFirst.sl.HS1_11 runFirst.sl.HS1_10 runFirst.sl.HS1_9 runFirst.sl.HS1_8 runFirst.sl.HS1_7 runFirst.sl.HS1_6 runFirst.sl.HS1_5 runFirst.sl.HS1_4 runFirst.sl.HS1_3 runFirst.sl.HS1_2
  refine key [_, _, _, _, _, _, _, _, _, _, _, _, _, _, _, _, _, _, _, _, _, _, _, _, _, _, _, _, _, _, _, _] ?_ ?_
  · clear key
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,  fun _ h => absurd h List.not_mem_nil⟩
    rotate_left
    all_goals
    intro x hx
    have hx1 := (congrArg (fun z : S256x128.Idx => (z 1).val) hx).trans hl
    revert hx1
    obtain ⟨r, l, rfl⟩ : ∃ (r : Fin 8) (l : Fin 128), x = ix2 r l := ⟨x 0, x 1, (ix2_eta x).symm⟩
    clear hx
    unfold vrRow oldRow betaE stepAt
    try delta runFirst.sl.r_6
    try delta runFirst.sl.r_22
    try delta runFirst.sl.r_38
    try delta runFirst.sl.v892
    try generalize runFirst.sl.v78 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v105 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v132 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v159 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v186 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v213 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v240 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v267 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v294 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v321 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v348 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v375 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v402 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v429 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v456 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v483 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v510 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v537 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v564 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v591 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v618 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v645 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v672 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v699 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v726 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v753 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v780 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v807 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v834 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v861 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    try generalize runFirst.sl.v888 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 xt0 fs2 = V
    sl_unfold_run_names
    pointwise [k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976]
    simp only [emb_unit_val, readAt2_f32, readCov2_f32, named_invD, ix2_fst, ix2_snd, Matrix.cons_val_zero, Matrix.cons_val_one, zero_add]
    intro hx1
    refine (sel_same _ _ hx1 _ _).trans ?_
    try rfl
  · clear key
    have h0 : (y 0).val < 256 := (y 0).isLt
    have h1 : (y 1).val < 128 := (y 1).isLt
    simp only [List.exists_mem_cons_iff, Rect.mem_set_unit, Fin.forall_fin_two]
    simp
    omega

end

end Cert.Val
end
-- ==== Proof.KernelIdealValue.RunToFirst.lean ====
/- One pass of the kernel body at the first grid point, with what it leaves behind. -/
module

public import proofs.«01_k».proof.Proof.KernelIdealValue.Mid
public import proofs.«01_k».proof.Proof.KernelIdealValue.Launch
public import proofs.«01_k».proof.Proof.KernelIdealValue.First
@[expose] public section

set_option maxRecDepth 16384
set_option maxHeartbeats 2000000

noncomputable section

namespace Cert.Val

open Idealize.ShloMosaic Idealize.ShloMosaic.TcCoe Idealize.ShloMosaic.Tactic
open Cert.KernelIdeal Cert.KernelIdeal.Gen Cert.KernelIdeal.Body

/-- The body runs at the first point and ends with the outputs and the kept statistics at their values. -/
theorem runToFirst (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hc0 : condFirst i) (hc1 : ¬condCol i) (hc2 : ¬condRow i) (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (f6 : BufTy.Contents (Elt Ideal) arg8.view.ty) (f7 : BufTy.Contents (Elt Ideal) arg9.view.ty) (f8 : BufTy.Contents (Elt Ideal) arg10.view.ty) (f9 : BufTy.Contents (Elt Ideal) arg11.view.ty) (f10 : BufTy.Contents (Elt Ideal) arg12.view.ty) (f11 : BufTy.Contents (Elt Ideal) arg13.view.ty) (fs0 : BufTy.Contents (Elt Ideal) arg14.view.ty) (fs1 : BufTy.Contents (Elt Ideal) arg15.view.ty) (fs2 : BufTy.Contents (Elt Ideal) arg16.view.ty) (fs3 : BufTy.Contents (Elt Ideal) arg17.view.ty) (fs4 : BufTy.Contents (Elt Ideal) arg18.view.ty) (fs5 : BufTy.Contents (Elt Ideal) arg19.view.ty) (fs6 : BufTy.Contents (Elt Ideal) arg20.view.ty) (fs7 : BufTy.Contents (Elt Ideal) arg21.view.ty) (fs8 : BufTy.Contents (Elt Ideal) arg22.view.ty) (Post : Vec Ideal S1x256x7168 .bf16 → Vec Ideal S1x256x7168 .bf16 → Vec Ideal S12x256 .f32 → Vec Ideal S12x7168 .f32 → Vec Ideal S1x256x7168 .fp8e4m3 → Vec Ideal S1x256x56 .f32 → Vec Ideal S256x128 .f32 → Vec Ideal S256x128 .f32 → Vec Ideal S12x8x7168 .f32 → Prop)
    (h : ∀ d8 d9 d10 d11 d12 d13 d14 d15 d19, (∀ y, d8 y = x0 y + pDw (stepAt c i xt0) (i 0).val x0 x1 x4 x5 (arg14.view.read (Elt Ideal) (arg14.view.writes (Elt Ideal) arg14.view.junk (runFirst.sl.HS0_1 (F := Ideal) arg4 harg4 x2))) (arg19.view.read (Elt Ideal) (arg19.view.writes (Elt Ideal) arg19.view.junk (runFirst.sl.HS5_12 (F := Ideal) arg5 harg5 x3))) (y 1).val (y 2).val) → (∀ y, d9 y = pDw (stepAt c i xt0) (i 0).val x0 x1 x4 x5 (arg14.view.read (Elt Ideal) (arg14.view.writes (Elt Ideal) arg14.view.junk (runFirst.sl.HS0_1 (F := Ideal) arg4 harg4 x2))) (arg19.view.read (Elt Ideal) (arg19.view.writes (Elt Ideal) arg19.view.junk (runFirst.sl.HS5_12 (F := Ideal) arg5 harg5 x3))) (y 1).val (y 2).val) → (∀ y, d12 y = pCode (stepAt c i xt0) (i 0).val x1 x4 x5 (arg14.view.read (Elt Ideal) (arg14.view.writes (Elt Ideal) arg14.view.junk (runFirst.sl.HS0_1 (F := Ideal) arg4 harg4 x2))) (arg19.view.read (Elt Ideal) (arg19.view.writes (Elt Ideal) arg19.view.junk (runFirst.sl.HS5_12 (F := Ideal) arg5 harg5 x3))) (y 1).val (y 2).val) → (∀ y, d13 y = Ideal.exp2 (pExp (stepAt c i xt0) (i 0).val x1 x4 x5 (arg14.view.read (Elt Ideal) (arg14.view.writes (Elt Ideal) arg14.view.junk (runFirst.sl.HS0_1 (F := Ideal) arg4 harg4 x2))) (arg19.view.read (Elt Ideal) (arg19.view.writes (Elt Ideal) arg19.view.junk (runFirst.sl.HS5_12 (F := Ideal) arg5 harg5 x3))) (y 1).val (y 2).val)) → (d14 = (arg14.view.read (Elt Ideal) (arg14.view.writes (Elt Ideal) arg14.view.junk (runFirst.sl.HS0_1 (F := Ideal) arg4 harg4 x2)))) → (∀ y, (y 1).val = (i 0).val → d15 y = pVr (stepAt c i xt0) (i 0).val x1 (arg14.view.read (Elt Ideal) (arg14.view.writes (Elt Ideal) arg14.view.junk (runFirst.sl.HS0_1 (F := Ideal) arg4 harg4 x2))) (y 0).val (y 1).val) → (∀ y, d19 y = if (y 0).val = (i 0).val then pVc (stepAt c i xt0) (i 0).val x1 (arg19.view.read (Elt Ideal) (arg19.view.writes (Elt Ideal) arg19.view.junk (runFirst.sl.HS5_12 (F := Ideal) arg5 harg5 x3))) (y 1).val (y 2).val else (arg19.view.read (Elt Ideal) (arg19.view.writes (Elt Ideal) arg19.view.junk (runFirst.sl.HS5_12 (F := Ideal) arg5 harg5 x3))) y) → Post d8 d9 d10 d11 d12 d13 d14 d15 d19) :
    RunTo (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 f6 f7 f8 f9 f10 f11 fs0 fs1 fs2 fs3 fs4 fs5 fs6 fs7 fs8 Post := by
  refine ⟨(runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.1, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.2.1, ?_, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.2.2⟩
  refine h _ _ _ _ _ _ _ _ _ ?_ ?_ ?_ ?_ ?_ ?_ ?_
  · delta runFirst
    dsimp only
    exact mid_out8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 (arg14.view.writes (Elt Ideal) arg14.view.junk (runFirst.sl.HS0_1 (F := Ideal) arg4 harg4 x2)) fs1 fs2 fs4 (arg19.view.writes (Elt Ideal) arg19.view.junk (runFirst.sl.HS5_12 (F := Ideal) arg5 harg5 x3)) fs6 f6
  · delta runFirst
    dsimp only
    exact mid_out9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 (arg14.view.writes (Elt Ideal) arg14.view.junk (runFirst.sl.HS0_1 (F := Ideal) arg4 harg4 x2)) fs1 fs2 fs4 (arg19.view.writes (Elt Ideal) arg19.view.junk (runFirst.sl.HS5_12 (F := Ideal) arg5 harg5 x3)) fs6 f7
  · delta runFirst
    dsimp only
    exact mid_out12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 (arg14.view.writes (Elt Ideal) arg14.view.junk (runFirst.sl.HS0_1 (F := Ideal) arg4 harg4 x2)) fs1 fs2 fs4 (arg19.view.writes (Elt Ideal) arg19.view.junk (runFirst.sl.HS5_12 (F := Ideal) arg5 harg5 x3)) fs6 f10
  · delta runFirst
    dsimp only
    exact mid_out13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 (arg14.view.writes (Elt Ideal) arg14.view.junk (runFirst.sl.HS0_1 (F := Ideal) arg4 harg4 x2)) fs1 fs2 fs4 (arg19.view.writes (Elt Ideal) arg19.view.junk (runFirst.sl.HS5_12 (F := Ideal) arg5 harg5 x3)) fs6 f11
  · delta runFirst
    dsimp only
  · delta runFirst
    dsimp only
    exact first_vr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs2
  · delta runFirst
    dsimp only
    intro y
    rw [View.writes_append]
    exact mid_vc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs4 (arg19.view.writes (Elt Ideal) arg19.view.junk (runFirst.sl.HS5_12 (F := Ideal) arg5 harg5 x3)) y

end Cert.Val
end
-- ==== Proof.KernelIdealValue.RunToMid.lean ====
/- One pass of the kernel body at a middle grid point, with what it leaves behind. -/
module

public import proofs.«01_k».proof.Proof.KernelIdealValue.Mid
public import proofs.«01_k».proof.Proof.KernelIdealValue.Launch
@[expose] public section

set_option maxRecDepth 16384
set_option maxHeartbeats 2000000

noncomputable section

namespace Cert.Val

open Idealize.ShloMosaic Idealize.ShloMosaic.TcCoe Idealize.ShloMosaic.Tactic
open Cert.KernelIdeal Cert.KernelIdeal.Gen Cert.KernelIdeal.Body

/-- The body runs at a middle point and ends with the outputs and the kept statistics at their values. -/
theorem runToMid (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hc0 : ¬condFirst i) (hc1 : ¬condCol i) (hc2 : ¬condRow i) (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (f6 : BufTy.Contents (Elt Ideal) arg8.view.ty) (f7 : BufTy.Contents (Elt Ideal) arg9.view.ty) (f8 : BufTy.Contents (Elt Ideal) arg10.view.ty) (f9 : BufTy.Contents (Elt Ideal) arg11.view.ty) (f10 : BufTy.Contents (Elt Ideal) arg12.view.ty) (f11 : BufTy.Contents (Elt Ideal) arg13.view.ty) (fs0 : BufTy.Contents (Elt Ideal) arg14.view.ty) (fs1 : BufTy.Contents (Elt Ideal) arg15.view.ty) (fs2 : BufTy.Contents (Elt Ideal) arg16.view.ty) (fs3 : BufTy.Contents (Elt Ideal) arg17.view.ty) (fs4 : BufTy.Contents (Elt Ideal) arg18.view.ty) (fs5 : BufTy.Contents (Elt Ideal) arg19.view.ty) (fs6 : BufTy.Contents (Elt Ideal) arg20.view.ty) (fs7 : BufTy.Contents (Elt Ideal) arg21.view.ty) (fs8 : BufTy.Contents (Elt Ideal) arg22.view.ty) (Post : Vec Ideal S1x256x7168 .bf16 → Vec Ideal S1x256x7168 .bf16 → Vec Ideal S12x256 .f32 → Vec Ideal S12x7168 .f32 → Vec Ideal S1x256x7168 .fp8e4m3 → Vec Ideal S1x256x56 .f32 → Vec Ideal S256x128 .f32 → Vec Ideal S256x128 .f32 → Vec Ideal S12x8x7168 .f32 → Prop)
    (h : ∀ d8 d9 d10 d11 d12 d13 d14 d15 d19, (∀ y, d8 y = x0 y + pDw (stepAt c i xt0) (i 0).val x0 x1 x4 x5 (arg14.view.read (Elt Ideal) fs0) (arg19.view.read (Elt Ideal) fs5) (y 1).val (y 2).val) → (∀ y, d9 y = pDw (stepAt c i xt0) (i 0).val x0 x1 x4 x5 (arg14.view.read (Elt Ideal) fs0) (arg19.view.read (Elt Ideal) fs5) (y 1).val (y 2).val) → (∀ y, d12 y = pCode (stepAt c i xt0) (i 0).val x1 x4 x5 (arg14.view.read (Elt Ideal) fs0) (arg19.view.read (Elt Ideal) fs5) (y 1).val (y 2).val) → (∀ y, d13 y = Ideal.exp2 (pExp (stepAt c i xt0) (i 0).val x1 x4 x5 (arg14.view.read (Elt Ideal) fs0) (arg19.view.read (Elt Ideal) fs5) (y 1).val (y 2).val)) → (d14 = (arg14.view.read (Elt Ideal) fs0)) → (∀ y, d15 y = Scalar.select (IntOp.cmpi .eq (BitVec.ofNat 32 (y 1).val) (BitVec.ofNat 32 (i 0).val)) (pVr (stepAt c i xt0) (i 0).val x1 (arg14.view.read (Elt Ideal) fs0) (y 0).val (y 1).val) (arg15.view.read (Elt Ideal) fs1 y)) → (∀ y, d19 y = if (y 0).val = (i 0).val then pVc (stepAt c i xt0) (i 0).val x1 (arg19.view.read (Elt Ideal) fs5) (y 1).val (y 2).val else (arg19.view.read (Elt Ideal) fs5) y) → Post d8 d9 d10 d11 d12 d13 d14 d15 d19) :
    RunTo (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 f6 f7 f8 f9 f10 f11 fs0 fs1 fs2 fs3 fs4 fs5 fs6 fs7 fs8 Post := by
  refine ⟨(runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.1, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.2.1, ?_, (runMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.2.2⟩
  refine h _ _ _ _ _ _ _ _ _ ?_ ?_ ?_ ?_ ?_ ?_ ?_
  · delta runMid
    dsimp only
    exact mid_out8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 fs4 fs5 fs6 f6
  · delta runMid
    dsimp only
    exact mid_out9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 fs4 fs5 fs6 f7
  · delta runMid
    dsimp only
    exact mid_out12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 fs4 fs5 fs6 f10
  · delta runMid
    dsimp only
    exact mid_out13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 fs4 fs5 fs6 f11
  · delta runMid
    dsimp only
  · delta runMid
    dsimp only
    exact mid_vr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 _
  · delta runMid
    dsimp only
    exact mid_vc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs4 fs5

end Cert.Val
end
-- ==== Proof.KernelIdealValue.RunLast.lean ====
/- The run of the kernel body in one of its three cases, with the contents it leaves. -/
module

public import proofs.«01_k».proof.Proof.KernelIdealBody.Base
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The body at the last grid point: every buffer it writes ends at the contents named in the result. -/
@[irreducible] def runLast (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hc0 : ¬condFirst i) (hc1 : condCol i) (hc2 : condRow i)
    (x0 : Vec F S1x256x7168 .bf16) (x1 : Vec F S1x256x7168 .bf16) (x2 : Vec F S12x256 .f32) (x3 : Vec F S12x7168 .f32) (x4 : Vec F S1x256x7168 .fp8e4m3) (x5 : Vec F S1x256x56 .f32) (xt0 : TbBuf0 (F := F) c tbM0_0) (f6 : BufTy.Contents (Elt F) arg8.view.ty) (f7 : BufTy.Contents (Elt F) arg9.view.ty) (f8 : BufTy.Contents (Elt F) arg10.view.ty) (f9 : BufTy.Contents (Elt F) arg11.view.ty) (f10 : BufTy.Contents (Elt F) arg12.view.ty) (f11 : BufTy.Contents (Elt F) arg13.view.ty) (fs0 : BufTy.Contents (Elt F) arg14.view.ty) (fs1 : BufTy.Contents (Elt F) arg15.view.ty) (fs2 : BufTy.Contents (Elt F) arg16.view.ty) (fs3 : BufTy.Contents (Elt F) arg17.view.ty) (fs4 : BufTy.Contents (Elt F) arg18.view.ty) (fs5 : BufTy.Contents (Elt F) arg19.view.ty) (fs6 : BufTy.Contents (Elt F) arg20.view.ty) (fs7 : BufTy.Contents (Elt F) arg21.view.ty) (fs8 : BufTy.Contents (Elt F) arg22.view.ty) :
    Σ' (C8 : BufTy.Contents (Elt F) arg8.view.ty), Σ' (C9 : BufTy.Contents (Elt F) arg9.view.ty), Σ' (C10 : BufTy.Contents (Elt F) arg10.view.ty), Σ' (C11 : BufTy.Contents (Elt F) arg11.view.ty), Σ' (C12 : BufTy.Contents (Elt F) arg12.view.ty), Σ' (C13 : BufTy.Contents (Elt F) arg13.view.ty), Σ' (C14 : BufTy.Contents (Elt F) arg14.view.ty), Σ' (C15 : BufTy.Contents (Elt F) arg15.view.ty), Σ' (C16 : BufTy.Contents (Elt F) arg16.view.ty), Σ' (C17 : BufTy.Contents (Elt F) arg17.view.ty), Σ' (C18 : BufTy.Contents (Elt F) arg18.view.ty), Σ' (C19 : BufTy.Contents (Elt F) arg19.view.ty), Σ' (C20 : BufTy.Contents (Elt F) arg20.view.ty), Σ' (C21 : BufTy.Contents (Elt F) arg21.view.ty), { C22 : BufTy.Contents (Elt F) arg22.view.ty // ∀ (E : Set ℕ),
      (iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} f6) ∗ (arg9.view.loc (c : Thread nD τ) ↦[arg9.view.set]{fullShare} f7) ∗ (arg10.view.loc (c : Thread nD τ) ↦[arg10.view.set]{fullShare} f8) ∗ (arg11.view.loc (c : Thread nD τ) ↦[arg11.view.set]{fullShare} f9) ∗ (arg12.view.loc (c : Thread nD τ) ↦[arg12.view.set]{fullShare} f10) ∗ (arg13.view.loc (c : Thread nD τ) ↦[arg13.view.set]{fullShare} f11) ∗ (arg14.view.loc (c : Thread nD τ) ↦[arg14.view.set]{fullShare} fs0) ∗ (arg15.view.loc (c : Thread nD τ) ↦[arg15.view.set]{fullShare} fs1) ∗ (arg16.view.loc (c : Thread nD τ) ↦[arg16.view.set]{fullShare} fs2) ∗ (arg17.view.loc (c : Thread nD τ) ↦[arg17.view.set]{fullShare} fs3) ∗ (arg18.view.loc (c : Thread nD τ) ↦[arg18.view.set]{fullShare} fs4) ∗ (arg19.view.loc (c : Thread nD τ) ↦[arg19.view.set]{fullShare} fs5) ∗ (arg20.view.loc (c : Thread nD τ) ↦[arg20.view.set]{fullShare} fs6) ∗ (arg21.view.loc (c : Thread nD τ) ↦[arg21.view.set]{fullShare} fs7) ∗ (arg22.view.loc (c : Thread nD τ) ↦[arg22.view.set]{fullShare} fs8) ∗ tbPt0 c tbM0_0 xt0) : sProp 𝕄)
      ⊢ wp frame (wpE (defs₀ (F := F)) Variants.none c none) E (cc0_adafactor_step i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20) ∗ (arg21.view.loc (c : Thread nD τ) ↦[arg21.view.set]{fullShare} C21) ∗ (arg22.view.loc (c : Thread nD τ) ↦[arg22.view.set]{fullShare} C22) ∗ tbPt0 c tbM0_0 xt0)) } := by
  refine ⟨?_, ?_, ?_, ?_, ?_, ?_, ?_, ?_, ?_, ?_, ?_, ?_, ?_, ?_, ?_, fun E => ?run⟩
  case run =>
    simp only [cc0_adafactor_step_eq_skeleton]; unfold cc0_adafactor_step_skel
    iintro ⟨H0, H1, H2, H3, H4, H5, H6, H7, H8, H9, H10, H11, HS0, HS1, HS2, HS3, HS4, HS5, HS6, HS7, HS8, HT0⟩
    sl_exec (disch := first | sl_exact hc0 | sl_exact hc1 | sl_exact hc2)
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HT0

end Cert.KernelIdeal.Body

end
-- ==== Proof.KernelIdealValue.Last.lean ====
/- What the last grid point leaves behind: the two statistics, moved from the buffers to the outputs. -/
module

public import proofs.«01_k».proof.Proof.KernelIdealValue.Mid
public import proofs.«01_k».proof.Proof.KernelIdealValue.RunLast
public import Idealize.ShloMosaic.Lib.CellWrites
@[expose] public section

set_option maxRecDepth 16384
set_option maxHeartbeats 4000000

noncomputable section

namespace Cert.Val

open Idealize.ShloMosaic Idealize.ShloMosaic.TcCoe Idealize.ShloMosaic.Tactic
open Cert.KernelIdeal Cert.KernelIdeal.Gen Cert.KernelIdeal.Body

section
variable (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

/-- The new row statistics: the kept buffer, transposed. -/
theorem last10 (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs0 : BufTy.Contents (Elt Ideal) arg14.view.ty) (fs1 : BufTy.Contents (Elt Ideal) arg15.view.ty) (fs2 : BufTy.Contents (Elt Ideal) arg16.view.ty) (f : BufTy.Contents (Elt Ideal) arg10.view.ty) (y : S12x256.Idx) : arg10.view.read (Elt Ideal) (arg10.view.writes (Elt Ideal) f (runLast.sl.H8_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2)) y = at2 (arg15.view.read (Elt Ideal) (arg15.view.writes (Elt Ideal) arg15.view.junk (runMid.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2))) (y 1).val (y 0).val := by
  refine View.read_writes_apply_of_pieces (Val := Elt Ideal) arg10.view _ (fun y : S12x256.Idx => at2 (arg15.view.read (Elt Ideal) (arg15.view.writes (Elt Ideal) arg15.view.junk (runMid.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2))) (y 1).val (y 0).val) _ ?_ y ?_
  · delta runLast.sl.H8_1
    simp only [List.forall_mem_cons]
    refine ⟨?_, fun _ h => absurd h List.not_mem_nil⟩
    intro x
    obtain ⟨r, l, rfl⟩ : ∃ (r : Fin 12) (l : Fin 256), x = ix2 r l := ⟨x 0, x 1, (ix2_eta x).symm⟩
    delta runLast.sl.v1161 runLast.sl.v1160_1
    delta runLast.sl.v1159_1
    pointwise []
    rw [show runLast.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2 = runMid.sl.HS1_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 xt0 fs0 fs1 fs2 from rfl]
    show View.readAt (Elt Ideal) arg15.view _ (arg15.view.writes (Elt Ideal) arg15.view.junk _) _ = _
    refine (readAt2_f32 _ _ _ _ _ _).trans ?_
    simp only [emb_unit_val, ix2_fst, ix2_snd, Matrix.cons_val_zero, Matrix.cons_val_one, zero_add]
  · have h0 : (y 0).val < 12 := (y 0).isLt
    have h1 : (y 1).val < 256 := (y 1).isLt
    delta runLast.sl.H8_1
    simp only [List.exists_mem_cons_iff, Rect.mem_set_unit, Fin.forall_fin_two]
    simp
    omega

/-- The new column statistics: the first sublane of the kept buffer. -/
theorem last11 (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (fs4 : BufTy.Contents (Elt Ideal) arg18.view.ty) (fs5 : BufTy.Contents (Elt Ideal) arg19.view.ty) (f : BufTy.Contents (Elt Ideal) arg11.view.ty) (y : S12x7168.Idx) : arg11.view.read (Elt Ideal) (arg11.view.writes (Elt Ideal) f (runLast.sl.H9_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 xt0 fs4 fs5)) y = at3 (arg19.view.read (Elt Ideal) (arg19.view.writes (Elt Ideal) fs5 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).2)) (y 0).val 0 (y 1).val := by
  refine View.read_writes_apply_of_pieces (Val := Elt Ideal) arg11.view _ (fun y : S12x7168.Idx => at3 (arg19.view.read (Elt Ideal) (arg19.view.writes (Elt Ideal) fs5 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) (runMid.sl.r (F := Ideal) c i xt0) (harg3.unread x1) fs4 fs5 (Scf.trips 0#32 (Scalar.addi 0#32 7#32) 1#32)).2)) (y 0).val 0 (y 1).val) _ ?_ y ?_
  · delta runLast.sl.H9_12
    simp only [List.forall_mem_cons]
    refine ⟨?_, ?_, ?_, ?_, ?_, ?_, ?_, ?_, ?_, ?_, ?_, ?_,  fun _ h => absurd h List.not_mem_nil⟩
    all_goals
      intro x
      obtain ⟨r, l, rfl⟩ : ∃ (r : Fin 1) (l : Fin 7168), x = ix2 r l := ⟨x 0, x 1, (ix2_eta x).symm⟩
      sl_unfold_run_names
      pointwise []
      simp only [emb_unit_val, readAt3_f32, ix3_fst, ix3_snd, ix3_trd, ix2_fst, ix2_snd, Matrix.cons_val_zero, Matrix.cons_val_one, zero_add]
      obtain rfl : r = 0 := Fin.fin_one_eq_zero r
      refine (congrArg (fun d => at3 _ _ _ d) (zero_add l.val)).trans ?_
      rfl
  · have h0 : (y 0).val < 12 := (y 0).isLt
    have h1 : (y 1).val < 7168 := (y 1).isLt
    delta runLast.sl.H9_12
    simp only [List.exists_mem_cons_iff, Rect.mem_set_unit, Fin.forall_fin_two]
    simp
    omega

end

end Cert.Val
end
-- ==== Proof.KernelIdealValue.RunToLast.lean ====
/- One pass of the kernel body at the last grid point, with what it leaves behind. -/
module

public import proofs.«01_k».proof.Proof.KernelIdealValue.Mid
public import proofs.«01_k».proof.Proof.KernelIdealValue.Launch
public import proofs.«01_k».proof.Proof.KernelIdealValue.Last
@[expose] public section

set_option maxRecDepth 16384
set_option maxHeartbeats 2000000

noncomputable section

namespace Cert.Val

open Idealize.ShloMosaic Idealize.ShloMosaic.TcCoe Idealize.ShloMosaic.Tactic
open Cert.KernelIdeal Cert.KernelIdeal.Gen Cert.KernelIdeal.Body

/-- The body runs at the last point and ends with the outputs and the kept statistics at their values. -/
theorem runToLast (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hc0 : ¬condFirst i) (hc1 : condCol i) (hc2 : condRow i) (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (f6 : BufTy.Contents (Elt Ideal) arg8.view.ty) (f7 : BufTy.Contents (Elt Ideal) arg9.view.ty) (f8 : BufTy.Contents (Elt Ideal) arg10.view.ty) (f9 : BufTy.Contents (Elt Ideal) arg11.view.ty) (f10 : BufTy.Contents (Elt Ideal) arg12.view.ty) (f11 : BufTy.Contents (Elt Ideal) arg13.view.ty) (fs0 : BufTy.Contents (Elt Ideal) arg14.view.ty) (fs1 : BufTy.Contents (Elt Ideal) arg15.view.ty) (fs2 : BufTy.Contents (Elt Ideal) arg16.view.ty) (fs3 : BufTy.Contents (Elt Ideal) arg17.view.ty) (fs4 : BufTy.Contents (Elt Ideal) arg18.view.ty) (fs5 : BufTy.Contents (Elt Ideal) arg19.view.ty) (fs6 : BufTy.Contents (Elt Ideal) arg20.view.ty) (fs7 : BufTy.Contents (Elt Ideal) arg21.view.ty) (fs8 : BufTy.Contents (Elt Ideal) arg22.view.ty) (Post : Vec Ideal S1x256x7168 .bf16 → Vec Ideal S1x256x7168 .bf16 → Vec Ideal S12x256 .f32 → Vec Ideal S12x7168 .f32 → Vec Ideal S1x256x7168 .fp8e4m3 → Vec Ideal S1x256x56 .f32 → Vec Ideal S256x128 .f32 → Vec Ideal S256x128 .f32 → Vec Ideal S12x8x7168 .f32 → Prop)
    (h : ∀ d8 d9 d10 d11 d12 d13 d14 d15 d19, (∀ y, d8 y = x0 y + pDw (stepAt c i xt0) (i 0).val x0 x1 x4 x5 (arg14.view.read (Elt Ideal) fs0) (arg19.view.read (Elt Ideal) fs5) (y 1).val (y 2).val) → (∀ y, d9 y = pDw (stepAt c i xt0) (i 0).val x0 x1 x4 x5 (arg14.view.read (Elt Ideal) fs0) (arg19.view.read (Elt Ideal) fs5) (y 1).val (y 2).val) → (∀ y, d12 y = pCode (stepAt c i xt0) (i 0).val x1 x4 x5 (arg14.view.read (Elt Ideal) fs0) (arg19.view.read (Elt Ideal) fs5) (y 1).val (y 2).val) → (∀ y, d13 y = Ideal.exp2 (pExp (stepAt c i xt0) (i 0).val x1 x4 x5 (arg14.view.read (Elt Ideal) fs0) (arg19.view.read (Elt Ideal) fs5) (y 1).val (y 2).val)) → (d14 = (arg14.view.read (Elt Ideal) fs0)) → (∀ y, d15 y = Scalar.select (IntOp.cmpi .eq (BitVec.ofNat 32 (y 1).val) (BitVec.ofNat 32 (i 0).val)) (pVr (stepAt c i xt0) (i 0).val x1 (arg14.view.read (Elt Ideal) fs0) (y 0).val (y 1).val) (arg15.view.read (Elt Ideal) fs1 y)) → (∀ y, d19 y = if (y 0).val = (i 0).val then pVc (stepAt c i xt0) (i 0).val x1 (arg19.view.read (Elt Ideal) fs5) (y 1).val (y 2).val else (arg19.view.read (Elt Ideal) fs5) y) → (∀ y, d10 y = at2 d15 (y 1).val (y 0).val) → (∀ y, d11 y = at3 d19 (y 0).val 0 (y 1).val) → Post d8 d9 d10 d11 d12 d13 d14 d15 d19) :
    RunTo (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 f6 f7 f8 f9 f10 f11 fs0 fs1 fs2 fs3 fs4 fs5 fs6 fs7 fs8 Post := by
  refine ⟨(runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.1, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.2.1, ?_, (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8).2.2.2.2.2.2.2.2.2.2.2.2.2.2.2⟩
  refine h _ _ _ _ _ _ _ _ _ ?_ ?_ ?_ ?_ ?_ ?_ ?_ ?_ ?_
  · delta runLast
    dsimp only
    exact mid_out8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 fs4 fs5 fs6 f6
  · delta runLast
    dsimp only
    exact mid_out9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 fs4 fs5 fs6 f7
  · delta runLast
    dsimp only
    exact mid_out12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 fs4 fs5 fs6 f10
  · delta runLast
    dsimp only
    exact mid_out13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 fs4 fs5 fs6 f11
  · delta runLast
    dsimp only
  · delta runLast
    dsimp only
    exact mid_vr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 _
  · delta runLast
    dsimp only
    exact mid_vc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs4 fs5
  · delta runLast
    dsimp only
    exact last10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs0 fs1 fs2 _
  · delta runLast
    dsimp only
    exact last11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 fs4 fs5 _

end Cert.Val
end
-- ==== Proof.KernelIdealValue.Steps.lean ====
/- The kernel's whole run: what every grid point leaves in its output blocks, and the statistics carried from point to point. -/
module

public import proofs.«01_k».proof.Proof.KernelIdealValue.RunToFirst
public import proofs.«01_k».proof.Proof.KernelIdealValue.RunToMid
public import proofs.«01_k».proof.Proof.KernelIdealValue.RunToLast
public import proofs.«01_k».proof.Proof.KernelIdealValue.First
@[expose] public section

set_option maxRecDepth 16384
set_option maxHeartbeats 1000000

noncomputable section

namespace Cert.Val

open Idealize.ShloMosaic Idealize.ShloMosaic.TcCoe Idealize.ShloMosaic.Tactic
open Cert.KernelIdeal Cert.KernelIdeal.Gen Cert.KernelIdeal.Body

section Congr
variable (t : EReal) (b : ℕ) (X0 X1 X4 : S1x256x7168.Idx → EReal) (X5 : S1x256x56.Idx → EReal)
  (R14 : S256x128.Idx → EReal) (R19 R19' : S12x8x7168.Idx → EReal) (h : ∀ y, (y 0).val = b → R19 y = R19' y)
include h

/-- A point reads of the column statistics only its own batch's. -/
theorem pVc_congr : pVc t b X1 R19 = pVc t b X1 R19' := by
  funext s d
  unfold pVc
  refine congrArg (fun z => vcNew (betaE t) z (colSq X1 d)) ?_
  unfold at3
  split
  · exact h _ rfl
  · rfl

theorem pDw_congr : pDw t b X0 X1 X4 X5 R14 R19 = pDw t b X0 X1 X4 X5 R14 R19' := by
  funext r d
  unfold pDw pCode pExp pGain pAccU pUpd pCol
  rw [pVc_congr t b X1 R19 R19' h]

theorem pCode_congr : pCode t b X1 X4 X5 R14 R19 = pCode t b X1 X4 X5 R14 R19' := by
  funext r d
  unfold pCode pGain pAccU pUpd pCol
  rw [pVc_congr t b X1 R19 R19' h]

theorem pExp_congr : pExp t b X1 X4 X5 R14 R19 = pExp t b X1 X4 X5 R14 R19' := by
  funext r d
  unfold pExp pGain pAccU pUpd pCol
  rw [pVc_congr t b X1 R19 R19' h]
end Congr

/-- The old row statistics, transposed and padded with zeros to 128 lanes. -/
def pad14 (x2 : S12x256.Idx → EReal) : S256x128.Idx → EReal := fun y => if (y 1).val < 12 then at2 x2 (y 1).val (y 0).val else 0

/-- The old column statistics, repeated over the sublanes. -/
def rep19 (x3 : S12x7168.Idx → EReal) : S12x8x7168.Idx → EReal := fun y => at2 x3 (y 0).val (y 2).val

/-- The body at the first point, with the buffers it fills named by the inputs. -/
theorem runToFirst' (c : Dev nD) (i : grid0.Coords) (arg2 : Memref sig .tc .vmem S1x256x7168 .bf16) (harg2 : arg2.IsWhole) (arg3 : Memref sig .tc .vmem S1x256x7168 .bf16) (harg3 : arg3.IsWhole) (arg4 : Memref sig .tc .vmem S12x256 .f32) (harg4 : arg4.IsWhole) (arg5 : Memref sig .tc .vmem S12x7168 .f32) (harg5 : arg5.IsWhole) (arg6 : Memref sig .tc .vmem S1x256x7168 .fp8e4m3) (harg6 : arg6.IsWhole) (arg7 : Memref sig .tc .vmem S1x256x56 .f32) (harg7 : arg7.IsWhole) (arg8 : Memref sig .tc .vmem S1x256x7168 .bf16) (harg8 : arg8.IsWhole) (arg9 : Memref sig .tc .vmem S1x256x7168 .bf16) (harg9 : arg9.IsWhole) (arg10 : Memref sig .tc .vmem S12x256 .f32) (harg10 : arg10.IsWhole) (arg11 : Memref sig .tc .vmem S12x7168 .f32) (harg11 : arg11.IsWhole) (arg12 : Memref sig .tc .vmem S1x256x7168 .fp8e4m3) (harg12 : arg12.IsWhole) (arg13 : Memref sig .tc .vmem S1x256x56 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S8x7168 .f32) (harg18 : arg18.IsWhole) (arg19 : Memref sig .tc .vmem S12x8x7168 .f32) (harg19 : arg19.IsWhole) (arg20 : Memref sig .tc .vmem S256x7168 .f32) (harg20 : arg20.IsWhole) (arg21 : Memref sig .tc .vmem S16x128 .f32) (harg21 : arg21.IsWhole) (arg22 : Memref sig .tc .vmem S16x128 .f32) (harg22 : arg22.IsWhole) (hc0 : condFirst i) (hc1 : ¬condCol i) (hc2 : ¬condRow i) (x0 : Vec Ideal S1x256x7168 .bf16) (x1 : Vec Ideal S1x256x7168 .bf16) (x2 : Vec Ideal S12x256 .f32) (x3 : Vec Ideal S12x7168 .f32) (x4 : Vec Ideal S1x256x7168 .fp8e4m3) (x5 : Vec Ideal S1x256x56 .f32) (xt0 : TbBuf0 (F := Ideal) c tbM0_0) (f6 : BufTy.Contents (Elt Ideal) arg8.view.ty) (f7 : BufTy.Contents (Elt Ideal) arg9.view.ty) (f8 : BufTy.Contents (Elt Ideal) arg10.view.ty) (f9 : BufTy.Contents (Elt Ideal) arg11.view.ty) (f10 : BufTy.Contents (Elt Ideal) arg12.view.ty) (f11 : BufTy.Contents (Elt Ideal) arg13.view.ty) (fs0 : BufTy.Contents (Elt Ideal) arg14.view.ty) (fs1 : BufTy.Contents (Elt Ideal) arg15.view.ty) (fs2 : BufTy.Contents (Elt Ideal) arg16.view.ty) (fs3 : BufTy.Contents (Elt Ideal) arg17.view.ty) (fs4 : BufTy.Contents (Elt Ideal) arg18.view.ty) (fs5 : BufTy.Contents (Elt Ideal) arg19.view.ty) (fs6 : BufTy.Contents (Elt Ideal) arg20.view.ty) (fs7 : BufTy.Contents (Elt Ideal) arg21.view.ty) (fs8 : BufTy.Contents (Elt Ideal) arg22.view.ty) (Post : Vec Ideal S1x256x7168 .bf16 → Vec Ideal S1x256x7168 .bf16 → Vec Ideal S12x256 .f32 → Vec Ideal S12x7168 .f32 → Vec Ideal S1x256x7168 .fp8e4m3 → Vec Ideal S1x256x56 .f32 → Vec Ideal S256x128 .f32 → Vec Ideal S256x128 .f32 → Vec Ideal S12x8x7168 .f32 → Prop)
    (h : ∀ d8 d9 d10 d11 d12 d13 d14 d15 d19, (∀ y, d8 y = x0 y + pDw (stepAt c i xt0) (i 0).val x0 x1 x4 x5 (pad14 x2) (rep19 x3) (y 1).val (y 2).val) → (∀ y, d9 y = pDw (stepAt c i xt0) (i 0).val x0 x1 x4 x5 (pad14 x2) (rep19 x3) (y 1).val (y 2).val) → (∀ y, d12 y = pCode (stepAt c i xt0) (i 0).val x1 x4 x5 (pad14 x2) (rep19 x3) (y 1).val (y 2).val) → (∀ y, d13 y = Ideal.exp2 (pExp (stepAt c i xt0) (i 0).val x1 x4 x5 (pad14 x2) (rep19 x3) (y 1).val (y 2).val)) → (d14 = (pad14 x2)) → (∀ y, (y 1).val = (i 0).val → d15 y = pVr (stepAt c i xt0) (i 0).val x1 (pad14 x2) (y 0).val (y 1).val) → (∀ y, d19 y = if (y 0).val = (i 0).val then pVc (stepAt c i xt0) (i 0).val x1 (rep19 x3) (y 1).val (y 2).val else (rep19 x3) y) → Post d8 d9 d10 d11 d12 d13 d14 d15 d19) :
    RunTo (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0 f6 f7 f8 f9 f10 f11 fs0 fs1 fs2 fs3 fs4 fs5 fs6 fs7 fs8 Post := by
  have e14 : (arg14.view.read (Elt Ideal) (arg14.view.writes (Elt Ideal) arg14.view.junk (runFirst.sl.HS0_1 (F := Ideal) arg4 harg4 x2))) = pad14 x2 := funext (first14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0)
  have e19 : (arg19.view.read (Elt Ideal) (arg19.view.writes (Elt Ideal) arg19.view.junk (runFirst.sl.HS5_12 (F := Ideal) arg5 harg5 x3))) = rep19 x3 := funext (first19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 xt0)
  refine runToFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 xt0 f6 f7 f8 f9 f10 f11 fs0 fs1 fs2 fs3 fs4 fs5 fs6 fs7 fs8 Post ?_
  rw [e14, e19]
  exact h

variable (m : (ℓ : Loc nD τ sig) → Buf (Elt Ideal) ℓ) (hO : Ok m)

/-- Grid point `a`. -/
def gp (a : ℕ) (h : a < 12) : Fin grid0.N := ⟨a, by rw [N_0]; exact h⟩

/-- Grid point `a`, as a point of the pipeline. -/
def pt (a : ℕ) (h : a < 12) : Fin (cfgM m hO).N := gp a h

/-- The block of input 0 at a point. -/
def blk0 (t : Fin (cfgM m hO).N) : S1x256x7168.Idx → EReal := iblk m hO 0 0 t

/-- The block of input 1 at a point. -/
def blk1 (t : Fin (cfgM m hO).N) : S1x256x7168.Idx → EReal := iblk m hO 0 1 t

/-- The block of input 4 at a point. -/
def blk4 (t : Fin (cfgM m hO).N) : S1x256x7168.Idx → EReal := iblk m hO 0 4 t

/-- The block of input 5 at a point. -/
def blk5 (t : Fin (cfgM m hO).N) : S1x256x56.Idx → EReal := iblk m hO 0 5 t

theorem at_point {α : Type} (f : Fin (cfgM m hO).N → α) (z : α) (t : Fin (cfgM m hO).N) (ht : t.val < 12) :
    (if h : t.val < 12 then f (pt m hO t.val h) else z) = f t := by
  rw [dif_pos ht]
  rfl

/-- The step count of batch `a`. -/
def St (a : ℕ) : EReal := if h : a < 12 then stepAt 0 (grid0.coords (gp a h)) (tbl m 0) else 0

/-- The weights of batch `a`. -/
def B0 (a : ℕ) : S1x256x7168.Idx → EReal := if h : a < 12 then blk0 m hO (pt m hO a h) else fun _ => 0

/-- The gradient of batch `a`. -/
def B1 (a : ℕ) : S1x256x7168.Idx → EReal := if h : a < 12 then blk1 m hO (pt m hO a h) else fun _ => 0

/-- The momentum codes of batch `a`. -/
def B4 (a : ℕ) : S1x256x7168.Idx → EReal := if h : a < 12 then blk4 m hO (pt m hO a h) else fun _ => 0

/-- The momentum scales of batch `a`. -/
def B5 (a : ℕ) : S1x256x56.Idx → EReal := if h : a < 12 then blk5 m hO (pt m hO a h) else fun _ => 0

/-- The old row statistics. -/
def A2 : S12x256.Idx → EReal := iblk m hO 0 2 (pt m hO 0 (by decide))

/-- The old column statistics. -/
def A3 : S12x7168.Idx → EReal := iblk m hO 0 3 (pt m hO 0 (by decide))

/-- The old row statistics, transposed and padded. -/
def P14 : S256x128.Idx → EReal := pad14 (A2 m hO)

/-- The old column statistics, repeated over the sublanes. -/
def P19 : S12x8x7168.Idx → EReal := rep19 (A3 m hO)

/-- The statistics as they stand before point `n`. -/
def Inv (n : ℕ) (X14 X15 : Vec Ideal S256x128 .f32) (X19 : Vec Ideal S12x8x7168 .f32) : Prop :=
  1 ≤ n → X14 = P14 m hO
    ∧ (∀ y : S256x128.Idx, (y 1).val < n → X15 y = pVr (St m (y 1).val) (y 1).val (B1 m hO (y 1).val) (P14 m hO) (y 0).val (y 1).val)
    ∧ ∀ y : S12x8x7168.Idx, X19 y = if (y 0).val < n then pVc (St m (y 0).val) (y 0).val (B1 m hO (y 0).val) (P19 m hO) (y 1).val (y 2).val else P19 m hO y

/-- The new weights of a point. -/
def R6 (t : Fin (cfgM m hO).N) (X : Vec Ideal S1x256x7168 .bf16) : Prop :=
  ∀ y : S1x256x7168.Idx, X y = B0 m hO t.val y + pDw (St m t.val) t.val (B0 m hO t.val) (B1 m hO t.val) (B4 m hO t.val) (B5 m hO t.val) (P14 m hO) (P19 m hO) (y 1).val (y 2).val

/-- The weight change of a point. -/
def R7 (t : Fin (cfgM m hO).N) (X : Vec Ideal S1x256x7168 .bf16) : Prop :=
  ∀ y : S1x256x7168.Idx, X y = pDw (St m t.val) t.val (B0 m hO t.val) (B1 m hO t.val) (B4 m hO t.val) (B5 m hO t.val) (P14 m hO) (P19 m hO) (y 1).val (y 2).val

/-- The new row statistics, written by the last point. -/
def R8 (t : Fin (cfgM m hO).N) (X : Vec Ideal S12x256 .f32) : Prop :=
  t.val = 11 → ∀ y : S12x256.Idx, X y = pVr (St m (y 0).val) (y 0).val (B1 m hO (y 0).val) (P14 m hO) (y 1).val (y 0).val

/-- The new column statistics, written by the last point. -/
def R9 (t : Fin (cfgM m hO).N) (X : Vec Ideal S12x7168 .f32) : Prop :=
  t.val = 11 → ∀ y : S12x7168.Idx, X y = pVc (St m (y 0).val) (y 0).val (B1 m hO (y 0).val) (P19 m hO) 0 (y 1).val

/-- The new codes of a point. -/
def R10 (t : Fin (cfgM m hO).N) (X : Vec Ideal S1x256x7168 .fp8e4m3) : Prop :=
  ∀ y : S1x256x7168.Idx, X y = pCode (St m t.val) t.val (B1 m hO t.val) (B4 m hO t.val) (B5 m hO t.val) (P14 m hO) (P19 m hO) (y 1).val (y 2).val

/-- The new scales of a point. -/
def R11 (t : Fin (cfgM m hO).N) (X : Vec Ideal S1x256x56 .f32) : Prop :=
  ∀ y : S1x256x56.Idx, X y = Ideal.exp2 (pExp (St m t.val) t.val (B1 m hO t.val) (B4 m hO t.val) (B5 m hO t.val) (P14 m hO) (P19 m hO) (y 1).val (y 2).val)

/-- A masked choice in another lane. -/
theorem sel_other {α : Type} (a b : ℕ) (ha : a < 128) (hb : b < 128) (h : a ≠ b) (u v : α) :
    Scalar.select (IntOp.cmpi .eq (BitVec.ofNat 32 a) (BitVec.ofNat 32 b)) u v = v := by
  have hne : (BitVec.ofNat 32 a == BitVec.ofNat 32 b) = false := by
    simp [BitVec.toNat_eq]
    omega
  simp [Scalar.select, IntOp.cmpi, hne]

theorem step_first (t : Fin (cfgM m hO).N) (ht : t.val = 0) : Step m (Inv m hO) hO (R6 m hO) (R7 m hO) (R8 m hO) (R9 m hO) (R10 m hO) (R11 m hO) 0 t := by
  intro f6 f7 f8 f9 f10 f11 fs0 fs1 fs2 fs3 fs4 fs5 fs6 fs7 fs8 _
  obtain rfl : t = pt m hO 0 (by decide) := Fin.ext ht
  have hi : (grid0.coords (gp 0 (by decide)) 0).val = 0 := coord_val _
  refine runToFirst' _ _ _ _ _ _ _ _ _ _ _ _ _ _ _ _ _ _ _ _ _ _ _ _ _ _ _ _ _ _ _ _ _ _ _ _ _ _ _ _ _ _ _ _ ((hcondFirst _).mpr rfl) (fun h => absurd ((hcondCol _).mp h) (show ¬ (0 = 11) by decide)) (fun h => absurd ((hcondRow _).mp h) (show ¬ (0 = 11) by decide)) _ _ _ _ _ _ _ _ _ _ _ _ _ _ _ _ _ _ _ _ _ _ _ ?_
  intro d8 d9 d10 d11 d12 d13 d14 d15 d19 h8 h9 h12 h13 h14 h15 h19
  change ∀ y, _ = _ + pDw _ (grid0.coords (gp 0 _) 0).val _ _ _ _ _ _ _ _ at h8
  change ∀ y, _ = pDw _ (grid0.coords (gp 0 _) 0).val _ _ _ _ _ _ _ _ at h9
  change ∀ y, _ = pCode _ (grid0.coords (gp 0 _) 0).val _ _ _ _ _ _ _ at h12
  change ∀ y, _ = Ideal.exp2 (pExp _ (grid0.coords (gp 0 _) 0).val _ _ _ _ _ _ _) at h13
  change ∀ y, _ = (grid0.coords (gp 0 _) 0).val → _ = pVr _ (grid0.coords (gp 0 _) 0).val _ _ _ _ at h15
  change ∀ y, _ = if _ = (grid0.coords (gp 0 _) 0).val then pVc _ (grid0.coords (gp 0 _) 0).val _ _ _ _ else _ at h19
  rw [hi] at h8 h9 h12 h13 h15 h19
  refine ⟨h8, h9, fun h => absurd h (show ¬ (0 = 11) by decide), fun h => absurd h (show ¬ (0 = 11) by decide), h12, h13, fun _ => ⟨h14, ?_, ?_⟩⟩
  · intro y hy
    have hy' : (y 1).val < 1 := hy
    have e : (y 1).val = 0 := by omega
    have := h15 y e
    rw [e] at this ⊢
    exact this
  · intro y
    have := h19 y
    show d19 y = if (y 0).val < 0 + 1 then _ else _
    by_cases e : (y 0).val = 0
    · rw [if_pos e] at this
      rw [if_pos (show (y 0).val < 0 + 1 by omega), e]
      exact this
    · rw [if_neg e] at this
      rw [if_neg (show ¬ (y 0).val < 0 + 1 by omega)]
      exact this

section Later
variable (t : Fin (cfgM m hO).N) (ht0 : t.val ≠ 0) (c : Dev nD)
  (X14 X15 : Vec Ideal S256x128 .f32) (X19 : Vec Ideal S12x8x7168 .f32) (hI : Inv m hO t.val X14 X15 X19)
include ht0 hI

/-- At a later point the buffer of column statistics still holds the old ones in the point's own batch. -/
theorem inv_own (y : S12x8x7168.Idx) (h : (y 0).val = t.val) : X19 y = P19 m hO y := by
  have := (hI (by omega)).2.2 y
  rw [this, if_neg (by omega)]

/-- The invariant after a later point. -/
theorem inv_step (ht : t.val < 12) (d14 d15 : Vec Ideal S256x128 .f32) (d19 : Vec Ideal S12x8x7168 .f32) (h14 : d14 = X14)
    (h15 : ∀ y : S256x128.Idx, d15 y = Scalar.select (IntOp.cmpi .eq (BitVec.ofNat 32 (y 1).val) (BitVec.ofNat 32 t.val)) (pVr (St m t.val) t.val (B1 m hO t.val) X14 (y 0).val (y 1).val) (X15 y))
    (h19 : ∀ y : S12x8x7168.Idx, d19 y = if (y 0).val = t.val then pVc (St m t.val) t.val (B1 m hO t.val) X19 (y 1).val (y 2).val else X19 y) :
    Inv m hO (t.val + 1) d14 d15 d19 := by
  obtain ⟨i14, i15, i19⟩ := hI (by omega)
  refine fun _ => ⟨h14.trans i14, ?_, ?_⟩
  · intro y hy
    rw [h15 y]
    by_cases e : (y 1).val = t.val
    · rw [sel_same _ _ e, i14, e]
    · have h1 : (y 1).val < 128 := (y 1).isLt
      rw [sel_other _ _ h1 (by omega) e]
      exact i15 y (by omega)
  · intro y
    rw [h19 y]
    by_cases e : (y 0).val = t.val
    · rw [if_pos e, if_pos (by omega), e, pVc_congr _ _ _ _ _ (inv_own m hO t ht0 X14 X15 X19 hI)]
    · rw [if_neg e, i19 y]
      by_cases e' : (y 0).val < t.val
      · rw [if_pos e', if_pos (by omega)]
      · rw [if_neg e', if_neg (by omega)]
end Later

theorem step_mid (t : Fin (cfgM m hO).N) (ht0 : t.val ≠ 0) (ht : t.val ≠ 11) : Step m (Inv m hO) hO (R6 m hO) (R7 m hO) (R8 m hO) (R9 m hO) (R10 m hO) (R11 m hO) 0 t := by
  intro f6 f7 f8 f9 f10 f11 fs0 fs1 fs2 fs3 fs4 fs5 fs6 fs7 fs8 hI
  have hlt : t.val < 12 := t.isLt.trans_eq N_0
  have hi : (grid0.coords t 0).val = t.val := by rw [coord_val]; omega
  have eS : stepAt 0 (grid0.coords t) (tbl m 0) = St m t.val := by unfold St; rw [dif_pos hlt]; rfl
  have e0 : (iblk m hO 0 0 t : S1x256x7168.Idx → EReal) = B0 m hO t.val := by exact (at_point m hO (blk0 m hO) _ t hlt).symm
  have e1 : (iblk m hO 0 1 t : S1x256x7168.Idx → EReal) = B1 m hO t.val := by exact (at_point m hO (blk1 m hO) _ t hlt).symm
  have e4 : (iblk m hO 0 4 t : S1x256x7168.Idx → EReal) = B4 m hO t.val := by exact (at_point m hO (blk4 m hO) _ t hlt).symm
  have e5 : (iblk m hO 0 5 t : S1x256x56.Idx → EReal) = B5 m hO t.val := by exact (at_point m hO (blk5 m hO) _ t hlt).symm
  have hown := inv_own m hO t ht0 _ _ _ hI
  have e14 := (hI (by omega)).1
  refine runToMid _ _ _ _ _ _ _ _ _ _ _ _ _ _ _ _ _ _ _ _ _ _ _ _ _ _ _ _ _ _ _ _ _ _ _ _ _ _ _ _ _ _ _ _ (fun h => ht0 ((hcondFirst _).mp h)) (fun h => ht ((hcondCol _).mp h)) (fun h => ht ((hcondRow _).mp h)) _ _ _ _ _ _ _ _ _ _ _ _ _ _ _ _ _ _ _ _ _ _ _ ?_
  intro d8 d9 d10 d11 d12 d13 d14 d15 d19 h8 h9 h12 h13 h14 h15 h19
  rw [hi, eS, e1] at h15 h19
  have hN := inv_step m hO t ht0 _ _ _ hI hlt d14 d15 d19 h14 h15 h19
  rw [hi, eS, e0, e1, e4, e5, e14, pDw_congr _ _ _ _ _ _ _ _ _ hown] at h8 h9
  rw [hi, eS, e1, e4, e5, e14, pCode_congr _ _ _ _ _ _ _ _ hown] at h12
  rw [hi, eS, e1, e4, e5, e14, pExp_congr _ _ _ _ _ _ _ _ hown] at h13
  exact ⟨h8, h9, fun h => absurd h ht, fun h => absurd h ht, h12, h13, hN⟩

theorem step_last (t : Fin (cfgM m hO).N) (ht0 : t.val ≠ 0) (ht : t.val = 11) : Step m (Inv m hO) hO (R6 m hO) (R7 m hO) (R8 m hO) (R9 m hO) (R10 m hO) (R11 m hO) 0 t := by
  intro f6 f7 f8 f9 f10 f11 fs0 fs1 fs2 fs3 fs4 fs5 fs6 fs7 fs8 hI
  have hlt : t.val < 12 := t.isLt.trans_eq N_0
  have hi : (grid0.coords t 0).val = t.val := by rw [coord_val]; omega
  have eS : stepAt 0 (grid0.coords t) (tbl m 0) = St m t.val := by unfold St; rw [dif_pos hlt]; rfl
  have e0 : (iblk m hO 0 0 t : S1x256x7168.Idx → EReal) = B0 m hO t.val := by exact (at_point m hO (blk0 m hO) _ t hlt).symm
  have e1 : (iblk m hO 0 1 t : S1x256x7168.Idx → EReal) = B1 m hO t.val := by exact (at_point m hO (blk1 m hO) _ t hlt).symm
  have e4 : (iblk m hO 0 4 t : S1x256x7168.Idx → EReal) = B4 m hO t.val := by exact (at_point m hO (blk4 m hO) _ t hlt).symm
  have e5 : (iblk m hO 0 5 t : S1x256x56.Idx → EReal) = B5 m hO t.val := by exact (at_point m hO (blk5 m hO) _ t hlt).symm
  have hown := inv_own m hO t ht0 _ _ _ hI
  have e14 := (hI (by omega)).1
  refine runToLast _ _ _ _ _ _ _ _ _ _ _ _ _ _ _ _ _ _ _ _ _ _ _ _ _ _ _ _ _ _ _ _ _ _ _ _ _ _ _ _ _ _ _ _ (fun h => ht0 ((hcondFirst _).mp h)) ((hcondCol _).mpr ht) ((hcondRow _).mpr ht) _ _ _ _ _ _ _ _ _ _ _ _ _ _ _ _ _ _ _ _ _ _ _ ?_
  intro d8 d9 d10 d11 d12 d13 d14 d15 d19 h8 h9 h12 h13 h14 h15 h19 h10 h11
  rw [hi, eS, e1] at h15 h19
  have hN := inv_step m hO t ht0 _ _ _ hI hlt d14 d15 d19 h14 h15 h19
  rw [hi, eS, e0, e1, e4, e5, e14, pDw_congr _ _ _ _ _ _ _ _ _ hown] at h8 h9
  rw [hi, eS, e1, e4, e5, e14, pCode_congr _ _ _ _ _ _ _ _ hown] at h12
  rw [hi, eS, e1, e4, e5, e14, pExp_congr _ _ _ _ _ _ _ _ hown] at h13
  refine ⟨h8, h9, fun _ y => ?_, fun _ y => ?_, h12, h13, hN⟩
  · have hy : (y 0).val < 12 := (y 0).isLt
    rw [h10 y]
    have h := (hN (by omega)).2.1 (ix2 ⟨(y 1).val, (y 1).isLt⟩ ⟨(y 0).val, by omega⟩) (show (y 0).val < t.val + 1 by omega)
    exact (at2_eq d15 (ix2 ⟨(y 1).val, (y 1).isLt⟩ ⟨(y 0).val, by omega⟩)).trans h
  · have hy : (y 0).val < 12 := (y 0).isLt
    rw [h11 y]
    have h := ((hN (by omega)).2.2 (ix3 ⟨(y 0).val, hy⟩ ⟨0, by decide⟩ ⟨(y 1).val, (y 1).isLt⟩)).trans (if_pos (show (y 0).val < t.val + 1 by omega))
    exact (at3_eq d19 (ix3 ⟨(y 0).val, hy⟩ ⟨0, by decide⟩ ⟨(y 1).val, (y 1).isLt⟩)).trans h

theorem step_all (c : Dev nD) (t : Fin (cfgM m hO).N) : Step m (Inv m hO) hO (R6 m hO) (R7 m hO) (R8 m hO) (R9 m hO) (R10 m hO) (R11 m hO) c t := by
  obtain rfl : c = 0 := Subsingleton.elim _ _
  by_cases h0 : t.val = 0
  · exact step_first m hO t h0
  · by_cases h11 : t.val = 11
    · exact step_last m hO t h0 h11
    · exact step_mid m hO t h0 h11

end Cert.Val
end
-- ==== Proof.KernelIdealValue.Out.lean ====
/- The arrays that the kernel's whole run leaves in its six results. -/
module

public import proofs.«01_k».proof.Proof.KernelIdealValue.Steps
@[expose] public section

set_option maxRecDepth 16384
set_option maxHeartbeats 1000000

noncomputable section

namespace Cert.Val

open Idealize.ShloMosaic Idealize.ShloMosaic.TcCoe Idealize.ShloMosaic.Tactic
open Idealize.SL Idealize.SL.RA Idealize.SL.BI Idealize.SL.BI.BIBase Idealize.ShloMosaic.Pipeline
open Cert.KernelIdeal Cert.KernelIdeal.Gen Cert.KernelIdeal.Body

variable (m : (l : Loc nD τ sig) → Buf (Elt Ideal) l) (ρ : Dev nD → PrngReg)

/-- The weight change, as one array. -/
def O7 (hO : Ok m) : S12x256x7168.Idx → EReal := fun y =>
  pDw (St m (y 0).val) (y 0).val (B0 m hO (y 0).val) (B1 m hO (y 0).val) (B4 m hO (y 0).val) (B5 m hO (y 0).val) (P14 m hO) (P19 m hO) (y 1).val (y 2).val

/-- The new weights, as one array. -/
def O6 (hO : Ok m) : S12x256x7168.Idx → EReal := fun y => at3 (B0 m hO (y 0).val) 0 (y 1).val (y 2).val + O7 m hO y

/-- The new row statistics, as one array. -/
def O8 (hO : Ok m) : S12x256.Idx → EReal := fun y => pVr (St m (y 0).val) (y 0).val (B1 m hO (y 0).val) (P14 m hO) (y 1).val (y 0).val

/-- The new column statistics, as one array. -/
def O9 (hO : Ok m) : S12x7168.Idx → EReal := fun y => pVc (St m (y 0).val) (y 0).val (B1 m hO (y 0).val) (P19 m hO) 0 (y 1).val

/-- The new codes, as one array. -/
def O10 (hO : Ok m) : S12x256x7168.Idx → EReal := fun y =>
  pCode (St m (y 0).val) (y 0).val (B1 m hO (y 0).val) (B4 m hO (y 0).val) (B5 m hO (y 0).val) (P14 m hO) (P19 m hO) (y 1).val (y 2).val

/-- The new scales, as one array. -/
def O11 (hO : Ok m) : S12x256x56.Idx → EReal := fun y =>
  Ideal.exp2 (pExp (St m (y 0).val) (y 0).val (B1 m hO (y 0).val) (B4 m hO (y 0).val) (B5 m hO (y 0).val) (P14 m hO) (P19 m hO) (y 1).val (y 2).val)

theorem at3_val {n0 n1 n2 a r c : ℕ} (X : (⟨3, ![n0, n1, n2]⟩ : Shape).Idx → EReal) (z : (⟨3, ![n0, n1, n2]⟩ : Shape).Idx)
    (h0 : (z 0).val = a) (h1 : (z 1).val = r) (h2 : (z 2).val = c) : X z = at3 X a r c := by
  subst h0 h1 h2
  exact (at3_eq X z).symm

/-- Some launch memory: the windows' schedule does not depend on it. -/
def m0 : (l : Loc nD τ sig) → Buf (Elt Ideal) l := fun _ _ => Classical.arbitrary _

/-- The blocks of result window 6 cover its array. -/
theorem covers6 (hO : Ok m) : ((cfgM m hO).win 6).Covers := (by decide +kernel : ((cfgM m0 trivial).win 6).Covers)

/-- The blocks of result window 7 cover its array. -/
theorem covers7 (hO : Ok m) : ((cfgM m hO).win 7).Covers := (by decide +kernel : ((cfgM m0 trivial).win 7).Covers)

/-- The blocks of result window 8 cover its array. -/
theorem covers8 (hO : Ok m) : ((cfgM m hO).win 8).Covers := (by decide +kernel : ((cfgM m0 trivial).win 8).Covers)

/-- The blocks of result window 9 cover its array. -/
theorem covers9 (hO : Ok m) : ((cfgM m hO).win 9).Covers := (by decide +kernel : ((cfgM m0 trivial).win 9).Covers)

/-- The blocks of result window 10 cover its array. -/
theorem covers10 (hO : Ok m) : ((cfgM m hO).win 10).Covers := (by decide +kernel : ((cfgM m0 trivial).win 10).Covers)

/-- The blocks of result window 11 cover its array. -/
theorem covers11 (hO : Ok m) : ((cfgM m hO).win 11).Covers := (by decide +kernel : ((cfgM m0 trivial).win 11).Covers)

/-- Which block window 0 is at. -/
theorem index0 (hO : Ok m) (t : Fin (cfgM m hO).N) : ((cfgM m hO).win 0).index t = ![t.val, 0, 0] :=
  (by decide +kernel : ∀ t : Fin grid0.N, ((cfgM m0 trivial).win 0).index t = ![t.val, 0, 0]) t

/-- Which block window 1 is at. -/
theorem index1 (hO : Ok m) (t : Fin (cfgM m hO).N) : ((cfgM m hO).win 1).index t = ![t.val, 0, 0] :=
  (by decide +kernel : ∀ t : Fin grid0.N, ((cfgM m0 trivial).win 1).index t = ![t.val, 0, 0]) t

/-- Which block window 2 is at. -/
theorem index2 (hO : Ok m) (t : Fin (cfgM m hO).N) : ((cfgM m hO).win 2).index t = ![0, 0] :=
  (by decide +kernel : ∀ t : Fin grid0.N, ((cfgM m0 trivial).win 2).index t = ![0, 0]) t

/-- Which block window 3 is at. -/
theorem index3 (hO : Ok m) (t : Fin (cfgM m hO).N) : ((cfgM m hO).win 3).index t = ![0, 0] :=
  (by decide +kernel : ∀ t : Fin grid0.N, ((cfgM m0 trivial).win 3).index t = ![0, 0]) t

/-- Which block window 4 is at. -/
theorem index4 (hO : Ok m) (t : Fin (cfgM m hO).N) : ((cfgM m hO).win 4).index t = ![t.val, 0, 0] :=
  (by decide +kernel : ∀ t : Fin grid0.N, ((cfgM m0 trivial).win 4).index t = ![t.val, 0, 0]) t

/-- Which block window 5 is at. -/
theorem index5 (hO : Ok m) (t : Fin (cfgM m hO).N) : ((cfgM m hO).win 5).index t = ![t.val, 0, 0] :=
  (by decide +kernel : ∀ t : Fin grid0.N, ((cfgM m0 trivial).win 5).index t = ![t.val, 0, 0]) t

/-- Which block window 6 is at. -/
theorem index6 (hO : Ok m) (t : Fin (cfgM m hO).N) : ((cfgM m hO).win 6).index t = ![t.val, 0, 0] :=
  (by decide +kernel : ∀ t : Fin grid0.N, ((cfgM m0 trivial).win 6).index t = ![t.val, 0, 0]) t

/-- Which block window 7 is at. -/
theorem index7 (hO : Ok m) (t : Fin (cfgM m hO).N) : ((cfgM m hO).win 7).index t = ![t.val, 0, 0] :=
  (by decide +kernel : ∀ t : Fin grid0.N, ((cfgM m0 trivial).win 7).index t = ![t.val, 0, 0]) t

/-- Which block window 8 is at. -/
theorem index8 (hO : Ok m) (t : Fin (cfgM m hO).N) : ((cfgM m hO).win 8).index t = ![0, 0] :=
  (by decide +kernel : ∀ t : Fin grid0.N, ((cfgM m0 trivial).win 8).index t = ![0, 0]) t

/-- Which block window 9 is at. -/
theorem index9 (hO : Ok m) (t : Fin (cfgM m hO).N) : ((cfgM m hO).win 9).index t = ![0, 0] :=
  (by decide +kernel : ∀ t : Fin grid0.N, ((cfgM m0 trivial).win 9).index t = ![0, 0]) t

/-- Which block window 10 is at. -/
theorem index10 (hO : Ok m) (t : Fin (cfgM m hO).N) : ((cfgM m hO).win 10).index t = ![t.val, 0, 0] :=
  (by decide +kernel : ∀ t : Fin grid0.N, ((cfgM m0 trivial).win 10).index t = ![t.val, 0, 0]) t

/-- Which block window 11 is at. -/
theorem index11 (hO : Ok m) (t : Fin (cfgM m hO).N) : ((cfgM m hO).win 11).index t = ![t.val, 0, 0] :=
  (by decide +kernel : ∀ t : Fin grid0.N, ((cfgM m0 trivial).win 11).index t = ![t.val, 0, 0]) t

/-- Window 8 is written back at the last point only. -/
theorem flush8 (hO : Ok m) (t : Fin (cfgM m hO).N) (h : ((cfgM m hO).win 8).flush t = true) : t.val = 11 :=
  (by decide +kernel : ∀ t : Fin grid0.N, ((cfgM m0 trivial).win 8).flush t = true → t.val = 11) t h

/-- Window 9 is written back at the last point only. -/
theorem flush9 (hO : Ok m) (t : Fin (cfgM m hO).N) (h : ((cfgM m hO).win 9).flush t = true) : t.val = 11 :=
  (by decide +kernel : ∀ t : Fin grid0.N, ((cfgM m0 trivial).win 9).flush t = true → t.val = 11) t h

theorem at6 (hO : Ok m) (t : Fin (cfgM m hO).N) (X : S1x256x7168.Idx → EReal) (h : R6 m hO t X) (y : S1x256x7168.Idx) (z : S12x256x7168.Idx)
    (h0 : (z 0).val = t.val) (h1 : (z 1).val = (y 1).val) (h2 : (z 2).val = (y 2).val) : X y = O6 m hO z := by
  rw [h y]
  simp only [O6, O7, O10, O11, h0, h1, h2]
  have b0 : (y 0).val = 0 := by have : (y 0).val < 1 := (y 0).isLt; omega
  have e := at3_eq (B0 m hO t.val) y
  rw [b0] at e
  rw [e]

/-- The new weights that a run leaves. -/
theorem arr6 (hO : Ok m) (dat : Dat τ (Elt Ideal) Unit ℕ (UR sig nD τ) ℕ (cfgM m hO) (0 : Dev nD))
    (h : ∀ t, ((cfgM m hO).win 6).flush t = true → R6 m hO t (dat.after 6 t)) : dat.arrAt 6 (cfgM m hO).N = O6 m hO := by
  refine dat.arrAt_eq_of_covers 6 _ (covers6 m hO) fun t hf y => ?_
  have ht := h t hf
  blk_simp
  have e : ∀ a, ((((cfgM m hO).win 6).blk t).view.emb y a).val = ((cfgM m hO).win 6).index t a * ((cfgM m hO).win 6).size a + (y a).val := fun a => Window.rect_emb_val _ _ _ _
  rw [index6] at e
  have b0 : (y (0 : Fin 3)).val < 1 := (y (0 : Fin 3)).isLt
  have e0 := (e (0 : Fin 3)).trans (show t.val * 1 + (y (0 : Fin 3)).val = t.val by omega)
  have e1 := (e (1 : Fin 3)).trans (show 0 * 256 + (y (1 : Fin 3)).val = (y (1 : Fin 3)).val by omega)
  have e2 := (e (2 : Fin 3)).trans (show 0 * 7168 + (y (2 : Fin 3)).val = (y (2 : Fin 3)).val by omega)
  exact at6 m hO t (dat.after 6 t) ht y _ e0 e1 e2

theorem at7 (hO : Ok m) (t : Fin (cfgM m hO).N) (X : S1x256x7168.Idx → EReal) (h : R7 m hO t X) (y : S1x256x7168.Idx) (z : S12x256x7168.Idx)
    (h0 : (z 0).val = t.val) (h1 : (z 1).val = (y 1).val) (h2 : (z 2).val = (y 2).val) : X y = O7 m hO z := by
  rw [h y]
  simp only [O6, O7, O10, O11, h0, h1, h2]

/-- The weight change that a run leaves. -/
theorem arr7 (hO : Ok m) (dat : Dat τ (Elt Ideal) Unit ℕ (UR sig nD τ) ℕ (cfgM m hO) (0 : Dev nD))
    (h : ∀ t, ((cfgM m hO).win 7).flush t = true → R7 m hO t (dat.after 7 t)) : dat.arrAt 7 (cfgM m hO).N = O7 m hO := by
  refine dat.arrAt_eq_of_covers 7 _ (covers7 m hO) fun t hf y => ?_
  have ht := h t hf
  blk_simp
  have e : ∀ a, ((((cfgM m hO).win 7).blk t).view.emb y a).val = ((cfgM m hO).win 7).index t a * ((cfgM m hO).win 7).size a + (y a).val := fun a => Window.rect_emb_val _ _ _ _
  rw [index7] at e
  have b0 : (y (0 : Fin 3)).val < 1 := (y (0 : Fin 3)).isLt
  have e0 := (e (0 : Fin 3)).trans (show t.val * 1 + (y (0 : Fin 3)).val = t.val by omega)
  have e1 := (e (1 : Fin 3)).trans (show 0 * 256 + (y (1 : Fin 3)).val = (y (1 : Fin 3)).val by omega)
  have e2 := (e (2 : Fin 3)).trans (show 0 * 7168 + (y (2 : Fin 3)).val = (y (2 : Fin 3)).val by omega)
  exact at7 m hO t (dat.after 7 t) ht y _ e0 e1 e2

theorem at8 (hO : Ok m) (t : Fin (cfgM m hO).N) (X : S12x256.Idx → EReal) (h : R8 m hO t X) (ht : t.val = 11) (y : S12x256.Idx) (z : S12x256.Idx)
    (h0 : (z 0).val = (y 0).val) (h1 : (z 1).val = (y 1).val) : X y = O8 m hO z := by
  rw [h ht y]
  simp only [O8, O9, h0, h1]

/-- The new row statistics that a run leaves. -/
theorem arr8 (hO : Ok m) (dat : Dat τ (Elt Ideal) Unit ℕ (UR sig nD τ) ℕ (cfgM m hO) (0 : Dev nD))
    (h : ∀ t, ((cfgM m hO).win 8).flush t = true → R8 m hO t (dat.after 8 t)) : dat.arrAt 8 (cfgM m hO).N = O8 m hO := by
  refine dat.arrAt_eq_of_covers 8 _ (covers8 m hO) fun t hf y => ?_
  have ht := h t hf
  blk_simp
  have e : ∀ a, ((((cfgM m hO).win 8).blk t).view.emb y a).val = ((cfgM m hO).win 8).index t a * ((cfgM m hO).win 8).size a + (y a).val := fun a => Window.rect_emb_val _ _ _ _
  rw [index8] at e
  have e0 := (e (0 : Fin 2)).trans (show 0 * 12 + (y (0 : Fin 2)).val = (y (0 : Fin 2)).val by omega)
  have e1 := (e (1 : Fin 2)).trans (show 0 * 256 + (y (1 : Fin 2)).val = (y (1 : Fin 2)).val by omega)
  exact at8 m hO t (dat.after 8 t) ht (flush8 m hO t hf) y _ e0 e1

theorem at9 (hO : Ok m) (t : Fin (cfgM m hO).N) (X : S12x7168.Idx → EReal) (h : R9 m hO t X) (ht : t.val = 11) (y : S12x7168.Idx) (z : S12x7168.Idx)
    (h0 : (z 0).val = (y 0).val) (h1 : (z 1).val = (y 1).val) : X y = O9 m hO z := by
  rw [h ht y]
  simp only [O8, O9, h0, h1]

/-- The new column statistics that a run leaves. -/
theorem arr9 (hO : Ok m) (dat : Dat τ (Elt Ideal) Unit ℕ (UR sig nD τ) ℕ (cfgM m hO) (0 : Dev nD))
    (h : ∀ t, ((cfgM m hO).win 9).flush t = true → R9 m hO t (dat.after 9 t)) : dat.arrAt 9 (cfgM m hO).N = O9 m hO := by
  refine dat.arrAt_eq_of_covers 9 _ (covers9 m hO) fun t hf y => ?_
  have ht := h t hf
  blk_simp
  have e : ∀ a, ((((cfgM m hO).win 9).blk t).view.emb y a).val = ((cfgM m hO).win 9).index t a * ((cfgM m hO).win 9).size a + (y a).val := fun a => Window.rect_emb_val _ _ _ _
  rw [index9] at e
  have e0 := (e (0 : Fin 2)).trans (show 0 * 12 + (y (0 : Fin 2)).val = (y (0 : Fin 2)).val by omega)
  have e1 := (e (1 : Fin 2)).trans (show 0 * 7168 + (y (1 : Fin 2)).val = (y (1 : Fin 2)).val by omega)
  exact at9 m hO t (dat.after 9 t) ht (flush9 m hO t hf) y _ e0 e1

theorem at10 (hO : Ok m) (t : Fin (cfgM m hO).N) (X : S1x256x7168.Idx → EReal) (h : R10 m hO t X) (y : S1x256x7168.Idx) (z : S12x256x7168.Idx)
    (h0 : (z 0).val = t.val) (h1 : (z 1).val = (y 1).val) (h2 : (z 2).val = (y 2).val) : X y = O10 m hO z := by
  rw [h y]
  simp only [O6, O7, O10, O11, h0, h1, h2]

/-- The new codes that a run leaves. -/
theorem arr10 (hO : Ok m) (dat : Dat τ (Elt Ideal) Unit ℕ (UR sig nD τ) ℕ (cfgM m hO) (0 : Dev nD))
    (h : ∀ t, ((cfgM m hO).win 10).flush t = true → R10 m hO t (dat.after 10 t)) : dat.arrAt 10 (cfgM m hO).N = O10 m hO := by
  refine dat.arrAt_eq_of_covers 10 _ (covers10 m hO) fun t hf y => ?_
  have ht := h t hf
  blk_simp
  have e : ∀ a, ((((cfgM m hO).win 10).blk t).view.emb y a).val = ((cfgM m hO).win 10).index t a * ((cfgM m hO).win 10).size a + (y a).val := fun a => Window.rect_emb_val _ _ _ _
  rw [index10] at e
  have b0 : (y (0 : Fin 3)).val < 1 := (y (0 : Fin 3)).isLt
  have e0 := (e (0 : Fin 3)).trans (show t.val * 1 + (y (0 : Fin 3)).val = t.val by omega)
  have e1 := (e (1 : Fin 3)).trans (show 0 * 256 + (y (1 : Fin 3)).val = (y (1 : Fin 3)).val by omega)
  have e2 := (e (2 : Fin 3)).trans (show 0 * 7168 + (y (2 : Fin 3)).val = (y (2 : Fin 3)).val by omega)
  exact at10 m hO t (dat.after 10 t) ht y _ e0 e1 e2

theorem at11 (hO : Ok m) (t : Fin (cfgM m hO).N) (X : S1x256x56.Idx → EReal) (h : R11 m hO t X) (y : S1x256x56.Idx) (z : S12x256x56.Idx)
    (h0 : (z 0).val = t.val) (h1 : (z 1).val = (y 1).val) (h2 : (z 2).val = (y 2).val) : X y = O11 m hO z := by
  rw [h y]
  simp only [O6, O7, O10, O11, h0, h1, h2]

/-- The new scales that a run leaves. -/
theorem arr11 (hO : Ok m) (dat : Dat τ (Elt Ideal) Unit ℕ (UR sig nD τ) ℕ (cfgM m hO) (0 : Dev nD))
    (h : ∀ t, ((cfgM m hO).win 11).flush t = true → R11 m hO t (dat.after 11 t)) : dat.arrAt 11 (cfgM m hO).N = O11 m hO := by
  refine dat.arrAt_eq_of_covers 11 _ (covers11 m hO) fun t hf y => ?_
  have ht := h t hf
  blk_simp
  have e : ∀ a, ((((cfgM m hO).win 11).blk t).view.emb y a).val = ((cfgM m hO).win 11).index t a * ((cfgM m hO).win 11).size a + (y a).val := fun a => Window.rect_emb_val _ _ _ _
  rw [index11] at e
  have b0 : (y (0 : Fin 3)).val < 1 := (y (0 : Fin 3)).isLt
  have e0 := (e (0 : Fin 3)).trans (show t.val * 1 + (y (0 : Fin 3)).val = t.val by omega)
  have e1 := (e (1 : Fin 3)).trans (show 0 * 256 + (y (1 : Fin 3)).val = (y (1 : Fin 3)).val by omega)
  have e2 := (e (2 : Fin 3)).trans (show 0 * 56 + (y (2 : Fin 3)).val = (y (2 : Fin 3)).val by omega)
  exact at11 m hO t (dat.after 11 t) ht y _ e0 e1 e2

/-- Argument 0, as the run finds it. -/
def W0 : S12x256x7168.Idx → EReal := m ((((0 : Dev nD)).tc : Thread nD τ).loc main_arg0)

theorem read0 (hO : Ok m) (t : Fin (cfgM m hO).N) (y : S1x256x7168.Idx) : iblk m hO 0 0 t y = at3 (W0 m) t.val (y 1).val (y 2).val := by
  have e : ∀ a, ((((cfgM m hO).win 0).blk t).view.emb y a).val = ((cfgM m hO).win 0).index t a * ((cfgM m hO).win 0).size a + (y a).val := fun a => Window.rect_emb_val _ _ _ _
  rw [index0] at e
  have b0 : (y (0 : Fin 3)).val < 1 := (y (0 : Fin 3)).isLt
  have e0 := (e (0 : Fin 3)).trans (show t.val * 1 + (y (0 : Fin 3)).val = t.val by omega)
  have e1 := (e (1 : Fin 3)).trans (show 0 * 256 + (y (1 : Fin 3)).val = (y (1 : Fin 3)).val by omega)
  have e2 := (e (2 : Fin 3)).trans (show 0 * 7168 + (y (2 : Fin 3)).val = (y (2 : Fin 3)).val by omega)
  show W0 m ((((cfgM m hO).win 0).blk t).view.emb y) = _
  exact at3_val (W0 m) _ e0 e1 e2

/-- A batch's block of argument 0. -/
theorem B0_eq (hO : Ok m) (a : ℕ) (ha : a < 12) : B0 m hO a = fun y => at3 (W0 m) a (y 1).val (y 2).val := by
  unfold B0
  rw [dif_pos ha]
  exact funext fun y => read0 m hO (pt m hO a ha) y

/-- Argument 1, as the run finds it. -/
def W1 : S12x256x7168.Idx → EReal := m ((((0 : Dev nD)).tc : Thread nD τ).loc main_arg1)

theorem read1 (hO : Ok m) (t : Fin (cfgM m hO).N) (y : S1x256x7168.Idx) : iblk m hO 0 1 t y = at3 (W1 m) t.val (y 1).val (y 2).val := by
  have e : ∀ a, ((((cfgM m hO).win 1).blk t).view.emb y a).val = ((cfgM m hO).win 1).index t a * ((cfgM m hO).win 1).size a + (y a).val := fun a => Window.rect_emb_val _ _ _ _
  rw [index1] at e
  have b0 : (y (0 : Fin 3)).val < 1 := (y (0 : Fin 3)).isLt
  have e0 := (e (0 : Fin 3)).trans (show t.val * 1 + (y (0 : Fin 3)).val = t.val by omega)
  have e1 := (e (1 : Fin 3)).trans (show 0 * 256 + (y (1 : Fin 3)).val = (y (1 : Fin 3)).val by omega)
  have e2 := (e (2 : Fin 3)).trans (show 0 * 7168 + (y (2 : Fin 3)).val = (y (2 : Fin 3)).val by omega)
  show W1 m ((((cfgM m hO).win 1).blk t).view.emb y) = _
  exact at3_val (W1 m) _ e0 e1 e2

/-- A batch's block of argument 1. -/
theorem B1_eq (hO : Ok m) (a : ℕ) (ha : a < 12) : B1 m hO a = fun y => at3 (W1 m) a (y 1).val (y 2).val := by
  unfold B1
  rw [dif_pos ha]
  exact funext fun y => read1 m hO (pt m hO a ha) y

/-- Argument 2, as the run finds it. -/
def W2 : S12x256.Idx → EReal := m ((((0 : Dev nD)).tc : Thread nD τ).loc main_arg2)

theorem read2 (hO : Ok m) (t : Fin (cfgM m hO).N) (y : S12x256.Idx) : iblk m hO 0 2 t y = W2 m y := by
  have e : ∀ a, ((((cfgM m hO).win 2).blk t).view.emb y a).val = ((cfgM m hO).win 2).index t a * ((cfgM m hO).win 2).size a + (y a).val := fun a => Window.rect_emb_val _ _ _ _
  rw [index2] at e
  have e0 := (e (0 : Fin 2)).trans (show 0 * 12 + (y (0 : Fin 2)).val = (y (0 : Fin 2)).val by omega)
  have e1 := (e (1 : Fin 2)).trans (show 0 * 256 + (y (1 : Fin 2)).val = (y (1 : Fin 2)).val by omega)
  show W2 m ((((cfgM m hO).win 2).blk t).view.emb y) = _
  refine congrArg (W2 m) (funext fun a => ?_)
  match a with
  | ⟨0, _⟩ => exact Fin.ext e0
  | ⟨1, _⟩ => exact Fin.ext e1

/-- The old statistics are argument 2. -/
theorem A2_eq (hO : Ok m) : A2 m hO = W2 m := funext fun y => read2 m hO _ y

/-- Argument 3, as the run finds it. -/
def W3 : S12x7168.Idx → EReal := m ((((0 : Dev nD)).tc : Thread nD τ).loc main_arg3)

theorem read3 (hO : Ok m) (t : Fin (cfgM m hO).N) (y : S12x7168.Idx) : iblk m hO 0 3 t y = W3 m y := by
  have e : ∀ a, ((((cfgM m hO).win 3).blk t).view.emb y a).val = ((cfgM m hO).win 3).index t a * ((cfgM m hO).win 3).size a + (y a).val := fun a => Window.rect_emb_val _ _ _ _
  rw [index3] at e
  have e0 := (e (0 : Fin 2)).trans (show 0 * 12 + (y (0 : Fin 2)).val = (y (0 : Fin 2)).val by omega)
  have e1 := (e (1 : Fin 2)).trans (show 0 * 7168 + (y (1 : Fin 2)).val = (y (1 : Fin 2)).val by omega)
  show W3 m ((((cfgM m hO).win 3).blk t).view.emb y) = _
  refine congrArg (W3 m) (funext fun a => ?_)
  match a with
  | ⟨0, _⟩ => exact Fin.ext e0
  | ⟨1, _⟩ => exact Fin.ext e1

/-- The old statistics are argument 3. -/
theorem A3_eq (hO : Ok m) : A3 m hO = W3 m := funext fun y => read3 m hO _ y

/-- Argument 4, as the run finds it. -/
def W4 : S12x256x7168.Idx → EReal := m ((((0 : Dev nD)).tc : Thread nD τ).loc main_arg4)

theorem read4 (hO : Ok m) (t : Fin (cfgM m hO).N) (y : S1x256x7168.Idx) : iblk m hO 0 4 t y = at3 (W4 m) t.val (y 1).val (y 2).val := by
  have e : ∀ a, ((((cfgM m hO).win 4).blk t).view.emb y a).val = ((cfgM m hO).win 4).index t a * ((cfgM m hO).win 4).size a + (y a).val := fun a => Window.rect_emb_val _ _ _ _
  rw [index4] at e
  have b0 : (y (0 : Fin 3)).val < 1 := (y (0 : Fin 3)).isLt
  have e0 := (e (0 : Fin 3)).trans (show t.val * 1 + (y (0 : Fin 3)).val = t.val by omega)
  have e1 := (e (1 : Fin 3)).trans (show 0 * 256 + (y (1 : Fin 3)).val = (y (1 : Fin 3)).val by omega)
  have e2 := (e (2 : Fin 3)).trans (show 0 * 7168 + (y (2 : Fin 3)).val = (y (2 : Fin 3)).val by omega)
  show W4 m ((((cfgM m hO).win 4).blk t).view.emb y) = _
  exact at3_val (W4 m) _ e0 e1 e2

/-- A batch's block of argument 4. -/
theorem B4_eq (hO : Ok m) (a : ℕ) (ha : a < 12) : B4 m hO a = fun y => at3 (W4 m) a (y 1).val (y 2).val := by
  unfold B4
  rw [dif_pos ha]
  exact funext fun y => read4 m hO (pt m hO a ha) y

/-- Argument 5, as the run finds it. -/
def W5 : S12x256x56.Idx → EReal := m ((((0 : Dev nD)).tc : Thread nD τ).loc main_arg5)

theorem read5 (hO : Ok m) (t : Fin (cfgM m hO).N) (y : S1x256x56.Idx) : iblk m hO 0 5 t y = at3 (W5 m) t.val (y 1).val (y 2).val := by
  have e : ∀ a, ((((cfgM m hO).win 5).blk t).view.emb y a).val = ((cfgM m hO).win 5).index t a * ((cfgM m hO).win 5).size a + (y a).val := fun a => Window.rect_emb_val _ _ _ _
  rw [index5] at e
  have b0 : (y (0 : Fin 3)).val < 1 := (y (0 : Fin 3)).isLt
  have e0 := (e (0 : Fin 3)).trans (show t.val * 1 + (y (0 : Fin 3)).val = t.val by omega)
  have e1 := (e (1 : Fin 3)).trans (show 0 * 256 + (y (1 : Fin 3)).val = (y (1 : Fin 3)).val by omega)
  have e2 := (e (2 : Fin 3)).trans (show 0 * 56 + (y (2 : Fin 3)).val = (y (2 : Fin 3)).val by omega)
  show W5 m ((((cfgM m hO).win 5).blk t).view.emb y) = _
  exact at3_val (W5 m) _ e0 e1 e2

/-- A batch's block of argument 5. -/
theorem B5_eq (hO : Ok m) (a : ℕ) (ha : a < 12) : B5 m hO a = fun y => at3 (W5 m) a (y 1).val (y 2).val := by
  unfold B5
  rw [dif_pos ha]
  exact funext fun y => read5 m hO (pt m hO a ha) y

/-- Argument 6, the step counts, as the run finds it. -/
def W6 : S12.Idx → BitVec 32 := m ((((0 : Dev nD)).tc : Thread nD τ).loc main_arg6)

/-- A batch, as an index of the step counts. -/
def ixB (a : ℕ) (ha : a < 12) : S12.Idx := fun k => match k with | ⟨0, _⟩ => ⟨a, ha⟩

/-- A batch's step count. -/
theorem St_eq (a : ℕ) (ha : a < 12) : St m a = (((W6 m (ixB a ha)).toInt : ℝ) : EReal) := by
  unfold St
  rw [dif_pos ha]
  unfold stepAt
  delta runMid.sl.r
  refine congrArg (fun b : BitVec 32 => ((b.toInt : ℝ) : EReal)) ?_
  show W6 m _ = W6 m _
  refine congrArg (W6 m) (funext fun k => ?_)
  match k with
  | ⟨0, _⟩ => exact Fin.ext ((by decide +kernel : ∀ t : Fin grid0.N, k0_off1 (grid0.coords t) (0 : Fin 1) + 1 * 0 = t.val) (gp a ha))

/-- What the kernel's run leaves in its six results; its arguments it leaves as they were. -/
theorem vrun (hO : Ok m) : θ_run defs (onTc (τ := τ) (main (F := Ideal))) ⟨m, fun _ => 0, ρ⟩ (fun r => ∀ c : Dev nD,
      r.2.mem ((c.tc : Thread nD τ).loc main_v0_0) = O6 m hO
      ∧ r.2.mem ((c.tc : Thread nD τ).loc main_v0_1) = O7 m hO
      ∧ r.2.mem ((c.tc : Thread nD τ).loc main_v0_2) = O8 m hO
      ∧ r.2.mem ((c.tc : Thread nD τ).loc main_v0_3) = O9 m hO
      ∧ r.2.mem ((c.tc : Thread nD τ).loc main_v0_4) = O10 m hO
      ∧ r.2.mem ((c.tc : Thread nD τ).loc main_v0_5) = O11 m hO
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (vrun_main m ρ (Inv m hO) hO (R6 m hO) (R7 m hO) (R8 m hO) (R9 m hO) (R10 m hO) (R11 m hO) (step_all m hO) (fun _ _ _ h => absurd h (by decide)))
  obtain rfl : c = 0 := Subsingleton.elim _ _
  obtain ⟨after, hL, hA⟩ := RDat.FramePost.exists_exact h 0
  refine ⟨(hA 6).trans (arr6 m hO _ fun t hf => (vdats m (Inv m hO) hO 0 0).toRRel_leaves rfl (hL 6 t hf)), (hA 7).trans (arr7 m hO _ fun t hf => (vdats m (Inv m hO) hO 0 0).toRRel_leaves rfl (hL 7 t hf)), (hA 8).trans (arr8 m hO _ fun t hf => (vdats m (Inv m hO) hO 0 0).toRRel_leaves rfl (hL 8 t hf)), (hA 9).trans (arr9 m hO _ fun t hf => (vdats m (Inv m hO) hO 0 0).toRRel_leaves rfl (hL 9 t hf)), (hA 10).trans (arr10 m hO _ fun t hf => (vdats m (Inv m hO) hO 0 0).toRRel_leaves rfl (hL 10 t hf)), (hA 11).trans (arr11 m hO _ fun t hf => (vdats m (Inv m hO) hO 0 0).toRRel_leaves rfl (hL 11 t hf)),
    RDat.FramePost.arr_in h 0 0 rfl,
    RDat.FramePost.arr_in h 0 1 rfl,
    RDat.FramePost.arr_in h 0 2 rfl,
    RDat.FramePost.arr_in h 0 3 rfl,
    RDat.FramePost.arr_in h 0 4 rfl,
    RDat.FramePost.arr_in h 0 5 rfl,
    (h 0).2 main_arg6 (by decide : main_arg6 ∈ Pipeline.restRefs sig spec0)⟩

end Cert.Val
-- ==== Proof.KernelIdealValue.RefVal.lean ====
/- The step's arithmetic on one batch, as the reference writes it, over coordinates. -/
module

public import proofs.«01_k».proof.Proof.KernelIdealValue.Common
@[expose] public section

noncomputable section

namespace Cert.Val

open Idealize.ShloMosaic Idealize.ShloMosaic.TcCoe Idealize.ShloMosaic.Tactic

/-- A three-axis array at bounded coordinates. -/
theorem at3_fin {n0 n1 n2 : ℕ} (X : (⟨3, ![n0, n1, n2]⟩ : Shape).Idx → EReal) (a : Fin n0) (r : Fin n1) (c : Fin n2) :
    at3 X a.val r.val c.val = X (ix3 a r c) := by
  unfold at3
  rw [dif_pos ⟨a.isLt, r.isLt, c.isLt⟩]

/-- A matrix at bounded coordinates. -/
theorem at2_fin {n0 n1 : ℕ} (X : (⟨2, ![n0, n1]⟩ : Shape).Idx → EReal) (r : Fin n0) (c : Fin n1) :
    at2 X r.val c.val = X (ix2 r c) := by
  unfold at2
  rw [dif_pos ⟨r.isLt, c.isLt⟩]

variable (t : EReal) (w g m : ℕ → ℕ → EReal) (s : ℕ → ℕ → EReal) (vr vc : ℕ → EReal)

/-- The decay at a step count. -/
def rBeta : EReal := 1 - Ideal.pow t (Ideal.ofBits .f32 3209481421#32)

/-- The new row statistics. -/
def rVr (r : ℕ) : EReal :=
  rBeta t * vr r + (1 - rBeta t) * Ideal.div (∑ d ∈ Finset.range 7168, g r d * g r d) (Ideal.ofBits .f32 1172307968#32)

/-- The new column statistics. -/
def rVc (d : ℕ) : EReal :=
  rBeta t * vc d + (1 - rBeta t) * Ideal.div (∑ r ∈ Finset.range 256, g r d * g r d) (Ideal.ofBits .f32 1132462080#32)

/-- The mean of the new row statistics. -/
def rMean : EReal := Ideal.div (∑ r ∈ Finset.range 256, rVr t g vr r) (Ideal.ofBits .f32 1132462080#32)

/-- The gradient over both statistics. -/
def rU (r d : ℕ) : EReal := g r d * Ideal.rsqrt (Ideal.div (rVr t g vr r) (rMean t g vr)) * Ideal.rsqrt (rVc t g vc d)

/-- The root mean square of a batch. -/
def rRms (x : ℕ → ℕ → EReal) : EReal :=
  Ideal.sqrt (Ideal.div (∑ r ∈ Finset.range 256, ∑ d ∈ Finset.range 7168, x r d * x r d) (Ideal.ofBits .f32 1239416832#32))

/-- The new momentum. -/
def rMom (r d : ℕ) : EReal :=
  Ideal.ofBits .f32 1063675494#32 * (m r d * s r (d / 128))
    + Ideal.ofBits .f32 1036831949#32 * Ideal.div (rU t g vr vc r d) (max 1 (Ideal.div (rRms (rU t g vr vc)) 1))

/-- A block's largest magnitude, scaled. -/
def rTop (x : ℕ → ℕ → EReal) (r c : ℕ) : EReal :=
  Finset.fold max (Ideal.ofBits .f32 4286578688#32) (fun l : Fin 128 => FloatOps.absf (F := Ideal) (φ := .f32) (x r (128 * c + l.val))) Finset.univ
    * Ideal.ofBits .f32 991054117#32

/-- A block's exponent, of its scaled magnitude. -/
def rExp (z : EReal) : EReal :=
  if z = 0 then 0 else Ideal.liftRound Int.floor (Ideal.div (Ideal.log z) (Ideal.log (Ideal.ofBits .f32 1073741824#32))) + 1

/-- The code of an element under its block's exponent. -/
def rCode (x : ℕ → ℕ → EReal) (r d : ℕ) : EReal :=
  min (Ideal.ofBits .f32 1138753536#32) (max (Ideal.ofBits .f32 3286237184#32) (x r d * Ideal.exp2 (0 - rExp (rTop x r (d / 128)))))

/-- The weight change of an element. -/
def rDw (x : ℕ → ℕ → EReal) (r d : ℕ) : EReal :=
  (0 - max (Ideal.ofBits .f32 981668463#32) (rRms w) * min (Ideal.ofBits .f32 1008981770#32) (Ideal.rsqrt t))
    * (rCode x r d * Ideal.exp2 (rExp (rTop x r (d / 128))))

end Cert.Val
-- ==== Proof.KernelIdealValue.Bridge.lean ====
/- The kernel's arithmetic on one batch is the reference's: the sums it takes in another order, the divisions it makes
   into products, the row factor it takes out of the sum of squares. -/
module

public import proofs.«01_k».proof.Proof.KernelIdealValue.Pass
public import proofs.«01_k».proof.Proof.KernelIdealValue.RefVal
@[expose] public section

set_option maxRecDepth 16384
set_option maxHeartbeats 400000

noncomputable section

namespace Cert.Val

open Idealize.ShloMosaic Idealize.ShloMosaic.TcCoe Idealize.ShloMosaic.Tactic
open Cert.KernelIdeal Cert.KernelIdeal.Gen

theorem bits_256 : Ideal.ofBits .f32 1132462080#32 = ((256 : ℝ) : EReal) := by
  simp [Ideal.ofBits, Ideal.ieee, -EReal.coe_mul]; norm_num
theorem bits_7168 : Ideal.ofBits .f32 1172307968#32 = ((7168 : ℝ) : EReal) := by
  simp [Ideal.ofBits, Ideal.ieee, -EReal.coe_mul]; norm_num
theorem bits_SD : Ideal.ofBits .f32 1239416832#32 = ((1835008 : ℝ) : EReal) := by
  simp [Ideal.ofBits, Ideal.ieee, -EReal.coe_mul]; norm_num
theorem bits_inv256 : Ideal.ofBits .f32 0x3B800000#32 = ((1 / 256 : ℝ) : EReal) := by
  simp [Ideal.ofBits, Ideal.ieee, -EReal.coe_mul]; norm_num
theorem bits_one : Ideal.ofBits .f32 1065353216#32 = 1 := by
  simp [Ideal.ofBits, Ideal.ieee, -EReal.coe_mul]; norm_num

theorem div_256 (x : EReal) : Ideal.div x (Ideal.ofBits .f32 1132462080#32) = x * Ideal.ofBits .f32 0x3B800000#32 := by
  rw [bits_256, bits_inv256, Ideal.div_coe (by norm_num)]
theorem div_7168 (x : EReal) : Ideal.div x (Ideal.ofBits .f32 1172307968#32) = x * invD := by
  rw [bits_7168, Ideal.div_coe (by norm_num)]
  rfl
theorem div_SD (x : EReal) : Ideal.div x (Ideal.ofBits .f32 1239416832#32) = x * invSD := by
  rw [bits_SD, Ideal.div_coe (by norm_num)]
  rfl

/-- A square is not negative. -/
theorem sq_nonneg' (a : EReal) : 0 ≤ a * a := by
  rcases le_total 0 a with h | h
  · exact mul_nonneg h h
  · have := mul_nonneg (EReal.neg_nonneg.mpr h) (EReal.neg_nonneg.mpr h)
    rwa [neg_mul_neg] at this

/-- A factor goes into a sum of terms that are not negative. -/
theorem sum_mul_nonneg (s : Finset ℕ) (f : ℕ → EReal) (hf : ∀ i, 0 ≤ f i) (c : EReal) : (∑ i ∈ s, f i) * c = ∑ i ∈ s, f i * c := by
  induction s using Finset.induction_on with
  | empty => simp
  | insert a s ha ih =>
    rw [Finset.sum_insert ha, Finset.sum_insert ha, EReal.right_distrib_of_nonneg (hf a) (Finset.sum_nonneg fun i _ => hf i), ih]

/-- The kernel's order of summing a batch is the reference's. -/
theorem sum_all (F : ℕ → ℕ → EReal) :
    (∑ x : Fin 128, ∑ z : Fin 16, ∑ k ∈ Finset.range 16, ∑ c ∈ Finset.range 56, F (16 * k + z.val) (128 * c + x.val))
      = ∑ r ∈ Finset.range 256, ∑ d ∈ Finset.range 7168, F r d := by
  have h1 : ∀ x : Fin 128, (∑ z : Fin 16, ∑ k ∈ Finset.range 16, ∑ c ∈ Finset.range 56, F (16 * k + z.val) (128 * c + x.val))
      = ∑ r ∈ Finset.range 256, ∑ c ∈ Finset.range 56, F r (128 * c + x.val) := fun x =>
    sum_blocks 16 16 (fun r => ∑ c ∈ Finset.range 56, F r (128 * c + x.val))
  rw [Finset.sum_congr rfl fun x _ => h1 x, Finset.sum_comm]
  exact Finset.sum_congr rfl fun r _ => sum_lanes (F r)

/-- The decay of a count that is at least one: the power is the exponential of the scaled logarithm. -/
theorem beta_eq (n : ℤ) (hn : 1 ≤ n) : betaE (((n : ℤ) : ℝ) : EReal) = rBeta (((n : ℤ) : ℝ) : EReal) := by
  unfold betaE rBeta
  have hp : (0 : ℝ) < ((n : ℤ) : ℝ) := by exact_mod_cast (by omega : 0 < n)
  have hc : Ideal.ofBits .f32 3209481421#32 = ((-(13421773 / 16777216) : ℝ) : EReal) := by
    simp [Ideal.ofBits, Ideal.ieee, -EReal.coe_mul]; norm_num
  generalize (-(13421773 / 16777216) : ℝ) = c at hc
  rw [hc]
  congr 1
  rw [Ideal.log_coe, if_neg (not_le.mpr hp), ← EReal.coe_mul, Ideal.exp_coe, Ideal.pow_coe_coe]
  exact congrArg _ (Real.rpow_def_of_pos hp c).symm

section
variable (t : EReal) (b : ℕ) (X0 X1 X4 : S1x256x7168.Idx → EReal) (X5 : S1x256x56.Idx → EReal)
  (R14 : S256x128.Idx → EReal) (R19 : S12x8x7168.Idx → EReal)
  (w g m s : ℕ → ℕ → EReal) (vr vc : ℕ → EReal)
  (hw : ∀ r d, r < 256 → d < 7168 → at3 X0 0 r d = w r d) (hg : ∀ r d, r < 256 → d < 7168 → at3 X1 0 r d = g r d)
  (hm : ∀ r d, r < 256 → d < 7168 → at3 X4 0 r d = m r d) (hs : ∀ r c, r < 256 → c < 56 → at3 X5 0 r c = s r c)
  (hvr : ∀ r, r < 256 → oldRow R14 b r = vr r) (hvc : ∀ q d, q < 8 → d < 7168 → at3 R19 b q d = vc d) (ht : betaE t = rBeta t)

theorem at2_fun {n0 n1 : ℕ} (f : ℕ → ℕ → EReal) (r c : ℕ) (hr : r < n0) (hc : c < n1) :
    at2 (n0 := n0) (n1 := n1) (fun y => f (y 0).val (y 1).val) r c = f r c := by
  unfold at2
  rw [dif_pos ⟨hr, hc⟩]
  rfl

include hg hvr ht in
/-- The row statistics. -/
theorem k_vr (r l : ℕ) (hr : r < 256) (hl : l < 128) : pVr t b X1 R14 r l = rVr t g vr r := by
  unfold pVr vrRow rVr
  rw [ht, hvr r hr, at2_fun (fun r _ => rowSq X1 r) r l hr hl, div_7168]
  unfold rowSq
  rw [Finset.sum_congr rfl fun d hd => by rw [hg r d hr (Finset.mem_range.mp hd)]]

include hg hvc ht in
/-- The column statistics. -/
theorem k_vc (q d : ℕ) (hq : q < 8) (hd : d < 7168) : pVc t b X1 R19 q d = rVc t g vc d := by
  unfold pVc vcNew rVc
  rw [ht, hvc q d hq hd, div_256]
  unfold colSq
  rw [Finset.sum_congr rfl fun r hr => by rw [hg r d (Finset.mem_range.mp hr) hd]]

include hg hvr ht in
/-- The mean of the row statistics. -/
theorem k_mean (l : ℕ) (hl : l < 128) : meanRow (pVr t b X1 R14) l = rMean t g vr := by
  unfold meanRow rMean
  rw [sum_blocks 32 8 (fun r => pVr t b X1 R14 r l), div_256]
  refine congrArg (· * _) (Finset.sum_congr rfl fun r hr => ?_)
  exact k_vr t b X1 R14 g vr hg hvr ht r l (Finset.mem_range.mp hr) hl

include hg hvr ht in
/-- The row factor. -/
theorem k_fac (r l : ℕ) (hr : r < 256) (hl : l < 128) : at2 (pFac t b X1 R14) r l = Ideal.rsqrt (Ideal.div (rVr t g vr r) (rMean t g vr)) := by
  unfold pFac
  rw [at2_fun (fun r l => Ideal.rsqrt (Ideal.div (pVr t b X1 R14 r l) (meanRow (pVr t b X1 R14) l))) r l hr hl]
  rw [k_vr t b X1 R14 g vr hg hvr ht r l hr hl, k_mean t b X1 R14 g vr hg hvr ht l hl]

include hg hvc ht in
/-- The column factor. -/
theorem k_col (q d : ℕ) (hq : q < 8) (hd : d < 7168) : at2 (pCol t b X1 R19) q d = Ideal.rsqrt (rVc t g vc d) := by
  unfold pCol
  rw [at2_fun (fun q d => Ideal.rsqrt (pVc t b X1 R19 q d)) q d hq hd, k_vc t b X1 R19 g vc hg hvc ht q d hq hd]

include hg hvr hvc ht in
/-- The sum of squares of the update. -/
theorem k_accU (z : Fin 16) (x : Fin 128) : pAccU t b X1 R14 R19 (ix2 z x)
    = ∑ k ∈ Finset.range 16, ∑ c ∈ Finset.range 56, rU t g vr vc (16 * k + z.val) (128 * c + x.val) * rU t g vr vc (16 * k + z.val) (128 * c + x.val) := by
  unfold pAccU
  refine Finset.sum_congr rfl fun k hk => ?_
  have hk' := Finset.mem_range.mp hk
  show uTerm X1 (pFac t b X1 R14) (pCol t b X1 R19) k z.val x.val = _
  unfold uTerm
  rw [sum_mul_nonneg _ _ (fun c => sq_nonneg' _)]
  refine Finset.sum_congr rfl fun c hc => ?_
  have hc' := Finset.mem_range.mp hc
  have hz := z.isLt
  have hx := x.isLt
  rw [hg _ _ (by omega) (by omega), k_fac t b X1 R14 g vr hg hvr ht _ _ (by omega) hx, k_col t b X1 R19 g vc hg hvc ht _ _ (by omega) (by omega)]
  unfold rU
  rw [mul_mul_mul_comm, mul_right_comm (g _ _)]

include hg hvr hvc ht in
/-- The update's root mean square. -/
theorem k_rmsU : rmsOf (pAccU t b X1 R14 R19) = rRms (rU t g vr vc) := by
  unfold rmsOf rRms
  rw [div_SD, ← sum_all (fun r d => rU t g vr vc r d * rU t g vr vc r d)]
  simp only [k_accU t b X1 R14 R19 g vr vc hg hvr hvc ht]

include hw in
/-- The weights' root mean square. -/
theorem k_rmsW : rmsOf (pAccW X0) = rRms w := by
  unfold rmsOf rRms
  rw [div_SD, ← sum_all (fun r d => w r d * w r d)]
  refine congrArg (fun q : EReal => Ideal.sqrt (q * invSD)) (Finset.sum_congr rfl fun x _ => Finset.sum_congr rfl fun z _ => ?_)
  show (∑ k ∈ Finset.range 16, wTerm X0 k z.val x.val) = _
  refine Finset.sum_congr rfl fun k hk => ?_
  unfold wTerm
  refine Finset.sum_congr rfl fun c hc => ?_
  have hk' := Finset.mem_range.mp hk
  have hc' := Finset.mem_range.mp hc
  have hz := z.isLt
  have hx := x.isLt
  rw [hw _ _ (by omega) (by omega)]

theorem max_one_ne (z : EReal) : max 1 z ≠ 0 := by
  have : (0 : EReal) < max 1 z := lt_of_lt_of_le zero_lt_one (le_max_left _ _)
  exact ne_of_gt this

include hg hm hs hvr hvc ht in
/-- The momentum. -/
theorem k_mom (r c l : ℕ) (hr : r < 256) (hc : c < 56) (hl : l < 128) :
    momVal X4 X5 (pFac t b X1 R14) (pUpd t b X1 R19) (pGain t b X1 R14 R19) r c l = rMom t g m s vr vc r (128 * c + l) := by
  unfold momVal rMom pGain pUpd
  rw [at2_fun (fun r d => at3 X1 0 r d * at2 (pCol t b X1 R19) (r % 8) d) r (128 * c + l) hr (by omega)]
  rw [k_rmsU t b X1 R14 R19 g vr vc hg hvr hvc ht, bits_one, hg r _ hr (by omega), hm r _ hr (by omega), hs r c hr hc,
    k_fac t b X1 R14 g vr hg hvr ht r l hr hl, k_col t b X1 R19 g vc hg hvc ht _ _ (by omega) (by omega), show (128 * c + l) / 128 = c by omega]
  unfold Ideal.div
  rw [if_neg (max_one_ne _), if_neg (max_one_ne _)]
  unfold rU Ideal.div
  refine congrArg₂ (· + ·) ?_ ?_
  · rw [← mul_assoc, mul_comm]
  · ac_rfl

include hg hm hs hvr hvc ht in
/-- The blocks' scaled magnitudes. -/
theorem k_top (r c : ℕ) (hr : r < 256) (hc : c < 56) :
    topVal X4 X5 (pFac t b X1 R14) (pUpd t b X1 R19) (pGain t b X1 R14 R19) r c = rTop (rMom t g m s vr vc) r c := by
  unfold topVal rTop
  refine congrArg (fun f : Fin 128 → EReal => Finset.fold max (Ideal.ofBits .f32 4286578688#32) f Finset.univ * Ideal.ofBits .f32 991054117#32) (funext fun l => ?_)
  rw [k_mom t b X1 X4 X5 R14 R19 g m s vr vc hg hm hs hvr hvc ht r c l.val hr hc l.isLt]

include hg hm hs hvr hvc ht in
/-- The blocks' exponents. -/
theorem k_exp (r c : ℕ) (hr : r < 256) (hc : c < 56) : pExp t b X1 X4 X5 R14 R19 r c = rExp (rTop (rMom t g m s vr vc) r c) := by
  unfold pExp expVal rExp
  rw [k_top t b X1 X4 X5 R14 R19 g m s vr vc hg hm hs hvr hvc ht r c hr hc]

include hg hm hs hvr hvc ht in
/-- The codes. -/
theorem k_code (r d : ℕ) (hr : r < 256) (hd : d < 7168) : pCode t b X1 X4 X5 R14 R19 r d = rCode (rMom t g m s vr vc) r d := by
  unfold pCode codeVal rCode
  have e := k_exp t b X1 X4 X5 R14 R19 g m s vr vc hg hm hs hvr hvc ht r (d / 128) hr (by omega)
  unfold pExp at e
  rw [e, k_mom t b X1 X4 X5 R14 R19 g m s vr vc hg hm hs hvr hvc ht r (d / 128) (d % 128) hr (by omega) (by omega), show 128 * (d / 128) + d % 128 = d by omega]

include hw hg hm hs hvr hvc ht in
/-- The weight change. -/
theorem k_dw (r d : ℕ) (hr : r < 256) (hd : d < 7168) : pDw t b X0 X1 X4 X5 R14 R19 r d = rDw t w (rMom t g m s vr vc) r d := by
  unfold pDw rDw pStep
  rw [k_code t b X1 X4 X5 R14 R19 g m s vr vc hg hm hs hvr hvc ht r d hr hd, k_exp t b X1 X4 X5 R14 R19 g m s vr vc hg hm hs hvr hvc ht r (d / 128) hr (by omega), k_rmsW X0 w hw]
  rw [← mul_assoc, mul_comm]

end

end Cert.Val
-- ==== Proof.KernelIdealValue.Final.lean ====
/- The kernel's six results, as the reference's arithmetic on its arguments. -/
module

public import proofs.«01_k».proof.Proof.KernelIdealValue.Out
public import proofs.«01_k».proof.Proof.KernelIdealValue.Bridge
@[expose] public section

set_option maxRecDepth 16384
set_option maxHeartbeats 400000

noncomputable section

namespace Cert.Val

open Idealize.ShloMosaic Idealize.ShloMosaic.TcCoe Idealize.ShloMosaic.Tactic
open Cert.KernelIdeal Cert.KernelIdeal.Gen Cert.KernelIdeal.Body

variable (m : (l : Loc nD τ sig) → Buf (Elt Ideal) l)

/-- A batch's block holds the batch. -/
theorem at3_block {n0 n1 n2 : ℕ} (X : (⟨3, ![n0, n1, n2]⟩ : Shape).Idx → EReal) (a : ℕ) (r d : ℕ) (hr : r < n1) (hd : d < n2) :
    at3 (n0 := 1) (n1 := n1) (n2 := n2) (fun y => at3 X a (y 1).val (y 2).val) 0 r d = at3 X a r d := by
  unfold at3
  rw [dif_pos ⟨Nat.zero_lt_one, hr, hd⟩]
  rfl

/-- The masked sum picks the batch's old row statistic. -/
theorem oldRow_eq (hO : Ok m) (b r : ℕ) (hb : b < 12) (hr : r < 256) : oldRow (P14 m hO) b r = at2 (W2 m) b r := by
  unfold oldRow
  rw [Finset.sum_eq_single (⟨b, by omega⟩ : Fin 128)]
  · rw [sel_same _ _ rfl]
    unfold P14 pad14
    rw [at2_fun (fun r c => if c < 12 then at2 (A2 m hO) c r else 0) r b hr (by omega), if_pos hb, A2_eq]
  · intro x _ hx
    exact sel_other x.val b x.isLt (by omega) (fun h => hx (Fin.ext h)) _ _
  · intro h
    exact absurd (Finset.mem_univ _) h

/-- The repeated old column statistics. -/
theorem rep_eq (hO : Ok m) (b q d : ℕ) (hb : b < 12) (hq : q < 8) (hd : d < 7168) : at3 (P19 m hO) b q d = at2 (W3 m) b d := by
  unfold P19 rep19
  rw [A3_eq]
  unfold at3
  rw [dif_pos ⟨hb, hq, hd⟩]
  rfl

/-- A batch's step count, as a number. -/
def tOf (b : Fin 12) : EReal := (((W6 m (ixB b.val b.isLt)).toInt : ℝ) : EReal)

/-- A batch's new momentum. -/
def momOf (b : Fin 12) : ℕ → ℕ → EReal :=
  rMom (tOf m b) (at3 (W1 m) b.val) (at3 (W4 m) b.val) (at3 (W5 m) b.val) (at2 (W2 m) b.val) (at2 (W3 m) b.val)

section
variable (hO : Ok m) (b : Fin 12)

theorem St_tOf : St m b.val = tOf m b := St_eq m b.val b.isLt

theorem B0_at (r d : ℕ) (hr : r < 256) (hd : d < 7168) : at3 (B0 m hO b.val) 0 r d = at3 (W0 m) b.val r d := by
  rw [B0_eq m hO b.val b.isLt]; exact at3_block _ _ r d hr hd
theorem B1_at (r d : ℕ) (hr : r < 256) (hd : d < 7168) : at3 (B1 m hO b.val) 0 r d = at3 (W1 m) b.val r d := by
  rw [B1_eq m hO b.val b.isLt]; exact at3_block _ _ r d hr hd
theorem B4_at (r d : ℕ) (hr : r < 256) (hd : d < 7168) : at3 (B4 m hO b.val) 0 r d = at3 (W4 m) b.val r d := by
  rw [B4_eq m hO b.val b.isLt]; exact at3_block _ _ r d hr hd
theorem B5_at (r d : ℕ) (hr : r < 256) (hd : d < 56) : at3 (B5 m hO b.val) 0 r d = at3 (W5 m) b.val r d := by
  rw [B5_eq m hO b.val b.isLt]; exact at3_block _ _ r d hr hd

variable (hn : 1 ≤ (W6 m (ixB b.val b.isLt)).toInt)
include hn

/-- The new row statistics. -/
theorem O8_at (r : Fin 256) : O8 m hO (ix2 b r) = rVr (tOf m b) (at3 (W1 m) b.val) (at2 (W2 m) b.val) r.val := by
  show pVr (St m b.val) b.val (B1 m hO b.val) (P14 m hO) r.val b.val = _
  rw [St_tOf]
  exact k_vr _ _ _ _ _ _ (B1_at m hO b) (fun r hr => oldRow_eq m hO b.val r b.isLt hr) (beta_eq _ hn) r.val b.val r.isLt (by omega)

/-- The new column statistics. -/
theorem O9_at (d : Fin 7168) : O9 m hO (ix2 b d) = rVc (tOf m b) (at3 (W1 m) b.val) (at2 (W3 m) b.val) d.val := by
  show pVc (St m b.val) b.val (B1 m hO b.val) (P19 m hO) 0 d.val = _
  rw [St_tOf]
  exact k_vc _ _ _ _ _ _ (B1_at m hO b) (fun q d hq hd => rep_eq m hO b.val q d b.isLt hq hd) (beta_eq _ hn) 0 d.val (by omega) d.isLt

/-- The weight change. -/
theorem O7_at (r : Fin 256) (d : Fin 7168) : O7 m hO (ix3 b r d) = rDw (tOf m b) (at3 (W0 m) b.val) (momOf m b) r.val d.val := by
  show pDw (St m b.val) b.val (B0 m hO b.val) (B1 m hO b.val) (B4 m hO b.val) (B5 m hO b.val) (P14 m hO) (P19 m hO) r.val d.val = _
  rw [St_tOf]
  exact k_dw _ _ _ _ _ _ _ _ _ _ _ _ _ _ (B0_at m hO b) (B1_at m hO b) (B4_at m hO b) (B5_at m hO b) (fun r hr => oldRow_eq m hO b.val r b.isLt hr)
    (fun q d hq hd => rep_eq m hO b.val q d b.isLt hq hd) (beta_eq _ hn) r.val d.val r.isLt d.isLt

/-- The new weights. -/
theorem O6_at (r : Fin 256) (d : Fin 7168) : O6 m hO (ix3 b r d) = at3 (W0 m) b.val r.val d.val + rDw (tOf m b) (at3 (W0 m) b.val) (momOf m b) r.val d.val := by
  show at3 (B0 m hO b.val) 0 r.val d.val + O7 m hO (ix3 b r d) = _
  rw [O7_at m hO b hn r d, B0_at m hO b _ _ r.isLt d.isLt]

/-- The new codes. -/
theorem O10_at (r : Fin 256) (d : Fin 7168) : O10 m hO (ix3 b r d) = rCode (momOf m b) r.val d.val := by
  show pCode (St m b.val) b.val (B1 m hO b.val) (B4 m hO b.val) (B5 m hO b.val) (P14 m hO) (P19 m hO) r.val d.val = _
  rw [St_tOf]
  exact k_code _ _ _ _ _ _ _ _ _ _ _ _ (B1_at m hO b) (B4_at m hO b) (B5_at m hO b) (fun r hr => oldRow_eq m hO b.val r b.isLt hr)
    (fun q d hq hd => rep_eq m hO b.val q d b.isLt hq hd) (beta_eq _ hn) r.val d.val r.isLt d.isLt

/-- The new scales. -/
theorem O11_at (r : Fin 256) (c : Fin 56) : O11 m hO (ix3 b r c) = Ideal.exp2 (rExp (rTop (momOf m b) r.val c.val)) := by
  show Ideal.exp2 (pExp (St m b.val) b.val (B1 m hO b.val) (B4 m hO b.val) (B5 m hO b.val) (P14 m hO) (P19 m hO) r.val c.val) = _
  rw [St_tOf]
  exact congrArg Ideal.exp2 (k_exp _ _ _ _ _ _ _ _ _ _ _ _ (B1_at m hO b) (B4_at m hO b) (B5_at m hO b) (fun r hr => oldRow_eq m hO b.val r b.isLt hr)
    (fun q d hq hd => rep_eq m hO b.val q d b.isLt hq hd) (beta_eq _ hn) r.val c.val r.isLt c.isLt)

end

end Cert.Val
-- ==== Proof.RefRun.lean ====
/- What one run of the reference leaves in its result buffers, as functions of its arguments. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

theorem idx_inj10 : ∀ t t' : Fin cfg0.N, win0_10.index t = win0_10.index t' → t = t' :=
  (by decide +kernel : ∀ t t' : Fin grid0.N, win0_10.index t = win0_10.index t' → t = t')

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t)) := by
  show (cfg0.win 11).cut (grid0.coords t) ((dats m 0 c).after 11 t) = _
  rw [after0_11]

theorem idx_inj11 : ∀ t t' : Fin cfg0.N, win0_11.index t = win0_11.index t' → t = t' :=
  (by decide +kernel : ∀ t t' : Fin grid0.N, win0_11.index t = win0_11.index t' → t = t')

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t)) := by
  show (cfg0.win 12).cut (grid0.coords t) ((dats m 0 c).after 12 t) = _
  rw [after0_12]

theorem idx_inj12 : ∀ t t' : Fin cfg0.N, win0_12.index t = win0_12.index t' → t = t' :=
  (by decide +kernel : ∀ t t' : Fin grid0.N, win0_12.index t = win0_12.index t' → t = t')

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v0_4) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v0_5) = (dats m 0 c).arrAt 12 cfg0.N :=
  (h c).1 12

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 6).trans (((dats m 0 c).arrAt_in 6 rfl _).trans ((A_eq m c 6).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 0).trans (((dats m 0 c).arrAt_in 0 rfl _).trans ((A_eq m c 0).trans (V_main_arg6 m c)))

/-- Window 0's block index at the one point is zero on every axis. -/
theorem idx_zero0 : ∀ t : Fin cfg0.N, win0_0.index t (0 : Fin 1) = 0 :=
  (by decide +kernel : ∀ t : Fin grid0.N, _)

/-- An index of window 0's block is the same index of its array. -/
theorem emb0 (t : Fin cfg0.N) (j : S12.Idx) : ((cfg0.win 0).blk t).view.emb j = j := by
  have e0 := idx_zero0 t
  funext a; apply Fin.ext
  match a with
  | ⟨0, _⟩ => show win0_0.index t (0 : Fin 1) * 12 + 1 * (j 0).val = (j 0).val; omega

/-- Input window 0's block at the point is its array as the region finds it. -/
theorem iblk0_eq (c : Dev nD) (t : Fin cfg0.N) : iblk m c 0 t = V m c main_arg6 := by
  funext j; show V m c main_arg6 (((cfg0.win 0).blk t).view.emb j) = V m c main_arg6 j; rw [emb0]

theorem hz1 : (![0, 0, 0] : Fin 3 → Nat) = fun _ => 0 := funext fun a => by fin_cases a <;> rfl

theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (j : S12x256x7168.Idx) : ((cfg0.win 1).blk t).view.emb j = j := by
  obtain ⟨e0, e1, e2⟩ := idx_zero1 t
  funext a; apply Fin.ext
  match a with
  | ⟨0, _⟩ => show win0_1.index t (0 : Fin 3) * 12 + 1 * (j 0).val = (j 0).val; omega
  | ⟨1, _⟩ => show win0_1.index t (1 : Fin 3) * 256 + 1 * (j 1).val = (j 1).val; omega
  | ⟨2, _⟩ => show win0_1.index t (2 : Fin 3) * 7168 + 1 * (j 2).val = (j 2).val; omega

theorem iblk1_eq (c : Dev nD) (t : Fin cfg0.N) : iblk m c 1 t = V m c main_arg0 := by
  funext j; show V m c main_arg0 (((cfg0.win 1).blk t).view.emb j) = V m c main_arg0 j; rw [emb1]

theorem hz2 : (![0, 0, 0] : Fin 3 → Nat) = fun _ => 0 := funext fun a => by fin_cases a <;> rfl

theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (j : S12x256x7168.Idx) : ((cfg0.win 2).blk t).view.emb j = j := by
  obtain ⟨e0, e1, e2⟩ := idx_zero2 t
  funext a; apply Fin.ext
  match a with
  | ⟨0, _⟩ => show win0_2.index t (0 : Fin 3) * 12 + 1 * (j 0).val = (j 0).val; omega
  | ⟨1, _⟩ => show win0_2.index t (1 : Fin 3) * 256 + 1 * (j 1).val = (j 1).val; omega
  | ⟨2, _⟩ => show win0_2.index t (2 : Fin 3) * 7168 + 1 * (j 2).val = (j 2).val; omega

theorem iblk2_eq (c : Dev nD) (t : Fin cfg0.N) : iblk m c 2 t = V m c main_arg1 := by
  funext j; show V m c main_arg1 (((cfg0.win 2).blk t).view.emb j) = V m c main_arg1 j; rw [emb2]

theorem hz3 : (![0, 0] : Fin 2 → Nat) = fun _ => 0 := funext fun a => by fin_cases a <;> rfl

theorem idx_zero3 : ∀ t : Fin cfg0.N, win0_3.index t (0 : Fin 2) = 0 ∧ win0_3.index t (1 : Fin 2) = 0 :=
  (by decide +kernel : ∀ t : Fin grid0.N, _)

theorem emb3 (t : Fin cfg0.N) (j : S12x256.Idx) : ((cfg0.win 3).blk t).view.emb j = j := by
  obtain ⟨e0, e1⟩ := idx_zero3 t
  funext a; apply Fin.ext
  match a with
  | ⟨0, _⟩ => show win0_3.index t (0 : Fin 2) * 12 + 1 * (j 0).val = (j 0).val; omega
  | ⟨1, _⟩ => show win0_3.index t (1 : Fin 2) * 256 + 1 * (j 1).val = (j 1).val; omega

theorem iblk3_eq (c : Dev nD) (t : Fin cfg0.N) : iblk m c 3 t = V m c main_arg2 := by
  funext j; show V m c main_arg2 (((cfg0.win 3).blk t).view.emb j) = V m c main_arg2 j; rw [emb3]

theorem hz4 : (![0, 0] : Fin 2 → Nat) = fun _ => 0 := funext fun a => by fin_cases a <;> rfl

theorem idx_zero4 : ∀ t : Fin cfg0.N, win0_4.index t (0 : Fin 2) = 0 ∧ win0_4.index t (1 : Fin 2) = 0 :=
  (by decide +kernel : ∀ t : Fin grid0.N, _)

theorem emb4 (t : Fin cfg0.N) (j : S12x7168.Idx) : ((cfg0.win 4).blk t).view.emb j = j := by
  obtain ⟨e0, e1⟩ := idx_zero4 t
  funext a; apply Fin.ext
  match a with
  | ⟨0, _⟩ => show win0_4.index t (0 : Fin 2) * 12 + 1 * (j 0).val = (j 0).val; omega
  | ⟨1, _⟩ => show win0_4.index t (1 : Fin 2) * 7168 + 1 * (j 1).val = (j 1).val; omega

theorem iblk4_eq (c : Dev nD) (t : Fin cfg0.N) : iblk m c 4 t = V m c main_arg3 := by
  funext j; show V m c main_arg3 (((cfg0.win 4).blk t).view.emb j) = V m c main_arg3 j; rw [emb4]

theorem hz5 : (![0, 0, 0] : Fin 3 → Nat) = fun _ => 0 := funext fun a => by fin_cases a <;> rfl

theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

theorem emb5 (t : Fin cfg0.N) (j : S12x256x7168.Idx) : ((cfg0.win 5).blk t).view.emb j = j := by
  obtain ⟨e0, e1, e2⟩ := idx_zero5 t
  funext a; apply Fin.ext
  match a with
  | ⟨0, _⟩ => show win0_5.index t (0 : Fin 3) * 12 + 1 * (j 0).val = (j 0).val; omega
  | ⟨1, _⟩ => show win0_5.index t (1 : Fin 3) * 256 + 1 * (j 1).val = (j 1).val; omega
  | ⟨2, _⟩ => show win0_5.index t (2 : Fin 3) * 7168 + 1 * (j 2).val = (j 2).val; omega

theorem iblk5_eq (c : Dev nD) (t : Fin cfg0.N) : iblk m c 5 t = V m c main_arg4 := by
  funext j; show V m c main_arg4 (((cfg0.win 5).blk t).view.emb j) = V m c main_arg4 j; rw [emb5]

theorem hz6 : (![0, 0, 0] : Fin 3 → Nat) = fun _ => 0 := funext fun a => by fin_cases a <;> rfl

theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (j : S12x256x56.Idx) : ((cfg0.win 6).blk t).view.emb j = j := by
  obtain ⟨e0, e1, e2⟩ := idx_zero6 t
  funext a; apply Fin.ext
  match a with
  | ⟨0, _⟩ => show win0_6.index t (0 : Fin 3) * 12 + 1 * (j 0).val = (j 0).val; omega
  | ⟨1, _⟩ => show win0_6.index t (1 : Fin 3) * 256 + 1 * (j 1).val = (j 1).val; omega
  | ⟨2, _⟩ => show win0_6.index t (2 : Fin 3) * 56 + 1 * (j 2).val = (j 2).val; omega

theorem iblk6_eq (c : Dev nD) (t : Fin cfg0.N) : iblk m c 6 t = V m c main_arg5 := by
  funext j; show V m c main_arg5 (((cfg0.win 6).blk t).view.emb j) = V m c main_arg5 j; rw [emb6]

theorem hz7 : (![0, 0, 0] : Fin 3 → Nat) = fun _ => 0 := funext fun a => by fin_cases a <;> rfl

theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

theorem emb7 (t : Fin cfg0.N) (j : S12x256x7168.Idx) : ((cfg0.win 7).blk t).view.emb j = j := by
  obtain ⟨e0, e1, e2⟩ := idx_zero7 t
  funext a; apply Fin.ext
  match a with
  | ⟨0, _⟩ => show win0_7.index t (0 : Fin 3) * 12 + 1 * (j 0).val = (j 0).val; omega
  | ⟨1, _⟩ => show win0_7.index t (1 : Fin 3) * 256 + 1 * (j 1).val = (j 1).val; omega
  | ⟨2, _⟩ => show win0_7.index t (2 : Fin 3) * 7168 + 1 * (j 2).val = (j 2).val; omega

theorem hz8 : (![0, 0, 0] : Fin 3 → Nat) = fun _ => 0 := funext fun a => by fin_cases a <;> rfl

theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

theorem emb8 (t : Fin cfg0.N) (j : S12x256x7168.Idx) : ((cfg0.win 8).blk t).view.emb j = j := by
  obtain ⟨e0, e1, e2⟩ := idx_zero8 t
  funext a; apply Fin.ext
  match a with
  | ⟨0, _⟩ => show win0_8.index t (0 : Fin 3) * 12 + 1 * (j 0).val = (j 0).val; omega
  | ⟨1, _⟩ => show win0_8.index t (1 : Fin 3) * 256 + 1 * (j 1).val = (j 1).val; omega
  | ⟨2, _⟩ => show win0_8.index t (2 : Fin 3) * 7168 + 1 * (j 2).val = (j 2).val; omega

theorem hz9 : (![0, 0] : Fin 2 → Nat) = fun _ => 0 := funext fun a => by fin_cases a <;> rfl

theorem idx_zero9 : ∀ t : Fin cfg0.N, win0_9.index t (0 : Fin 2) = 0 ∧ win0_9.index t (1 : Fin 2) = 0 :=
  (by decide +kernel : ∀ t : Fin grid0.N, _)

theorem emb9 (t : Fin cfg0.N) (j : S12x256.Idx) : ((cfg0.win 9).blk t).view.emb j = j := by
  obtain ⟨e0, e1⟩ := idx_zero9 t
  funext a; apply Fin.ext
  match a with
  | ⟨0, _⟩ => show win0_9.index t (0 : Fin 2) * 12 + 1 * (j 0).val = (j 0).val; omega
  | ⟨1, _⟩ => show win0_9.index t (1 : Fin 2) * 256 + 1 * (j 1).val = (j 1).val; omega

theorem hz10 : (![0, 0] : Fin 2 → Nat) = fun _ => 0 := funext fun a => by fin_cases a <;> rfl

theorem idx_zero10 : ∀ t : Fin cfg0.N, win0_10.index t (0 : Fin 2) = 0 ∧ win0_10.index t (1 : Fin 2) = 0 :=
  (by decide +kernel : ∀ t : Fin grid0.N, _)

theorem emb10 (t : Fin cfg0.N) (j : S12x7168.Idx) : ((cfg0.win 10).blk t).view.emb j = j := by
  obtain ⟨e0, e1⟩ := idx_zero10 t
  funext a; apply Fin.ext
  match a with
  | ⟨0, _⟩ => show win0_10.index t (0 : Fin 2) * 12 + 1 * (j 0).val = (j 0).val; omega
  | ⟨1, _⟩ => show win0_10.index t (1 : Fin 2) * 7168 + 1 * (j 1).val = (j 1).val; omega

theorem hz11 : (![0, 0, 0] : Fin 3 → Nat) = fun _ => 0 := funext fun a => by fin_cases a <;> rfl

theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb11 (t : Fin cfg0.N) (j : S12x256x7168.Idx) : ((cfg0.win 11).blk t).view.emb j = j := by
  obtain ⟨e0, e1, e2⟩ := idx_zero11 t
  funext a; apply Fin.ext
  match a with
  | ⟨0, _⟩ => show win0_11.index t (0 : Fin 3) * 12 + 1 * (j 0).val = (j 0).val; omega
  | ⟨1, _⟩ => show win0_11.index t (1 : Fin 3) * 256 + 1 * (j 1).val = (j 1).val; omega
  | ⟨2, _⟩ => show win0_11.index t (2 : Fin 3) * 7168 + 1 * (j 2).val = (j 2).val; omega

theorem hz12 : (![0, 0, 0] : Fin 3 → Nat) = fun _ => 0 := funext fun a => by fin_cases a <;> rfl

theorem idx_zero12 : ∀ t : Fin cfg0.N, win0_12.index t (0 : Fin 3) = 0 ∧ win0_12.index t (1 : Fin 3) = 0 ∧ win0_12.index t (2 : Fin 3) = 0 :=
  (by decide +kernel : ∀ t : Fin grid0.N, _)

theorem emb12 (t : Fin cfg0.N) (j : S12x256x56.Idx) : ((cfg0.win 12).blk t).view.emb j = j := by
  obtain ⟨e0, e1, e2⟩ := idx_zero12 t
  funext a; apply Fin.ext
  match a with
  | ⟨0, _⟩ => show win0_12.index t (0 : Fin 3) * 12 + 1 * (j 0).val = (j 0).val; omega
  | ⟨1, _⟩ => show win0_12.index t (1 : Fin 3) * 256 + 1 * (j 1).val = (j 1).val; omega
  | ⟨2, _⟩ => show win0_12.index t (2 : Fin 3) * 56 + 1 * (j 2).val = (j 2).val; omega

/-! ### Output window 7: the array after the run -/

/-- What the window's array ends holding: `out0_7` applied to the argument arrays in place of the input blocks (a value that the
    frame states apart, `kK_payN a…`, keeps its loads inside its own definition). -/
abbrev G7 (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : Vec F S12x256x7168 .bf16 :=
  k0_pay16 (k0_pay17 a0 a1 a2 a3 a4 a5 a6) (k0_pay18 a0 a1 a2 a3 a4 a5 a6) (k0_pay22 a0 a1 a2 a3 a4 a5 a6) (k0_pay23 a0 a1 a2 a3 a4 a5 a6)

/-- The one store through the whole rectangle leaves its payload. -/
theorem out7_eq (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : out0_7 (F := F) a0 a1 a2 a3 a4 a5 a6 = G7 a0 a1 a2 a3 a4 a5 a6 := by
  unfold out0_7
  rw [View.canon_unit_zero hz7]

/-- Cutting the point's block out of `X` and reading `X` through the block's view give the same. -/
theorem cut7_eq (t : Fin cfg0.N) (X : Vec F S12x256x7168 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg6) (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S12x256x7168.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg6) (V m c main_arg0) (V m c main_arg1) (V m c main_arg2) (V m c main_arg3) (V m c main_arg4) (V m c main_arg5)) (fun t _ => flushed7_eq m c t) covered7).trans (by rw [V_main_arg6, V_main_arg0, V_main_arg1, V_main_arg2, V_main_arg3, V_main_arg4, V_main_arg5])

/-! ### Output window 8: the array after the run -/

abbrev G8 (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : Vec F S12x256x7168 .bf16 :=
  k0_pay1 (k0_pay15 (k0_pay17 a0 a1 a2 a3 a4 a5 a6) (k0_pay18 a0 a1 a2 a3 a4 a5 a6) (k0_pay22 a0 a1 a2 a3 a4 a5 a6) (k0_pay23 a0 a1 a2 a3 a4 a5 a6))

theorem out8_eq (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : out0_8 (F := F) a0 a1 a2 a3 a4 a5 a6 = G8 a0 a1 a2 a3 a4 a5 a6 := by
  unfold out0_8
  rw [View.canon_unit_zero hz8]

theorem cut8_eq (t : Fin cfg0.N) (X : Vec F S12x256x7168 .bf16) :
    (cfg0.win 8).cut (grid0.coords t) X = ((cfg0.win 8).blk t).view.read (Elt F) X := by
  funext j
  show X j = X (((cfg0.win 8).blk t).view.emb j)
  rw [emb8]

theorem flushed8_eq (c : Dev nD) (t : Fin cfg0.N) :
    (dats m 0 c).flushed 8 t = ((cfg0.win 8).blk t).view.read (Elt F) (G8 (V m c main_arg6) (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

theorem covered8 (i : S12x256x7168.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

theorem final8 (c : Dev nD) : (dats m 0 c).arrAt 8 cfg0.N = G8 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg6) (V m c main_arg0) (V m c main_arg1) (V m c main_arg2) (V m c main_arg3) (V m c main_arg4) (V m c main_arg5)) (fun t _ => flushed8_eq m c t) covered8).trans (by rw [V_main_arg6, V_main_arg0, V_main_arg1, V_main_arg2, V_main_arg3, V_main_arg4, V_main_arg5])

/-! ### Output window 9: the array after the run -/

abbrev G9 (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : Vec F S12x256 .f32 :=
  k0_pay20 a0 a1 a2 a3 a4 a5 a6

theorem out9_eq (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : out0_9 (F := F) a0 a1 a2 a3 a4 a5 a6 = G9 a0 a1 a2 a3 a4 a5 a6 := by
  unfold out0_9
  rw [View.canon_unit_zero hz9]

theorem cut9_eq (t : Fin cfg0.N) (X : Vec F S12x256 .f32) :
    (cfg0.win 9).cut (grid0.coords t) X = ((cfg0.win 9).blk t).view.read (Elt F) X := by
  funext j
  show X j = X (((cfg0.win 9).blk t).view.emb j)
  rw [emb9]

theorem flushed9_eq (c : Dev nD) (t : Fin cfg0.N) :
    (dats m 0 c).flushed 9 t = ((cfg0.win 9).blk t).view.read (Elt F) (G9 (V m c main_arg6) (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

theorem covered9 (i : S12x256.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

theorem final9 (c : Dev nD) : (dats m 0 c).arrAt 9 cfg0.N = G9 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg6) (V m c main_arg0) (V m c main_arg1) (V m c main_arg2) (V m c main_arg3) (V m c main_arg4) (V m c main_arg5)) (fun t _ => flushed9_eq m c t) covered9).trans (by rw [V_main_arg6, V_main_arg0, V_main_arg1, V_main_arg2, V_main_arg3, V_main_arg4, V_main_arg5])

/-! ### Output window 10: the array after the run -/

abbrev G10 (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : Vec F S12x7168 .f32 :=
  k0_pay21 a0 a1 a2 a3 a4 a5 a6

theorem out10_eq (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : out0_10 (F := F) a0 a1 a2 a3 a4 a5 a6 = G10 a0 a1 a2 a3 a4 a5 a6 := by
  unfold out0_10
  rw [View.canon_unit_zero hz10]

theorem cut10_eq (t : Fin cfg0.N) (X : Vec F S12x7168 .f32) :
    (cfg0.win 10).cut (grid0.coords t) X = ((cfg0.win 10).blk t).view.read (Elt F) X := by
  funext j
  show X j = X (((cfg0.win 10).blk t).view.emb j)
  rw [emb10]

theorem flushed10_eq (c : Dev nD) (t : Fin cfg0.N) :
    (dats m 0 c).flushed 10 t = ((cfg0.win 10).blk t).view.read (Elt F) (G10 (V m c main_arg6) (V m c main_arg0) (V m c main_arg1) (V m c main_arg2) (V m c main_arg3) (V m c main_arg4) (V m c main_arg5)) := by
  show (cfg0.win 10).cut (grid0.coords t) ((dats m 0 c).after 10 t) = _
  rw [after0_10, out10_eq, iblk0_eq, iblk1_eq, iblk2_eq, iblk3_eq, iblk4_eq, iblk5_eq, iblk6_eq]
  exact cut10_eq t _

theorem covered10 (i : S12x7168.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

theorem final10 (c : Dev nD) : (dats m 0 c).arrAt 10 cfg0.N = G10 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 10 (G10 (V m c main_arg6) (V m c main_arg0) (V m c main_arg1) (V m c main_arg2) (V m c main_arg3) (V m c main_arg4) (V m c main_arg5)) (fun t _ => flushed10_eq m c t) covered10).trans (by rw [V_main_arg6, V_main_arg0, V_main_arg1, V_main_arg2, V_main_arg3, V_main_arg4, V_main_arg5])

/-! ### Output window 11: the array after the run -/

abbrev G11 (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : Vec F S12x256x7168 .fp8e4m3 :=
  k0_pay14 (k0_pay22 a0 a1 a2 a3 a4 a5 a6) (k0_pay23 a0 a1 a2 a3 a4 a5 a6)

theorem out11_eq (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : out0_11 (F := F) a0 a1 a2 a3 a4 a5 a6 = G11 a0 a1 a2 a3 a4 a5 a6 := by
  unfold out0_11
  rw [View.canon_unit_zero hz11]

theorem cut11_eq (t : Fin cfg0.N) (X : Vec F S12x256x7168 .fp8e4m3) :
    (cfg0.win 11).cut (grid0.coords t) X = ((cfg0.win 11).blk t).view.read (Elt F) X := by
  funext j
  show X j = X (((cfg0.win 11).blk t).view.emb j)
  rw [emb11]

theorem flushed11_eq (c : Dev nD) (t : Fin cfg0.N) :
    (dats m 0 c).flushed 11 t = ((cfg0.win 11).blk t).view.read (Elt F) (G11 (V m c main_arg6) (V m c main_arg0) (V m c main_arg1) (V m c main_arg2) (V m c main_arg3) (V m c main_arg4) (V m c main_arg5)) := by
  show (cfg0.win 11).cut (grid0.coords t) ((dats m 0 c).after 11 t) = _
  rw [after0_11, out11_eq, iblk0_eq, iblk1_eq, iblk2_eq, iblk3_eq, iblk4_eq, iblk5_eq, iblk6_eq]
  exact cut11_eq t _

theorem covered11 (i : S12x256x7168.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

theorem final11 (c : Dev nD) : (dats m 0 c).arrAt 11 cfg0.N = G11 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 11 (G11 (V m c main_arg6) (V m c main_arg0) (V m c main_arg1) (V m c main_arg2) (V m c main_arg3) (V m c main_arg4) (V m c main_arg5)) (fun t _ => flushed11_eq m c t) covered11).trans (by rw [V_main_arg6, V_main_arg0, V_main_arg1, V_main_arg2, V_main_arg3, V_main_arg4, V_main_arg5])

/-! ### Output window 12: the array after the run -/

abbrev G12 (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : Vec F S12x256x56 .f32 :=
  k0_pay13 (k0_pay23 a0 a1 a2 a3 a4 a5 a6)

theorem out12_eq (a0 : Vec F S12 .i32) (a1 : Vec F S12x256x7168 .bf16) (a2 : Vec F S12x256x7168 .bf16) (a3 : Vec F S12x256 .f32) (a4 : Vec F S12x7168 .f32) (a5 : Vec F S12x256x7168 .fp8e4m3) (a6 : Vec F S12x256x56 .f32) : out0_12 (F := F) a0 a1 a2 a3 a4 a5 a6 = G12 a0 a1 a2 a3 a4 a5 a6 := by
  unfold out0_12
  rw [View.canon_unit_zero hz12]

theorem cut12_eq (t : Fin cfg0.N) (X : Vec F S12x256x56 .f32) :
    (cfg0.win 12).cut (grid0.coords t) X = ((cfg0.win 12).blk t).view.read (Elt F) X := by
  funext j
  show X j = X (((cfg0.win 12).blk t).view.emb j)
  rw [emb12]

theorem flushed12_eq (c : Dev nD) (t : Fin cfg0.N) :
    (dats m 0 c).flushed 12 t = ((cfg0.win 12).blk t).view.read (Elt F) (G12 (V m c main_arg6) (V m c main_arg0) (V m c main_arg1) (V m c main_arg2) (V m c main_arg3) (V m c main_arg4) (V m c main_arg5)) := by
  show (cfg0.win 12).cut (grid0.coords t) ((dats m 0 c).after 12 t) = _
  rw [after0_12, out12_eq, iblk0_eq, iblk1_eq, iblk2_eq, iblk3_eq, iblk4_eq, iblk5_eq, iblk6_eq]
  exact cut12_eq t _

theorem covered12 (i : S12x256x56.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

theorem final12 (c : Dev nD) : (dats m 0 c).arrAt 12 cfg0.N = G12 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 12 (G12 (V m c main_arg6) (V m c main_arg0) (V m c main_arg1) (V m c main_arg2) (V m c main_arg3) (V m c main_arg4) (V m c main_arg5)) (fun t _ => flushed12_eq m c t) covered12).trans (by rw [V_main_arg6, V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G8 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G9 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G10 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = G11 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_5) = G12 (m ((c : Thread nD τ).loc main_arg6)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      (post10 m r h c).trans (final10 m c),
      (post11 m r h c).trans (final11 m c),
      (post12 m r h c).trans (final12 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Run

end
-- ==== Proof.RefAt.lean ====
/- The reference's payloads, read at an index. -/
module

public import proofs.«01_k».proof.Proof.RefRun
public import proofs.«01_k».proof.Proof.KernelIdealValue.RefVal
@[expose] public section

set_option maxRecDepth 16384
set_option maxHeartbeats 200000

noncomputable section

namespace Cert.RefAt

open Idealize.ShloMosaic Idealize.ShloMosaic.TcCoe Idealize.ShloMosaic.Tactic
open Cert.ReferenceIdeal Cert.ReferenceIdeal.Gen Cert.Val

/-- The new row statistics at an index. -/
theorem p8 (v0 : Vec Ideal S12 .i32) (g : Vec Ideal S12x256x7168 .bf16) (vr : Vec Ideal S12x256 .f32) (y : S12x256.Idx) :
    k0_pay8 (F := Ideal) v0 g vr y = rVr (((v0 (ix1 (y 0))).toInt : ℝ) : EReal) (at3 g (y 0).val) (at2 vr (y 0).val) (y 1).val := by
  unfold rVr rBeta
  rw [Finset.sum_range, at2_eq vr y]
  simp only [at3_fin g (y 0) (y 1)]
  pointwise [k0_pay8, k0_pay3, k0_pay2, k0_pay6, k0_pay7]
  rfl

/-- The new column statistics at an index. -/
theorem p9 (v0 : Vec Ideal S12 .i32) (g : Vec Ideal S12x256x7168 .bf16) (vc : Vec Ideal S12x7168 .f32) (y : S12x7168.Idx) :
    k0_pay9 (F := Ideal) v0 g vc y = rVc (((v0 (ix1 (y 0))).toInt : ℝ) : EReal) (at3 g (y 0).val) (at2 vc (y 0).val) (y 1).val := by
  unfold rVc rBeta
  rw [Finset.sum_range, at2_eq vc y]
  simp only [fun x : Fin 256 => at3_fin g (y 0) x (y 1)]
  pointwise [k0_pay9, k0_pay3, k0_pay2, k0_pay6, k0_pay7]
  rfl

/-- The update over both statistics. -/
def upd (g : FVec Ideal S12x256x7168 .f32) (vr : FVec Ideal S12x256 .f32) (vc : FVec Ideal S12x7168 .f32) (a : Fin 12) (r : Fin 256) (d : Fin 7168) : EReal :=
  g (ix3 a r d) * Ideal.rsqrt (Ideal.div (vr (ix2 a r)) (Ideal.div (∑ x : Fin 256, vr (ix2 a x)) (Ideal.ofBits FTy.f32 1132462080#32))) * Ideal.rsqrt (vc (ix2 a d))

/-- The new momentum at an index. -/
theorem p10 (g : FVec Ideal S12x256x7168 .f32) (vr : FVec Ideal S12x256 .f32) (vc : FVec Ideal S12x7168 .f32) (c : Vec Ideal S12x256x7168 .fp8e4m3) (s : Vec Ideal S12x256x56 .f32) (a : Fin 12) (r : Fin 256) (d : Fin 7168) :
    k0_pay10 (F := Ideal) g vr vc c s (ix3 a r d) = Ideal.ofBits FTy.f32 1063675494#32 * (c (ix3 a r d) * at3 s a.val r.val (d.val / 128))
      + Ideal.ofBits FTy.f32 1036831949#32 * Ideal.div (upd g vr vc a r d)
          (max 1 (Ideal.div (Ideal.sqrt (Ideal.div (∑ x : Fin 256, ∑ z : Fin 7168, upd g vr vc a x z * upd g vr vc a x z) (Ideal.ofBits FTy.f32 1239416832#32))) 1)) := by
  rw [show at3 s a.val r.val (d.val / 128) = s (ix3 a r ⟨d.val / 128, by have := d.isLt; omega⟩) from at3_fin s a r ⟨d.val / 128, by have := d.isLt; omega⟩]
  unfold upd
  pointwise [k0_pay10]

/-- The exponents at an index. -/
theorem p12 (z : FVec Ideal S12x256x56 .f32) (y : S12x256x56.Idx) : k0_pay12 (F := Ideal) z y = rExp (z y) := by
  unfold rExp
  pointwise [k0_pay12]

/-- The codes at an index. -/
theorem p14 (x : FVec Ideal S12x256x7168 .f32) (z : FVec Ideal S12x256x56 .f32) (a : Fin 12) (r : Fin 256) (d : Fin 7168) :
    k0_pay14 (F := Ideal) x z (ix3 a r d) = min (Ideal.ofBits FTy.f32 1138753536#32) (max (Ideal.ofBits FTy.f32 3286237184#32)
      (x (ix3 a r d) * Ideal.exp2 (0 - rExp (at3 z a.val r.val (d.val / 128))))) := by
  rw [show at3 z a.val r.val (d.val / 128) = z (ix3 a r ⟨d.val / 128, by have := d.isLt; omega⟩) from at3_fin z a r ⟨d.val / 128, by have := d.isLt; omega⟩, ← p12]
  pointwise [k0_pay14]
  rfl

/-- The weight change at an index. -/
theorem p15 (rho : FVec Ideal S12 .f32) (w : FVec Ideal S12x256x7168 .f32) (x : FVec Ideal S12x256x7168 .f32) (z : FVec Ideal S12x256x56 .f32) (a : Fin 12) (r : Fin 256) (d : Fin 7168) :
    k0_pay15 (F := Ideal) rho w x z (ix3 a r d) = (0 - max (Ideal.ofBits FTy.f32 981668463#32) (Ideal.sqrt (Ideal.div (∑ r : Fin 256, ∑ d : Fin 7168, w (ix3 a r d) * w (ix3 a r d)) (Ideal.ofBits FTy.f32 1239416832#32))) * rho (ix1 a))
      * (k0_pay14 (F := Ideal) x z (ix3 a r d) * Ideal.exp2 (rExp (at3 z a.val r.val (d.val / 128)))) := by
  rw [show at3 z a.val r.val (d.val / 128) = z (ix3 a r ⟨d.val / 128, by have := d.isLt; omega⟩) from at3_fin z a r ⟨d.val / 128, by have := d.isLt; omega⟩, ← p12]
  pointwise [k0_pay15, k0_pay13]
  rfl

/-- The largest of a block of 128. -/
theorem maxLast (x : FVec Ideal S12x256x56x128 .f32) (y : S12x256x56.Idx) : multiReduction (F := Ideal) .maximumf [3] S12x256x56 x 0xFF800000#32 reduces_S12x256x56x128_S12x256x56 (.inl rfl) rfl y
   = Finset.fold max (Ideal.ofBits .f32 4286578688#32) (fun l : Fin 128 => x (ix4 (y 0) (y 1) (y 2) l)) Finset.univ := by
  refine (Ideal.multiReduction_maximumf_single (s := S12x256x56x128) (t := S12x256x56) (a := (3 : Fin 4)) x 0xFF800000#32 reduces_S12x256x56x128_S12x256x56 (.inl rfl) rfl y).trans ?_
  refine congrArg (fun f : Fin 128 → EReal => Finset.fold max (Ideal.ofBits .f32 4286578688#32) f Finset.univ) (funext fun l => ?_)
  show x _ = x _
  refine congrArg x (funext fun a => ?_)
  refine Fin.ext ((Shape.Reduces.lift_val _ _ _ _).trans ?_)
  unfold Shape.Reduces.liftVal
  match a with
  | ⟨0, _⟩ => rfl
  | ⟨1, _⟩ => rfl
  | ⟨2, _⟩ => rfl
  | ⟨3, _⟩ => rfl

/-- The blocks' magnitudes, as the element they are of. -/
theorem absAt (x : FVec Ideal S12x256x7168 .f32) (a : Fin 12) (r : Fin 256) (c : Fin 56) (l : Fin 128) :
    shapeCast S12x256x56x128 (absf (F := Ideal) x) shapeCasts_S12x256x7168_S12x256x56x128 (ix4 a r c l)
      = FloatOps.absf (F := Ideal) (φ := .f32) (at3 x a.val r.val (128 * c.val + l.val)) := by
  rw [show at3 x a.val r.val (128 * c.val + l.val) = x (ix3 a r ⟨128 * c.val + l.val, by have := c.isLt; have := l.isLt; omega⟩) from at3_fin x a r ⟨128 * c.val + l.val, by have := c.isLt; have := l.isLt; omega⟩]
  pointwise
  refine congrArg (fun z => FloatOps.absf (F := Ideal) (φ := .f32) (x z)) (congrArg (ix3 a r) (Fin.ext ?_))
  show c.val * 128 + l.val = 128 * c.val + l.val
  omega

theorem mulf_at {S : Shape} (a b : FVec Ideal S .f32) (y : S.Idx) : mulf (F := Ideal) a b y = (a y : EReal) * (b y : EReal) := rfl

/-- The scales' rule, of the new momentum. -/
def top (x : FVec Ideal S12x256x7168 .f32) : FVec Ideal S12x256x56 .f32 :=
  mulf (F := Ideal) (multiReduction (F := Ideal) .maximumf [3] S12x256x56 (shapeCast S12x256x56x128 (absf x) shapeCasts_S12x256x7168_S12x256x56x128) 0xFF800000#32 reduces_S12x256x56x128_S12x256x56 (.inl rfl) rfl) (broadcast S12x256x56 (Scalar.ofBits .f32 0x3B124925#32))

theorem top_at (x : FVec Ideal S12x256x7168 .f32) (y : S12x256x56.Idx) : top x y = rTop (at3 x (y 0).val) (y 1).val (y 2).val := by
  unfold top rTop
  rw [mulf_at, maxLast]
  refine congrArg (fun q : EReal => q * Ideal.ofBits .f32 991054117#32) ?_
  exact congrArg (fun f : Fin 128 → EReal => Finset.fold max (Ideal.ofBits .f32 4286578688#32) f Finset.univ) (funext fun l => absAt x (y 0) (y 1) (y 2) l)

theorem p11_top (g : FVec Ideal S12x256x7168 .f32) (vr : FVec Ideal S12x256 .f32) (vc : FVec Ideal S12x7168 .f32) (c : Vec Ideal S12x256x7168 .fp8e4m3) (s : Vec Ideal S12x256x56 .f32) :
    k0_pay11 (F := Ideal) g vr vc c s = top (k0_pay10 (F := Ideal) g vr vc c s) := by
  delta k0_pay11 top
  rfl

/-- The blocks' scaled magnitudes at an index. -/
theorem p11 (g : FVec Ideal S12x256x7168 .f32) (vr : FVec Ideal S12x256 .f32) (vc : FVec Ideal S12x7168 .f32) (c : Vec Ideal S12x256x7168 .fp8e4m3) (s : Vec Ideal S12x256x56 .f32) (y : S12x256x56.Idx) :
    k0_pay11 (F := Ideal) g vr vc c s y = rTop (at3 (k0_pay10 (F := Ideal) g vr vc c s) (y 0).val) (y 1).val (y 2).val := by
  rw [p11_top]
  exact top_at _ y

end Cert.RefAt
-- ==== Proof.RefFinal.lean ====
/- The reference's six results, as the step's arithmetic on one batch. -/
module

public import Idealize.ShloMosaic.Lib.VecWindow
public import proofs.«01_k».proof.Proof.RefAt
@[expose] public section

set_option maxRecDepth 16384
set_option maxHeartbeats 200000

noncomputable section

namespace Cert.RefAt

open Idealize.ShloMosaic Idealize.ShloMosaic.TcCoe Idealize.ShloMosaic.Tactic
open Cert.ReferenceIdeal Cert.ReferenceIdeal.Gen Cert.ReferenceIdeal.Run Cert.Val

theorem rTop_congr (x x' : ℕ → ℕ → EReal) (h : ∀ r d, r < 256 → d < 7168 → x r d = x' r d) (r c : ℕ) (hr : r < 256) (hc : c < 56) :
    rTop x r c = rTop x' r c := by
  unfold rTop
  refine congrArg (fun f : Fin 128 → EReal => Finset.fold max (Ideal.ofBits .f32 4286578688#32) f Finset.univ * Ideal.ofBits .f32 991054117#32) (funext fun l => ?_)
  rw [h r _ hr (by have := l.isLt; omega)]

variable (a0 : Vec Ideal S12 .i32) (a1 a2 : Vec Ideal S12x256x7168 .bf16) (a3 : Vec Ideal S12x256 .f32) (a4 : Vec Ideal S12x7168 .f32)
  (a5 : Vec Ideal S12x256x7168 .fp8e4m3) (a6 : Vec Ideal S12x256x56 .f32)

/-- A batch's step count, as a number. -/
def tR (b : Fin 12) : EReal := (((a0 (ix1 b)).toInt : ℝ) : EReal)

/-- A batch's new momentum. -/
def momR (b : Fin 12) : ℕ → ℕ → EReal := rMom (tR a0 b) (at3 a2 b.val) (at3 a5 b.val) (at3 a6 b.val) (at2 a3 b.val) (at2 a4 b.val)

theorem ld0 : View.ld (Val := Elt Ideal) (e' := .i32) a0 r0_0 = a0 :=
  funext fun y => congrArg a0 (Rect.emb_unit_full _ y)
theorem ld1 {e : EltTy} (x : Vec Ideal S12x256x7168 e) : View.ld (Val := Elt Ideal) (e' := e) x r0_1 = x :=
  funext fun y => congrArg x (Rect.emb_unit_full _ y)
theorem ld2 : View.ld (Val := Elt Ideal) (e' := .f32) a3 r0_2 = a3 :=
  funext fun y => congrArg a3 (Rect.emb_unit_full _ y)
theorem ld3 : View.ld (Val := Elt Ideal) (e' := .f32) a4 r0_3 = a4 :=
  funext fun y => congrArg a4 (Rect.emb_unit_full _ y)
theorem ld4 : View.ld (Val := Elt Ideal) (e' := .f32) a6 r0_4 = a6 :=
  funext fun y => congrArg a6 (Rect.emb_unit_full _ y)

/-- The new row statistics. -/
theorem G9_at (b : Fin 12) (r : Fin 256) : G9 (F := Ideal) a0 a1 a2 a3 a4 a5 a6 (ix2 b r) = rVr (tR a0 b) (at3 a2 b.val) (at2 a3 b.val) r.val := by
  show k0_pay20 (F := Ideal) a0 a1 a2 a3 a4 a5 a6 (ix2 b r) = _
  unfold k0_pay20
  rw [ld0, ld1, ld2]
  exact p8 a0 a2 a3 (ix2 b r)

/-- The new column statistics. -/
theorem G10_at (b : Fin 12) (d : Fin 7168) : G10 (F := Ideal) a0 a1 a2 a3 a4 a5 a6 (ix2 b d) = rVc (tR a0 b) (at3 a2 b.val) (at2 a4 b.val) d.val := by
  show k0_pay21 (F := Ideal) a0 a1 a2 a3 a4 a5 a6 (ix2 b d) = _
  unfold k0_pay21
  rw [ld0, ld1, ld3]
  exact p9 a0 a2 a4 (ix2 b d)

/-- The gradient over both statistics. -/
theorem upd_at (b : Fin 12) (r : Fin 256) (d : Fin 7168) :
    upd (k0_pay19 (F := Ideal) a0 a1 a2 a3 a4 a5 a6) (k0_pay20 (F := Ideal) a0 a1 a2 a3 a4 a5 a6) (k0_pay21 (F := Ideal) a0 a1 a2 a3 a4 a5 a6) b r d
      = rU (tR a0 b) (at3 a2 b.val) (at2 a3 b.val) (at2 a4 b.val) r.val d.val := by
  unfold upd rU rMean
  rw [Finset.sum_range, at3_fin a2 b r d]
  have e9 : ∀ r : Fin 256, k0_pay20 (F := Ideal) a0 a1 a2 a3 a4 a5 a6 (ix2 b r) = rVr (tR a0 b) (at3 a2 b.val) (at2 a3 b.val) r.val := G9_at a0 a1 a2 a3 a4 a5 a6 b
  have e10 : ∀ d : Fin 7168, k0_pay21 (F := Ideal) a0 a1 a2 a3 a4 a5 a6 (ix2 b d) = rVc (tR a0 b) (at3 a2 b.val) (at2 a4 b.val) d.val := G10_at a0 a1 a2 a3 a4 a5 a6 b
  have e12 : k0_pay19 (F := Ideal) a0 a1 a2 a3 a4 a5 a6 (ix3 b r d) = a2 (ix3 b r d) := by
    unfold k0_pay19
    rw [ld1]
    rfl
  rw [e9 r, e10 d, e12, Finset.sum_congr rfl fun r _ => e9 r]

/-- The new momentum. -/
theorem mom_at (b : Fin 12) (r : Fin 256) (d : Fin 7168) : k0_pay22 (F := Ideal) a0 a1 a2 a3 a4 a5 a6 (ix3 b r d) = momR a0 a2 a3 a4 a5 a6 b r.val d.val := by
  unfold k0_pay22
  rw [ld1, ld4, p10]
  unfold momR rMom rRms
  rw [at3_fin a5 b r d, Finset.sum_range, upd_at]
  simp only [Finset.sum_range, upd_at]

theorem mom_at3 (b : Fin 12) (r d : ℕ) (hr : r < 256) (hd : d < 7168) : at3 (k0_pay22 (F := Ideal) a0 a1 a2 a3 a4 a5 a6) b.val r d = momR a0 a2 a3 a4 a5 a6 b r d := by
  rw [show at3 (k0_pay22 (F := Ideal) a0 a1 a2 a3 a4 a5 a6) b.val r d = k0_pay22 (F := Ideal) a0 a1 a2 a3 a4 a5 a6 (ix3 b ⟨r, hr⟩ ⟨d, hd⟩) from at3_fin _ b ⟨r, hr⟩ ⟨d, hd⟩]
  exact mom_at a0 a1 a2 a3 a4 a5 a6 b ⟨r, hr⟩ ⟨d, hd⟩

/-- The blocks' scaled magnitudes. -/
theorem top_at3 (b : Fin 12) (r c : ℕ) (hr : r < 256) (hc : c < 56) : at3 (k0_pay23 (F := Ideal) a0 a1 a2 a3 a4 a5 a6) b.val r c = rTop (momR a0 a2 a3 a4 a5 a6 b) r c := by
  have hx := mom_at3 a0 a1 a2 a3 a4 a5 a6 b
  rw [show at3 (k0_pay23 (F := Ideal) a0 a1 a2 a3 a4 a5 a6) b.val r c = k0_pay23 (F := Ideal) a0 a1 a2 a3 a4 a5 a6 (ix3 b ⟨r, hr⟩ ⟨c, hc⟩) from at3_fin _ b ⟨r, hr⟩ ⟨c, hc⟩]
  have e : k0_pay23 (F := Ideal) a0 a1 a2 a3 a4 a5 a6 = k0_pay11 (F := Ideal) (k0_pay19 a0 a1 a2 a3 a4 a5 a6) (k0_pay20 a0 a1 a2 a3 a4 a5 a6) (k0_pay21 a0 a1 a2 a3 a4 a5 a6) (View.ld a5 r0_1) (View.ld a6 r0_4) := by
    unfold k0_pay23
    rfl
  have e' : k0_pay10 (F := Ideal) (k0_pay19 a0 a1 a2 a3 a4 a5 a6) (k0_pay20 a0 a1 a2 a3 a4 a5 a6) (k0_pay21 a0 a1 a2 a3 a4 a5 a6) (View.ld a5 r0_1) (View.ld a6 r0_4) = k0_pay22 (F := Ideal) a0 a1 a2 a3 a4 a5 a6 := by
    unfold k0_pay22
    rfl
  rw [e, p11, e']
  generalize k0_pay22 (F := Ideal) a0 a1 a2 a3 a4 a5 a6 = x at e' hx ⊢
  exact rTop_congr _ _ hx r c hr hc

theorem p13 (z : Vec Ideal S12x256x56 .f32) (y : S12x256x56.Idx) : k0_pay13 (F := Ideal) z y = Ideal.exp2 (k0_pay12 (F := Ideal) z y) := by
  unfold k0_pay13
  generalize k0_pay12 (F := Ideal) z = x
  rfl

/-- The new scales. -/
theorem G12_at (b : Fin 12) (r : Fin 256) (c : Fin 56) : G12 (F := Ideal) a0 a1 a2 a3 a4 a5 a6 (ix3 b r c) = Ideal.exp2 (rExp (rTop (momR a0 a2 a3 a4 a5 a6 b) r.val c.val)) := by
  show k0_pay13 (F := Ideal) (k0_pay23 a0 a1 a2 a3 a4 a5 a6) (ix3 b r c) = _
  rw [p13, p12, ← top_at3 a0 a1 a2 a3 a4 a5 a6 b r.val c.val r.isLt c.isLt, at3_fin]

/-- The new codes. -/
theorem G11_at (b : Fin 12) (r : Fin 256) (d : Fin 7168) : G11 (F := Ideal) a0 a1 a2 a3 a4 a5 a6 (ix3 b r d) = rCode (momR a0 a2 a3 a4 a5 a6 b) r.val d.val := by
  show k0_pay14 (F := Ideal) (k0_pay22 a0 a1 a2 a3 a4 a5 a6) (k0_pay23 a0 a1 a2 a3 a4 a5 a6) (ix3 b r d) = _
  rw [p14, mom_at, top_at3 a0 a1 a2 a3 a4 a5 a6 b r.val (d.val / 128) r.isLt (by have := d.isLt; omega)]
  rfl

/-- The weight change. -/
theorem G8_at (b : Fin 12) (r : Fin 256) (d : Fin 7168) : G8 (F := Ideal) a0 a1 a2 a3 a4 a5 a6 (ix3 b r d) = rDw (tR a0 b) (at3 a1 b.val) (momR a0 a2 a3 a4 a5 a6 b) r.val d.val := by
  show k0_pay15 (F := Ideal) (k0_pay17 a0 a1 a2 a3 a4 a5 a6) (k0_pay18 a0 a1 a2 a3 a4 a5 a6) (k0_pay22 a0 a1 a2 a3 a4 a5 a6) (k0_pay23 a0 a1 a2 a3 a4 a5 a6) (ix3 b r d) = _
  rw [p15, top_at3 a0 a1 a2 a3 a4 a5 a6 b r.val (d.val / 128) r.isLt (by have := d.isLt; omega)]
  have e := G11_at a0 a1 a2 a3 a4 a5 a6 b r d
  have e' : k0_pay14 (F := Ideal) (k0_pay22 a0 a1 a2 a3 a4 a5 a6) (k0_pay23 a0 a1 a2 a3 a4 a5 a6) (ix3 b r d) = rCode (momR a0 a2 a3 a4 a5 a6 b) r.val d.val := e
  rw [e']
  unfold rDw rRms
  have e17 : k0_pay17 (F := Ideal) a0 a1 a2 a3 a4 a5 a6 (ix1 b) = min (Ideal.ofBits .f32 1008981770#32) (Ideal.rsqrt (tR a0 b)) := by
    unfold k0_pay17
    rw [ld0]
    rfl
  have e18 : ∀ (r : Fin 256) (d : Fin 7168), k0_pay18 (F := Ideal) a0 a1 a2 a3 a4 a5 a6 (ix3 b r d) = at3 a1 b.val r.val d.val := fun r d => by
    unfold k0_pay18
    rw [ld1, at3_fin]
    rfl
  rw [e17]
  simp only [Finset.sum_range, e18]

/-- The new weights. -/
theorem G7_at (b : Fin 12) (r : Fin 256) (d : Fin 7168) : G7 (F := Ideal) a0 a1 a2 a3 a4 a5 a6 (ix3 b r d) = at3 a1 b.val r.val d.val + rDw (tR a0 b) (at3 a1 b.val) (momR a0 a2 a3 a4 a5 a6 b) r.val d.val := by
  rw [← G8_at a0 a1 a2 a3 a4 a5 a6 b r d]
  show k0_pay18 (F := Ideal) a0 a1 a2 a3 a4 a5 a6 (ix3 b r d) + _ = _
  have e18 : k0_pay18 (F := Ideal) a0 a1 a2 a3 a4 a5 a6 (ix3 b r d) = at3 a1 b.val r.val d.val := by
    unfold k0_pay18
    rw [ld1, at3_fin]
    rfl
  rw [e18]
  rfl

end Cert.RefAt
-- ==== Proof.Algebraic.lean ====
/- The idealized kernel and the idealized reference leave the same six results. -/
module

public import proofs.«01_k».proof.Defs
public import proofs.«01_k».proof.Proof.KernelIdealValue.Final
public import proofs.«01_k».proof.Proof.RefFinal
@[expose] public section

set_option maxRecDepth 16384
set_option maxHeartbeats 400000

noncomputable section

namespace Cert.Alg

open Idealize.ShloMosaic Idealize.ShloMosaic.TcCoe Idealize.ShloMosaic.Tactic
open Cert.Val Cert.RefAt Cert.ReferenceIdeal.Run

/-- The shape condition the precondition's one broadcast takes. -/
instance preFacts : Cert.Pre_steps_positive.Facts := ⟨by decide⟩

/-- Two arrays of rank 3 agree when they agree at every triple of coordinates. -/
theorem ext3 {n0 n1 n2 : ℕ} {α : Type} {f g : (⟨3, ![n0, n1, n2]⟩ : Shape).Idx → α}
    (h : ∀ (b : Fin n0) (r : Fin n1) (d : Fin n2), f (ix3 b r d) = g (ix3 b r d)) : f = g := by
  funext y
  have e : y = ix3 (y 0) (y 1) (y 2) := funext fun a => match a with
    | ⟨0, _⟩ => rfl
    | ⟨1, _⟩ => rfl
    | ⟨2, _⟩ => rfl
  rw [e]
  exact h _ _ _

/-- Two arrays of rank 2 agree when they agree at every pair of coordinates. -/
theorem ext2 {n0 n1 : ℕ} {α : Type} {f g : (⟨2, ![n0, n1]⟩ : Shape).Idx → α}
    (h : ∀ (b : Fin n0) (r : Fin n1), f (ix2 b r) = g (ix2 b r)) : f = g := by
  funext y
  have e : y = ix2 (y 0) (y 1) := funext fun a => match a with
    | ⟨0, _⟩ => rfl
    | ⟨1, _⟩ => rfl
  rw [e]
  exact h _ _

section
variable (m : (l : Loc Cert.KernelIdeal.nD Cert.KernelIdeal.τ Cert.KernelIdeal.sig) → Buf (Elt Ideal) l)

/-- Where the precondition holds, every batch's step count is at least 1. -/
theorem step_pos (h : Cert.Pre_KernelIdeal_steps_positive m) (b : Fin 12) : 1 ≤ (W6 m (ixB b.val b.isLt)).toInt := by
  have h1 := congrFun (h 0) (ixB b.val b.isLt)
  by_contra hc
  have h2 : BitVec.sle 1#32 (W6 m (ixB b.val b.isLt)) = true := by
    have h3 : BitVec.ofBool (BitVec.sle 1#32 (W6 m (ixB b.val b.isLt))) = 1#1 := h1
    cases h4 : BitVec.sle 1#32 (W6 m (ixB b.val b.isLt)) with
    | true => rfl
    | false => rw [h4] at h3; exact absurd h3 (by decide)
  rw [BitVec.sle_iff_toInt_le] at h2
  exact hc h2

theorem tR_eq (b : Fin 12) : tR (W6 m) b = tOf m b := by
  unfold tR tOf
  rw [show (ix1 b : Cert.KernelIdeal.S12.Idx) = ixB b.val b.isLt from funext fun a => match a with | ⟨0, _⟩ => rfl]

theorem momR_eq (b : Fin 12) : momR (W6 m) (W1 m) (W2 m) (W3 m) (W4 m) (W5 m) b = momOf m b := by
  unfold momR momOf
  rw [tR_eq]

variable (hn : ∀ b : Fin 12, 1 ≤ (W6 m (ixB b.val b.isLt)).toInt)
include hn

/-- Result 1 of the reference on the kernel's arguments is the kernel's. -/
theorem eq7 : G7 (F := Ideal) (W6 m) (W0 m) (W1 m) (W2 m) (W3 m) (W4 m) (W5 m) = O6 m trivial := ext3 fun b r d => by
  refine (G7_at (W6 m) (W0 m) (W1 m) (W2 m) (W3 m) (W4 m) (W5 m) b r d).trans (Eq.trans ?_ (O6_at m trivial b (hn b) r d).symm)
  rw [tR_eq, momR_eq]

/-- Result 2 of the reference on the kernel's arguments is the kernel's. -/
theorem eq8 : G8 (F := Ideal) (W6 m) (W0 m) (W1 m) (W2 m) (W3 m) (W4 m) (W5 m) = O7 m trivial := ext3 fun b r d => by
  refine (G8_at (W6 m) (W0 m) (W1 m) (W2 m) (W3 m) (W4 m) (W5 m) b r d).trans (Eq.trans ?_ (O7_at m trivial b (hn b) r d).symm)
  rw [tR_eq, momR_eq]

/-- Result 3 of the reference on the kernel's arguments is the kernel's. -/
theorem eq9 : G9 (F := Ideal) (W6 m) (W0 m) (W1 m) (W2 m) (W3 m) (W4 m) (W5 m) = O8 m trivial := ext2 fun b r => by
  refine (G9_at (W6 m) (W0 m) (W1 m) (W2 m) (W3 m) (W4 m) (W5 m) b r).trans (Eq.trans ?_ (O8_at m trivial b (hn b) r).symm)
  rw [tR_eq]

/-- Result 4 of the reference on the kernel's arguments is the kernel's. -/
theorem eq10 : G10 (F := Ideal) (W6 m) (W0 m) (W1 m) (W2 m) (W3 m) (W4 m) (W5 m) = O9 m trivial := ext2 fun b r => by
  refine (G10_at (W6 m) (W0 m) (W1 m) (W2 m) (W3 m) (W4 m) (W5 m) b r).trans (Eq.trans ?_ (O9_at m trivial b (hn b) r).symm)
  rw [tR_eq]

/-- Result 5 of the reference on the kernel's arguments is the kernel's. -/
theorem eq11 : G11 (F := Ideal) (W6 m) (W0 m) (W1 m) (W2 m) (W3 m) (W4 m) (W5 m) = O10 m trivial := ext3 fun b r d => by
  refine (G11_at (W6 m) (W0 m) (W1 m) (W2 m) (W3 m) (W4 m) (W5 m) b r d).trans (Eq.trans ?_ (O10_at m trivial b (hn b) r d).symm)
  rw [momR_eq]

/-- Result 6 of the reference on the kernel's arguments is the kernel's. -/
theorem eq12 : G12 (F := Ideal) (W6 m) (W0 m) (W1 m) (W2 m) (W3 m) (W4 m) (W5 m) = O11 m trivial := ext3 fun b r d => by
  refine (G12_at (W6 m) (W0 m) (W1 m) (W2 m) (W3 m) (W4 m) (W5 m) b r d).trans (Eq.trans ?_ (O11_at m trivial b (hn b) r d).symm)
  rw [momR_eq]

end

/-- From memories that agree on the seven arguments, with every step count at least 1, the idealized kernel and the
    idealized reference both run to their ends, leave the same six results, and leave their arguments as they were. -/
theorem algebraic : Cert.algebraic_KernelIdeal_ReferenceIdeal_pre_steps_positive := by
  intro m g m' g' hpre hargs
  have hn := step_pos m hpre
  obtain ⟨h0, h1, h2, h3, h4, h5, h6⟩ := hargs 0
  refine ⟨fun _ => O6 m trivial, fun _ => O7 m trivial, fun _ => O8 m trivial, fun _ => O9 m trivial, fun _ => O10 m trivial,
    fun _ => O11 m trivial, vrun m g trivial, ?_⟩
  refine (θ_run _ _ _).mono (fun r h c => ?_) (Cert.ReferenceIdeal.Run.run m' g')
  obtain ⟨r0, r1, r2, r3, r4, r5, k⟩ := h c
  obtain rfl : c = 0 := Subsingleton.elim _ _
  rw [h0, h1, h2, h3, h4, h5, h6] at r0 r1 r2 r3 r4 r5
  exact ⟨r0.trans (eq7 m hn), r1.trans (eq8 m hn), r2.trans (eq9 m hn), r3.trans (eq10 m hn), r4.trans (eq11 m hn), r5.trans (eq12 m hn), k⟩

end Cert.Alg

end
-- ==== Proof.lean ====
module

public import proofs.«01_k».proof.Defs
public import proofs.«01_k».proof.Proof.KernelBody.Frame
public import proofs.«01_k».proof.Proof.KernelIdealBody.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Algebraic

@[expose] public section

noncomputable section

namespace Cert.Proof

open Idealize.ShloMosaic Idealize.SL.Sem

/-- The two constants the idealized kernel names, 1/7168 and 1/1835008, are each the stored float's exact meaning
    rounded: the rewrite that named them preserves what the program computes on floats. -/
theorem preserves : Cert.preserves_Kernel_KernelIdeal :=
  ⟨IdealRules.named_const.statement Cert.KernelIdeal.κ "inv_d" .f32 0x39124925#32 ((1 / 7168 : ℝ) : EReal) rfl,
   IdealRules.named_const.statement Cert.KernelIdeal.κ "inv_sd" .f32 0x35124925#32 ((1 / 1835008 : ℝ) : EReal) rfl⟩

/-- Every claim: the frames with and without the precondition, the constants' rewrites, and the six results' agreement. -/
theorem claim : Cert.Claim :=
  ⟨Cert.Kernel.Gen.facts, Cert.KernelIdeal.Gen.facts, Cert.ReferenceIdeal.Gen.facts, Cert.Alg.preFacts,
    fun m ρ _ => Cert.Kernel.Body.frame m ρ trivial,
    fun m ρ _ => Cert.KernelIdeal.Body.frame m ρ trivial,
    fun m ρ _ => Cert.KernelIdeal.Body.frame m ρ trivial,
    fun m ρ _ => Cert.ReferenceIdeal.Gen.frame m ρ,
    fun m ρ _ => Cert.ReferenceIdeal.Gen.frame m ρ,
    preserves,
    Cert.Alg.algebraic⟩

end Cert.Proof

end
